-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prompt_finite [hPre_prompt_finite : Cert.Pre_prompt_finite.Facts] (m : (ℓ : Loc Cert.KernelIdeal.nD Cert.KernelIdeal.τ Cert.KernelIdeal.sig) → Buf (Elt Ideal) ℓ) : Prop :=
  ∀ c : Dev Cert.KernelIdeal.nD,
    (Cert.Pre_prompt_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_prompt_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_prompt_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prompt_finite [hPre_prompt_finite : Cert.Pre_prompt_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prompt_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_prompt_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_prompt_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_prompt_finite [hKernelIdeal : Cert.KernelIdeal.Facts] [hPre_prompt_finite : Cert.Pre_prompt_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prompt_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_prompt_finite [hReferenceIdeal : Cert.ReferenceIdeal.Facts] [hPre_prompt_finite : Cert.Pre_prompt_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prompt_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def preserves_Kernel_KernelIdeal : Prop :=
  True

def algebraic_KernelIdeal_ReferenceIdeal_pre_prompt_finite [hKernelIdeal : Cert.KernelIdeal.Facts] [hReferenceIdeal : Cert.ReferenceIdeal.Facts] [hPre_prompt_finite : Cert.Pre_prompt_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prompt_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v102_0)) (v1 : (c : Dev Cert.KernelIdeal.nD) → Buf (Elt Ideal) ((c.tc : Thread Cert.KernelIdeal.nD Cert.KernelIdeal.τ).loc Cert.KernelIdeal.main_v102_1)) (v2 : (c : Dev Cert.KernelIdeal.nD) → Buf (Elt Ideal) ((c.tc : Thread Cert.KernelIdeal.nD Cert.KernelIdeal.τ).loc Cert.KernelIdeal.main_v102_2)) (v3 : (c : Dev Cert.KernelIdeal.nD) → Buf (Elt Ideal) ((c.tc : Thread Cert.KernelIdeal.nD Cert.KernelIdeal.τ).loc Cert.KernelIdeal.main_v102_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102_0) = v0 c
          ∧ r.2.mem ((c.tc : Thread Cert.KernelIdeal.nD Cert.KernelIdeal.τ).loc Cert.KernelIdeal.main_v102_1) = v1 c
          ∧ r.2.mem ((c.tc : Thread Cert.KernelIdeal.nD Cert.KernelIdeal.τ).loc Cert.KernelIdeal.main_v102_2) = v2 c
          ∧ r.2.mem ((c.tc : Thread Cert.KernelIdeal.nD Cert.KernelIdeal.τ).loc Cert.KernelIdeal.main_v102_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_v180) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  IdealRules.named_const.Statement Cert.FfnIdeal.κ "neg_log2e" .f32 0xBFB8AA3B#32 ((-((Real.log 2)⁻¹) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_v55) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Tail_TailIdeal : Prop :=
  IdealRules.named_const.Statement Cert.TailIdeal.κ "neg_log2e" .f32 0xBFB8AA3B#32 ((-((Real.log 2)⁻¹) : ℝ) : EReal)

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v5_0)) (v1 : (c : Dev Cert.TailIdeal.nD) → Buf (Elt Ideal) ((c.tc : Thread Cert.TailIdeal.nD Cert.TailIdeal.τ).loc Cert.TailIdeal.main_v5_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5_0) = v0 c
          ∧ r.2.mem ((c.tc : Thread Cert.TailIdeal.nD Cert.TailIdeal.τ).loc Cert.TailIdeal.main_v5_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v45) = v0 c
          ∧ r.2.mem ((c.tc : Thread Cert.TailRefIdeal.nD Cert.TailRefIdeal.τ).loc Cert.TailRefIdeal.main_v91) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_Mix_MixIdeal : Prop :=
  IdealRules.named_const.Statement Cert.MixIdeal.κ "neg_log2e" .f32 0xBFB8AA3B#32 ((-((Real.log 2)⁻¹) : ℝ) : EReal)

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v4_0)) (v1 : (c : Dev Cert.MixIdeal.nD) → Buf (Elt Ideal) ((c.tc : Thread Cert.MixIdeal.nD Cert.MixIdeal.τ).loc Cert.MixIdeal.main_v4_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4_0) = v0 c
          ∧ r.2.mem ((c.tc : Thread Cert.MixIdeal.nD Cert.MixIdeal.τ).loc Cert.MixIdeal.main_v4_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v34) = v0 c
          ∧ r.2.mem ((c.tc : Thread Cert.MixRefIdeal.nD Cert.MixRefIdeal.τ).loc Cert.MixRefIdeal.main_v69) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Mid_MidIdeal : Prop :=
  IdealRules.named_const.Statement Cert.MidIdeal.κ "neg_log2e" .f32 0xBFB8AA3B#32 ((-((Real.log 2)⁻¹) : ℝ) : EReal)

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v4_0)) (v1 : (c : Dev Cert.MidIdeal.nD) → Buf (Elt Ideal) ((c.tc : Thread Cert.MidIdeal.nD Cert.MidIdeal.τ).loc Cert.MidIdeal.main_v4_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v4_0) = v0 c
          ∧ r.2.mem ((c.tc : Thread Cert.MidIdeal.nD Cert.MidIdeal.τ).loc Cert.MidIdeal.main_v4_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v32) = v0 c
          ∧ r.2.mem ((c.tc : Thread Cert.MidRefIdeal.nD Cert.MidRefIdeal.τ).loc Cert.MidRefIdeal.main_v65) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hTail : Cert.Tail.Facts) (hTailIdeal : Cert.TailIdeal.Facts) (hTailRefIdeal : Cert.TailRefIdeal.Facts) (hMix : Cert.Mix.Facts) (hMixIdeal : Cert.MixIdeal.Facts) (hMixRefIdeal : Cert.MixRefIdeal.Facts) (hMid : Cert.Mid.Facts) (hMidIdeal : Cert.MidIdeal.Facts) (hMidRefIdeal : Cert.MidRefIdeal.Facts) (hPre_prompt_finite : Cert.Pre_prompt_finite.Facts),
    quiescent_Kernel (hKernel := hKernel)
    ∧ quiescent_KernelIdeal (hKernelIdeal := hKernelIdeal)
    ∧ quiescent_KernelIdeal_pre_prompt_finite (hKernelIdeal := hKernelIdeal) (hPre_prompt_finite := hPre_prompt_finite)
    ∧ quiescent_ReferenceIdeal (hReferenceIdeal := hReferenceIdeal)
    ∧ quiescent_ReferenceIdeal_pre_prompt_finite (hReferenceIdeal := hReferenceIdeal) (hPre_prompt_finite := hPre_prompt_finite)
    ∧ quiescent_Ffn (hFfn := hFfn)
    ∧ quiescent_FfnIdeal (hFfnIdeal := hFfnIdeal)
    ∧ quiescent_FfnRefIdeal (hFfnRefIdeal := hFfnRefIdeal)
    ∧ quiescent_Tail (hTail := hTail)
    ∧ quiescent_TailIdeal (hTailIdeal := hTailIdeal)
    ∧ quiescent_TailRefIdeal (hTailRefIdeal := hTailRefIdeal)
    ∧ quiescent_Mix (hMix := hMix)
    ∧ quiescent_MixIdeal (hMixIdeal := hMixIdeal)
    ∧ quiescent_MixRefIdeal (hMixRefIdeal := hMixRefIdeal)
    ∧ quiescent_Mid (hMid := hMid)
    ∧ quiescent_MidIdeal (hMidIdeal := hMidIdeal)
    ∧ quiescent_MidRefIdeal (hMidRefIdeal := hMidRefIdeal)
    ∧ preserves_Kernel_KernelIdeal
    ∧ algebraic_KernelIdeal_ReferenceIdeal_pre_prompt_finite (hKernelIdeal := hKernelIdeal) (hReferenceIdeal := hReferenceIdeal) (hPre_prompt_finite := hPre_prompt_finite)
    ∧ preserves_Ffn_FfnIdeal
    ∧ algebraic_FfnIdeal_FfnRefIdeal (hFfnIdeal := hFfnIdeal) (hFfnRefIdeal := hFfnRefIdeal)
    ∧ preserves_Tail_TailIdeal
    ∧ algebraic_TailIdeal_TailRefIdeal (hTailIdeal := hTailIdeal) (hTailRefIdeal := hTailRefIdeal)
    ∧ preserves_Mix_MixIdeal
    ∧ algebraic_MixIdeal_MixRefIdeal (hMixIdeal := hMixIdeal) (hMixRefIdeal := hMixRefIdeal)
    ∧ preserves_Mid_MidIdeal
    ∧ algebraic_MidIdeal_MidRefIdeal (hMidIdeal := hMidIdeal) (hMidRefIdeal := hMidRefIdeal)
-- ==== Pre_prompt_finite.lean ====
abbrev S16384x1024 : Shape := ⟨2, ![16384, 1024]⟩
abbrev S16384x2048 : Shape := ⟨2, ![16384, 2048]⟩
abbrev S512x1024 : Shape := ⟨2, ![512, 1024]⟩
abbrev S512x2048 : Shape := ⟨2, ![512, 2048]⟩
abbrev S2x4x512 : Shape := ⟨3, ![2, 4, 512]⟩
abbrev S2x128x4x256x512 : Shape := ⟨5, ![2, 128, 4, 256, 512]⟩
abbrev S2x8x4x256x512 : Shape := ⟨5, ![2, 8, 4, 256, 512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S16384x2048 : S_.BroadcastsInDim S16384x2048 (![] : Fin 0 → Fin S16384x2048.rank)

variable [Facts]

def fn {F : FTy → Type} [FloatOps F] (main_arg0 : FVec F S16384x1024 .bf16) (main_arg1 : FVec F S16384x1024 .bf16) (main_arg2 : FVec F S16384x2048 .bf16) (main_arg3 : FVec F S512x1024 .bf16) (main_arg4 : FVec F S512x1024 .bf16) (main_arg5 : FVec F S512x2048 .bf16) (main_arg6 : FVec F S2x4x512 .f32) (main_arg7 : FVec F S2x128x4x256x512 .f32) (main_arg8 : FVec F S2x8x4x256x512 .f32) (main_arg9 : FVec F S2x128x4x256x512 .f32) : IVec S16384x1024 1 × IVec S16384x1024 1 × IVec S16384x2048 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : FVec F S16384x2048 .f32 := (extf .f32 · bitsLt_bf16_f32) main_arg2
  let main_v9 : FVec F S16384x2048 .f32 := Host.absf main_v8
  let main_cst_1 : FVec F S_ .f32 := constant S_ .f32 0x7F800000#32
  let main_v10 : FVec F S16384x2048 .f32 := broadcastInDim S16384x2048 ![] bcast_S_S16384x2048 main_cst_1
  let main_v11 : IVec S16384x2048 1 := cmpf .olt main_v9 main_v10
  (main_v3, main_v7, main_v11)
-- ==== Kernel.lean ====
abbrev S16384x1024 : Shape := ⟨2, ![16384, 1024]⟩
abbrev S16384x2048 : Shape := ⟨2, ![16384, 2048]⟩
abbrev S512x1024 : Shape := ⟨2, ![512, 1024]⟩
abbrev S512x2048 : Shape := ⟨2, ![512, 2048]⟩
abbrev S2x4x512 : Shape := ⟨3, ![2, 4, 512]⟩
abbrev S2x128x4x256x512 : Shape := ⟨5, ![2, 128, 4, 256, 512]⟩
abbrev S2x8x4x256x512 : Shape := ⟨5, ![2, 8, 4, 256, 512]⟩
abbrev S64x64 : Shape := ⟨2, ![64, 64]⟩
abbrev S2x4x1x512 : Shape := ⟨4, ![2, 4, 1, 512]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1x4 : Shape := ⟨2, ![1, 4]⟩
abbrev S4x4 : Shape := ⟨2, ![4, 4]⟩
abbrev S1x4x4 : Shape := ⟨3, ![1, 4, 4]⟩
abbrev S4x4x4 : Shape := ⟨3, ![4, 4, 4]⟩
abbrev S1x64x64 : Shape := ⟨3, ![1, 64, 64]⟩
abbrev S1x4x1x4x1x4 : Shape := ⟨6, ![1, 4, 1, 4, 1, 4]⟩
abbrev S1x4x16x4x16x4 : Shape := ⟨6, ![1, 4, 16, 4, 16, 4]⟩
abbrev S4x64x64 : Shape := ⟨3, ![4, 64, 64]⟩
abbrev S1x4x1x4 : Shape := ⟨4, ![1, 4, 1, 4]⟩
abbrev S1x4x16x4 : Shape := ⟨4, ![1, 4, 16, 4]⟩
abbrev S4x64 : Shape := ⟨2, ![4, 64]⟩
abbrev S4x64x1 : Shape := ⟨3, ![4, 64, 1]⟩
abbrev S1024x512 : Shape := ⟨2, ![1024, 512]⟩
abbrev S1024x1024 : Shape := ⟨2, ![1024, 1024]⟩
abbrev S1x2x1x512 : Shape := ⟨4, ![1, 2, 1, 512]⟩
abbrev S2x256x256 : Shape := ⟨3, ![2, 256, 256]⟩
abbrev S2x256x1 : Shape := ⟨3, ![2, 256, 1]⟩
abbrev S64x256 : Shape := ⟨2, ![64, 256]⟩
abbrev S64x512 : Shape := ⟨2, ![64, 512]⟩
abbrev S1x1x1x512 : Shape := ⟨4, ![1, 1, 1, 512]⟩
abbrev S1x64x1 : Shape := ⟨3, ![1, 64, 1]⟩
abbrev S1x16x1x256x512 : Shape := ⟨5, ![1, 16, 1, 256, 512]⟩
abbrev S1x1x2x256x512 : Shape := ⟨5, ![1, 1, 2, 256, 512]⟩
abbrev S64x1 : Shape := ⟨2, ![64, 1]⟩
abbrev S1 : Shape := ⟨1, ![1]⟩
abbrev S1x1x1x256x512 : Shape := ⟨5, ![1, 1, 1, 256, 512]⟩
abbrev S256x512 : Shape := ⟨2, ![256, 512]⟩
abbrev S1x512 : Shape := ⟨2, ![1, 512]⟩
abbrev S64 : Shape := ⟨1, ![64]⟩
abbrev S1x256x1 : Shape := ⟨3, ![1, 256, 1]⟩

abbrev nBuf : Space → Nat
  | .hbm => 143
  | .vmem => 38
  | .smem => 2
  | _ => 0

abbrev hbmTy0_0 (i : Nat) : BufTy := match i % 128 with
  | 0 => ⟨S16384x1024, .bf16⟩
  | 1 => ⟨S16384x1024, .bf16⟩
  | 2 => ⟨S16384x2048, .bf16⟩
  | 3 => ⟨S512x1024, .bf16⟩
  | 4 => ⟨S512x1024, .bf16⟩
  | 5 => ⟨S512x2048, .bf16⟩
  | 6 => ⟨S2x4x512, .f32⟩
  | 7 => ⟨S2x128x4x256x512, .f32⟩
  | 8 => ⟨S2x8x4x256x512, .f32⟩
  | 9 => ⟨S2x128x4x256x512, .f32⟩
  | 10 => ⟨S64x64, .i1⟩
  | 11 => ⟨S2x4x1x512, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S256, .f32⟩
  | 24 => ⟨S256x1, .f32⟩
  | 25 => ⟨S1x256, .f32⟩
  | 26 => ⟨S256x256, .f32⟩
  | 27 => ⟨S256x256, .f32⟩
  | 28 => ⟨S256x256, .f32⟩
  | 29 => ⟨S4x1x1, .f32⟩
  | 30 => ⟨S1x256x256, .f32⟩
  | 31 => ⟨S_, .f32⟩
  | 32 => ⟨S1x256x256, .f32⟩
  | 33 => ⟨S1x256x256, .i1⟩
  | 34 => ⟨S1x256x256, .f32⟩
  | 35 => ⟨S4x256x256, .f32⟩
  | 36 => ⟨S4x256x256, .f32⟩
  | 37 => ⟨S4x256x256, .f32⟩
  | 38 => ⟨S4x256x256, .f32⟩
  | 39 => ⟨S_, .f32⟩
  | 40 => ⟨S_, .f32⟩
  | 41 => ⟨S4x256x256, .i1⟩
  | 42 => ⟨S4x256x256, .f32⟩
  | 43 => ⟨S4x256x256, .f32⟩
  | 44 => ⟨S1x256, .f32⟩
  | 45 => ⟨S_, .f32⟩
  | 46 => ⟨S1x256, .f32⟩
  | 47 => ⟨S1x256, .f32⟩
  | 48 => ⟨S4x1, .f32⟩
  | 49 => ⟨S4x256, .f32⟩
  | 50 => ⟨S4x256, .f32⟩
  | 51 => ⟨S4x256, .f32⟩
  | 52 => ⟨S4x256, .f32⟩
  | 53 => ⟨S1x256, .f32⟩
  | 54 => ⟨S_, .f32⟩
  | 55 => ⟨S1x256, .f32⟩
  | 56 => ⟨S1x256, .f32⟩
  | 57 => ⟨S4x1, .f32⟩
  | 58 => ⟨S4x256, .f32⟩
  | 59 => ⟨S4x256, .f32⟩
  | 60 => ⟨S4x256, .f32⟩
  | 61 => ⟨S4x256, .f32⟩
  | 62 => ⟨S_, .f32⟩
  | 63 => ⟨S4, .f32⟩
  | 64 => ⟨S4, .f32⟩
  | 65 => ⟨S4, .f32⟩
  | 66 => ⟨S4x256x1, .f32⟩
  | 67 => ⟨S4x256x1, .f32⟩
  | 68 => ⟨S4, .f32⟩
  | 69 => ⟨S_, .f32⟩
  | 70 => ⟨S4, .f32⟩
  | 71 => ⟨S4, .f32⟩
  | 72 => ⟨S_, .f32⟩
  | 73 => ⟨S4, .f32⟩
  | 74 => ⟨S4, .f32⟩
  | 75 => ⟨S_, .f32⟩
  | 76 => ⟨S4, .f32⟩
  | 77 => ⟨S4, .f32⟩
  | 78 => ⟨S4, .f32⟩
  | 79 => ⟨S4, .f32⟩
  | 80 => ⟨S4x1, .f32⟩
  | 81 => ⟨S1x4, .f32⟩
  | 82 => ⟨S4x4, .f32⟩
  | 83 => ⟨S4x4, .f32⟩
  | 84 => ⟨S4x4, .f32⟩
  | 85 => ⟨S4x1x1, .f32⟩
  | 86 => ⟨S1x4x4, .f32⟩
  | 87 => ⟨S_, .f32⟩
  | 88 => ⟨S1x4x4, .f32⟩
  | 89 => ⟨S1x4x4, .i1⟩
  | 90 => ⟨S1x4x4, .f32⟩
  | 91 => ⟨S4x4x4, .f32⟩
  | 92 => ⟨S4x4x4, .f32⟩
  | 93 => ⟨S4x4x4, .f32⟩
  | 94 => ⟨S4x4x4, .f32⟩
  | 95 => ⟨S_, .f32⟩
  | 96 => ⟨S_, .f32⟩
  | 97 => ⟨S4x4x4, .i1⟩
  | 98 => ⟨S4x4x4, .f32⟩
  | 99 => ⟨S4x4x4, .f32⟩
  | 100 => ⟨S1x4, .f32⟩
  | 101 => ⟨S_, .f32⟩
  | 102 => ⟨S1x4, .f32⟩
  | 103 => ⟨S1x4, .f32⟩
  | 104 => ⟨S4x1, .f32⟩
  | 105 => ⟨S4x4, .f32⟩
  | 106 => ⟨S4x4, .f32⟩
  | 107 => ⟨S4x4, .f32⟩
  | 108 => ⟨S4x4, .f32⟩
  | 109 => ⟨S1x4, .f32⟩
  | 110 => ⟨S_, .f32⟩
  | 111 => ⟨S1x4, .f32⟩
  | 112 => ⟨S1x4, .f32⟩
  | 113 => ⟨S4x1, .f32⟩
  | 114 => ⟨S4x4, .f32⟩
  | 115 => ⟨S4x4, .f32⟩
  | 116 => ⟨S4x4, .f32⟩
  | 117 => ⟨S4x4, .f32⟩
  | 118 => ⟨S_, .f32⟩
  | 119 => ⟨S4, .f32⟩
  | 120 => ⟨S4, .f32⟩
  | 121 => ⟨S4, .f32⟩
  | 122 => ⟨S1x64x64, .i1⟩
  | 123 => ⟨S1x4x1x4x1x4, .f32⟩
  | 124 => ⟨S1x4x16x4x16x4, .f32⟩
  | 125 => ⟨S4x64x64, .f32⟩
  | 126 => ⟨S_, .f32⟩
  | 127 => ⟨S_, .f32⟩
  | _ => ⟨S16384x1024, .bf16⟩

abbrev hbmTy0_1 (i : Nat) : BufTy := match i % 128 with
  | 0 => ⟨S4x64x64, .i1⟩
  | 1 => ⟨S4x64x64, .f32⟩
  | 2 => ⟨S4x64x64, .f32⟩
  | 3 => ⟨S1x4x1x4, .f32⟩
  | 4 => ⟨S1x4x16x4, .f32⟩
  | 5 => ⟨S4x64, .f32⟩
  | 6 => ⟨S4x64x1, .f32⟩
  | 7 => ⟨S1x4x1x4, .f32⟩
  | 8 => ⟨S1x4x16x4, .f32⟩
  | 9 => ⟨S4x64, .f32⟩
  | 10 => ⟨S4x64x1, .f32⟩
  | 11 => ⟨S16384x2048, .bf16⟩
  | 12 => ⟨S2x8x4x256x512, .f32⟩
  | 13 => ⟨S512x2048, .bf16⟩
  | 14 => ⟨S2x128x4x256x512, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1x2x1x512, .f32⟩
  | .local _ .vmem, ⟨7, _⟩ => ⟨S1x2x1x512, .f32⟩
  | .local _ .vmem, ⟨8, _⟩ => ⟨S2x256x256, .f32⟩
  | .local _ .vmem, ⟨9, _⟩ => ⟨S2x256x256, .f32⟩
  | .local _ .vmem, ⟨10, _⟩ => ⟨S2x256x1, .f32⟩
  | .local _ .vmem, ⟨11, _⟩ => ⟨S2x256x1, .f32⟩
  | .local _ .vmem, ⟨12, _⟩ => ⟨S2x256x1, .f32⟩
  | .local _ .vmem, ⟨13, _⟩ => ⟨S2x256x1, .f32⟩
  | .local _ .vmem, ⟨14, _⟩ => ⟨S64x256, .bf16⟩
  | .local _ .vmem, ⟨15, _⟩ => ⟨S64x256, .bf16⟩
  | .local _ .vmem, ⟨16, _⟩ => ⟨S64x256, .bf16⟩
  | .local _ .vmem, ⟨17, _⟩ => ⟨S64x256, .bf16⟩
  | .local _ .vmem, ⟨18, _⟩ => ⟨S64x512, .bf16⟩
  | .local _ .vmem, ⟨19, _⟩ => ⟨S64x512, .bf16⟩
  | .local _ .vmem, ⟨20, _⟩ => ⟨S1x1x1x512, .f32⟩
  | .local _ .vmem, ⟨21, _⟩ => ⟨S1x1x1x512, .f32⟩
  | .local _ .vmem, ⟨22, _⟩ => ⟨S1x64x64, .f32⟩
  | .local _ .vmem, ⟨23, _⟩ => ⟨S1x64x64, .f32⟩
  | .local _ .vmem, ⟨24, _⟩ => ⟨S1x64x1, .f32⟩
  | .local _ .vmem, ⟨25, _⟩ => ⟨S1x64x1, .f32⟩
  | .local _ .vmem, ⟨26, _⟩ => ⟨S1x64x1, .f32⟩
  | .local _ .vmem, ⟨27, _⟩ => ⟨S1x64x1, .f32⟩
  | .local _ .vmem, ⟨28, _⟩ => ⟨S1x16x1x256x512, .f32⟩
  | .local _ .vmem, ⟨29, _⟩ => ⟨S1x16x1x256x512, .f32⟩
  | .local _ .vmem, ⟨30, _⟩ => ⟨S1024x1024, .bf16⟩
  | .local _ .vmem, ⟨31, _⟩ => ⟨S1024x1024, .bf16⟩
  | .local _ .vmem, ⟨32, _⟩ => ⟨S1x1x2x256x512, .f32⟩
  | .local _ .vmem, ⟨33, _⟩ => ⟨S1x1x2x256x512, .f32⟩
  | .local _ .vmem, ⟨34, _⟩ => ⟨S64x512, .bf16⟩
  | .local _ .vmem, ⟨35, _⟩ => ⟨S64x512, .bf16⟩
  | .local _ .vmem, ⟨36, _⟩ => ⟨S1x16x1x256x512, .f32⟩
  | .local _ .vmem, ⟨37, _⟩ => ⟨S1x16x1x256x512, .f32⟩
  | .local _ .smem, ⟨0, _⟩ => ⟨S4, .f32⟩
  | .local _ .smem, ⟨1, _⟩ => ⟨S4, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_11 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_13 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_14 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_15 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102_0 : Ref sig .tc := ⟨.hbm, 139, rfl⟩
abbrev main_v102_1 : Ref sig .tc := ⟨.hbm, 140, rfl⟩
abbrev main_v102_2 : Ref sig .tc := ⟨.hbm, 141, rfl⟩
abbrev main_v102_3 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg7_0 : Ref sig .tc := ⟨.smem, 0, rfl⟩
abbrev cc0_stg15_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨3, ![8, 2, 2], ![false, false, false]⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.muli v1 c2_i32_0
  let arg2 : BitVec 32 := BitVec.ofNat 32 (i 2).val
  let v3 : BitVec 32 := Scalar.addi v2 arg2
  let c4_i32 : BitVec 32 := 4#32
  let c0_i32 : BitVec 32 := 0#32
  let v4 : BitVec 1 := Scalar.cmpi .eq c4_i32 c0_i32
  let c1_i32 : BitVec 32 := 1#32
  let v5 : BitVec 32 := Scalar.select v4 c1_i32 c4_i32
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v22 : Index := Scalar.indexCast v13
  ![v22.toNat]
def k0_off2 (i : grid0.Coords) (c0_i32_264 : BitVec 32) : Fin 1 → Nat :=
  let arg1 : BitVec 32 := BitVec.ofNat 32 (i 1).val
  let c2_i32_235 : BitVec 32 := 2#32
  let v414 : BitVec 32 := Scalar.muli arg1 c2_i32_235
  let v432 : BitVec 32 := Scalar.addi v414 c0_i32_264
  let v433 : Index := Scalar.indexCast v432
  ![v433.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v20.toNat, v30.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v20.toNat, v30.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v20.toNat, v30.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c1_i32_11 : BitVec 32 := 1#32
  let c0_i32_12 : BitVec 32 := 0#32
  let c0_i32_13 : BitVec 32 := 0#32
  let c0_i32_14 : BitVec 32 := 0#32
  ![c1_i32_11.toNat, v30.toNat, c0_i32_12.toNat, c0_i32_13.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v30.toNat, c0_i32_11.toNat, c0_i32_12.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v30.toNat, c0_i32_11.toNat, c0_i32_12.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v30.toNat, c0_i32_11.toNat, c0_i32_12.toNat]

def cc0_transform_15 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_16 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c1_i32_11 : BitVec 32 := 1#32
  let c0_i32_12 : BitVec 32 := 0#32
  let c0_i32_13 : BitVec 32 := 0#32
  let c0_i32_14 : BitVec 32 := 0#32
  ![c1_i32_11.toNat, v20.toNat, v30.toNat, c0_i32_12.toNat, c0_i32_13.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_20 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v20.toNat, v30.toNat]

def cc0_transform_22 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4_i32 c0_i32_2
  let v11 : BitVec 32 := Scalar.extui v10
  let c0_i32_3 : BitVec 32 := 0#32
  let v12 : BitVec 1 := Scalar.cmpi .slt c4_i32 c0_i32_3
  let v13 : BitVec 32 := Scalar.extui v12
  let v14 : BitVec 32 := Scalar.subi v11 v13
  let v15 : BitVec 1 := Scalar.cmpi .ne v9 v14
  let v16 : BitVec 32 := Scalar.remsi v3 c4_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c1_i32_11 : BitVec 32 := 1#32
  let c0_i32_12 : BitVec 32 := 0#32
  let c0_i32_13 : BitVec 32 := 0#32
  let c0_i32_14 : BitVec 32 := 0#32
  ![c1_i32_11.toNat, v20.toNat, v30.toNat, c0_i32_12.toNat, c0_i32_13.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .smem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x64x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x64x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 1 → Memref sig .tc .smem S4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S1x16x1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x1x2x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 2 → Memref sig .tc .vmem S64x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x16x1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]
-- ==== ReferenceIdeal.lean ====
abbrev S16384x1024 : Shape := ⟨2, ![16384, 1024]⟩
abbrev S16384x2048 : Shape := ⟨2, ![16384, 2048]⟩
abbrev S512x1024 : Shape := ⟨2, ![512, 1024]⟩
abbrev S512x2048 : Shape := ⟨2, ![512, 2048]⟩
abbrev S2x4x512 : Shape := ⟨3, ![2, 4, 512]⟩
abbrev S2x128x4x256x512 : Shape := ⟨5, ![2, 128, 4, 256, 512]⟩
abbrev S2x8x4x256x512 : Shape := ⟨5, ![2, 8, 4, 256, 512]⟩
abbrev S4 : Shape := ⟨1, ![4]⟩
abbrev S_ : Shape := ⟨0, ![]⟩
abbrev S8x4x256x512 : Shape := ⟨4, ![8, 4, 256, 512]⟩
abbrev S8x2048x4x256 : Shape := ⟨4, ![8, 2048, 4, 256]⟩
abbrev S8x4x2048x256 : Shape := ⟨4, ![8, 4, 2048, 256]⟩
abbrev S8x2048x4x512 : Shape := ⟨4, ![8, 2048, 4, 512]⟩
abbrev S8x4x2048x512 : Shape := ⟨4, ![8, 4, 2048, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S4x1 : Shape := ⟨2, ![4, 1]⟩
abbrev S4x2048 : Shape := ⟨2, ![4, 2048]⟩
abbrev S8x4x2048x2048 : Shape := ⟨4, ![8, 4, 2048, 2048]⟩
abbrev S1x4x2048x2048 : Shape := ⟨4, ![1, 4, 2048, 2048]⟩
abbrev S1x4x2048x1 : Shape := ⟨4, ![1, 4, 2048, 1]⟩
abbrev S1x4x1x1 : Shape := ⟨4, ![1, 4, 1, 1]⟩
abbrev S1x4x512 : Shape := ⟨3, ![1, 4, 512]⟩
abbrev S4x512 : Shape := ⟨2, ![4, 512]⟩
abbrev S8x4x2048 : Shape := ⟨3, ![8, 4, 2048]⟩
abbrev S8x4x2048x1 : Shape := ⟨4, ![8, 4, 2048, 1]⟩
abbrev S1x4x1x512 : Shape := ⟨4, ![1, 4, 1, 512]⟩
abbrev S1x128x4x256x512 : Shape := ⟨5, ![1, 128, 4, 256, 512]⟩
abbrev S128x4x256x512 : Shape := ⟨4, ![128, 4, 256, 512]⟩
abbrev S128x4x4x256 : Shape := ⟨4, ![128, 4, 4, 256]⟩
abbrev S128x4x4x512 : Shape := ⟨4, ![128, 4, 4, 512]⟩
abbrev S1x4 : Shape := ⟨2, ![1, 4]⟩
abbrev S4x4 : Shape := ⟨2, ![4, 4]⟩
abbrev S1x4x4 : Shape := ⟨3, ![1, 4, 4]⟩
abbrev S4x4x4 : Shape := ⟨3, ![4, 4, 4]⟩
abbrev S128x4x4x4 : Shape := ⟨4, ![128, 4, 4, 4]⟩
abbrev S1x4x4x4 : Shape := ⟨4, ![1, 4, 4, 4]⟩
abbrev S1x4x4x1 : Shape := ⟨4, ![1, 4, 4, 1]⟩
abbrev S128x4x4 : Shape := ⟨3, ![128, 4, 4]⟩
abbrev S128x4x4x1 : Shape := ⟨4, ![128, 4, 4, 1]⟩
abbrev S1x8x4x256x512 : Shape := ⟨5, ![1, 8, 4, 256, 512]⟩

abbrev nBuf : Space → Nat
  | .hbm => 217
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x2048, .bf16⟩
  | 3 => ⟨S512x1024, .bf16⟩
  | 4 => ⟨S512x1024, .bf16⟩
  | 5 => ⟨S512x2048, .bf16⟩
  | 6 => ⟨S2x4x512, .f32⟩
  | 7 => ⟨S2x128x4x256x512, .f32⟩
  | 8 => ⟨S2x8x4x256x512, .f32⟩
  | 9 => ⟨S2x128x4x256x512, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S4, .f32⟩
  | 21 => ⟨S_, .f32⟩
  | 22 => ⟨S8x4x256x512, .f32⟩
  | 23 => ⟨S16384x1024, .f32⟩
  | 24 => ⟨S8x2048x4x256, .f32⟩
  | 25 => ⟨S8x4x2048x256, .f32⟩
  | 26 => ⟨S16384x1024, .f32⟩
  | 27 => ⟨S8x2048x4x256, .f32⟩
  | 28 => ⟨S8x4x2048x256, .f32⟩
  | 29 => ⟨S16384x2048, .f32⟩
  | 30 => ⟨S8x2048x4x512, .f32⟩
  | 31 => ⟨S8x4x2048x512, .f32⟩
  | 32 => ⟨S2048, .f32⟩
  | 33 => ⟨S2048x1, .f32⟩
  | 34 => ⟨S1x2048, .f32⟩
  | 35 => ⟨S2048x2048, .f32⟩
  | 36 => ⟨S2048x2048, .f32⟩
  | 37 => ⟨S2048x2048, .f32⟩
  | 38 => ⟨S4x1x1, .f32⟩
  | 39 => ⟨S1x2048x2048, .f32⟩
  | 40 => ⟨S_, .f32⟩
  | 41 => ⟨S1x2048x2048, .f32⟩
  | 42 => ⟨S1x2048x2048, .i1⟩
  | 43 => ⟨S1x2048x2048, .f32⟩
  | 44 => ⟨S4x2048x2048, .f32⟩
  | 45 => ⟨S4x2048x2048, .f32⟩
  | 46 => ⟨S4x2048x2048, .f32⟩
  | 47 => ⟨S4x2048x2048, .f32⟩
  | 48 => ⟨S_, .f32⟩
  | 49 => ⟨S_, .f32⟩
  | 50 => ⟨S4x2048x2048, .i1⟩
  | 51 => ⟨S4x2048x2048, .f32⟩
  | 52 => ⟨S4x2048x2048, .f32⟩
  | 53 => ⟨S1x2048, .f32⟩
  | 54 => ⟨S_, .f32⟩
  | 55 => ⟨S1x2048, .f32⟩
  | 56 => ⟨S1x2048, .f32⟩
  | 57 => ⟨S4x1, .f32⟩
  | 58 => ⟨S4x2048, .f32⟩
  | 59 => ⟨S4x2048, .f32⟩
  | 60 => ⟨S4x2048, .f32⟩
  | 61 => ⟨S4x2048, .f32⟩
  | 62 => ⟨S1x2048, .f32⟩
  | 63 => ⟨S_, .f32⟩
  | 64 => ⟨S1x2048, .f32⟩
  | 65 => ⟨S1x2048, .f32⟩
  | 66 => ⟨S4x1, .f32⟩
  | 67 => ⟨S4x2048, .f32⟩
  | 68 => ⟨S4x2048, .f32⟩
  | 69 => ⟨S4x2048, .f32⟩
  | 70 => ⟨S4x2048, .f32⟩
  | 71 => ⟨S_, .f32⟩
  | 72 => ⟨S4, .f32⟩
  | 73 => ⟨S4, .f32⟩
  | 74 => ⟨S4, .f32⟩
  | 75 => ⟨S8x4x2048x2048, .f32⟩
  | 76 => ⟨S1x4x2048x2048, .f32⟩
  | 77 => ⟨S8x4x2048x2048, .f32⟩
  | 78 => ⟨S8x4x2048x2048, .f32⟩
  | 79 => ⟨S8x4x2048x512, .f32⟩
  | 80 => ⟨S8x4x2048x512, .f32⟩
  | 81 => ⟨S1x4x2048x1, .f32⟩
  | 82 => ⟨S8x4x2048x512, .f32⟩
  | 83 => ⟨S8x4x2048x512, .f32⟩
  | 84 => ⟨S8x4x2048x512, .f32⟩
  | 85 => ⟨S1x4x1x1, .f32⟩
  | 86 => ⟨S8x4x256x512, .f32⟩
  | 87 => ⟨S8x4x256x512, .f32⟩
  | 88 => ⟨S1x4x2048x1, .f32⟩
  | 89 => ⟨S8x4x2048x256, .f32⟩
  | 90 => ⟨S8x4x2048x256, .f32⟩
  | 91 => ⟨S8x4x256x512, .f32⟩
  | 92 => ⟨S8x4x256x512, .f32⟩
  | 93 => ⟨S1x4x512, .f32⟩
  | 94 => ⟨S4x512, .f32⟩
  | 95 => ⟨S8x4x2048x512, .f32⟩
  | 96 => ⟨S_, .f32⟩
  | 97 => ⟨S8x4x2048, .f32⟩
  | 98 => ⟨S8x4x2048x1, .f32⟩
  | 99 => ⟨S_, .f32⟩
  | 100 => ⟨S8x4x2048x1, .f32⟩
  | 101 => ⟨S8x4x2048x1, .f32⟩
  | 102 => ⟨S_, .f32⟩
  | 103 => ⟨S8x4x2048x1, .f32⟩
  | 104 => ⟨S8x4x2048x1, .f32⟩
  | 105 => ⟨S8x4x2048x1, .f32⟩
  | 106 => ⟨S8x4x2048x512, .f32⟩
  | 107 => ⟨S8x4x2048x512, .f32⟩
  | 108 => ⟨S1x4x1x512, .f32⟩
  | 109 => ⟨S8x4x2048x512, .f32⟩
  | 110 => ⟨S8x4x2048x512, .f32⟩
  | 111 => ⟨S8x2048x4x512, .f32⟩
  | 112 => ⟨S16384x2048, .f32⟩
  | 113 => ⟨S16384x2048, .bf16⟩
  | 114 => ⟨S1x128x4x256x512, .f32⟩
  | 115 => ⟨S128x4x256x512, .f32⟩
  | 116 => ⟨S512x1024, .f32⟩
  | 117 => ⟨S128x4x4x256, .f32⟩
  | 118 => ⟨S128x4x4x256, .f32⟩
  | 119 => ⟨S512x1024, .f32⟩
  | 120 => ⟨S128x4x4x256, .f32⟩
  | 121 => ⟨S128x4x4x256, .f32⟩
  | 122 => ⟨S512x2048, .f32⟩
  | 123 => ⟨S128x4x4x512, .f32⟩
  | 124 => ⟨S128x4x4x512, .f32⟩
  | 125 => ⟨S4, .f32⟩
  | 126 => ⟨S4x1, .f32⟩
  | 127 => ⟨S1x4, .f32⟩
  | _ => ⟨S16384x1024, .bf16⟩

abbrev hbmTy0_1 (i : Nat) : BufTy := match i % 128 with
  | 0 => ⟨S4x4, .f32⟩
  | 1 => ⟨S4x4, .f32⟩
  | 2 => ⟨S4x4, .f32⟩
  | 3 => ⟨S4x1x1, .f32⟩
  | 4 => ⟨S1x4x4, .f32⟩
  | 5 => ⟨S_, .f32⟩
  | 6 => ⟨S1x4x4, .f32⟩
  | 7 => ⟨S1x4x4, .i1⟩
  | 8 => ⟨S1x4x4, .f32⟩
  | 9 => ⟨S4x4x4, .f32⟩
  | 10 => ⟨S4x4x4, .f32⟩
  | 11 => ⟨S4x4x4, .f32⟩
  | 12 => ⟨S4x4x4, .f32⟩
  | 13 => ⟨S_, .f32⟩
  | 14 => ⟨S_, .f32⟩
  | 15 => ⟨S4x4x4, .i1⟩
  | 16 => ⟨S4x4x4, .f32⟩
  | 17 => ⟨S4x4x4, .f32⟩
  | 18 => ⟨S1x4, .f32⟩
  | 19 => ⟨S_, .f32⟩
  | 20 => ⟨S1x4, .f32⟩
  | 21 => ⟨S1x4, .f32⟩
  | 22 => ⟨S4x1, .f32⟩
  | 23 => ⟨S4x4, .f32⟩
  | 24 => ⟨S4x4, .f32⟩
  | 25 => ⟨S4x4, .f32⟩
  | 26 => ⟨S4x4, .f32⟩
  | 27 => ⟨S1x4, .f32⟩
  | 28 => ⟨S_, .f32⟩
  | 29 => ⟨S1x4, .f32⟩
  | 30 => ⟨S1x4, .f32⟩
  | 31 => ⟨S4x1, .f32⟩
  | 32 => ⟨S4x4, .f32⟩
  | 33 => ⟨S4x4, .f32⟩
  | 34 => ⟨S4x4, .f32⟩
  | 35 => ⟨S4x4, .f32⟩
  | 36 => ⟨S_, .f32⟩
  | 37 => ⟨S4, .f32⟩
  | 38 => ⟨S4, .f32⟩
  | 39 => ⟨S4, .f32⟩
  | 40 => ⟨S128x4x4x4, .f32⟩
  | 41 => ⟨S1x4x4x4, .f32⟩
  | 42 => ⟨S128x4x4x4, .f32⟩
  | 43 => ⟨S128x4x4x4, .f32⟩
  | 44 => ⟨S128x4x4x512, .f32⟩
  | 45 => ⟨S128x4x4x512, .f32⟩
  | 46 => ⟨S1x4x4x1, .f32⟩
  | 47 => ⟨S128x4x4x512, .f32⟩
  | 48 => ⟨S128x4x4x512, .f32⟩
  | 49 => ⟨S128x4x4x512, .f32⟩
  | 50 => ⟨S1x4x1x1, .f32⟩
  | 51 => ⟨S128x4x256x512, .f32⟩
  | 52 => ⟨S128x4x256x512, .f32⟩
  | 53 => ⟨S1x4x4x1, .f32⟩
  | 54 => ⟨S128x4x4x256, .f32⟩
  | 55 => ⟨S128x4x4x256, .f32⟩
  | 56 => ⟨S128x4x256x512, .f32⟩
  | 57 => ⟨S128x4x256x512, .f32⟩
  | 58 => ⟨S1x4x512, .f32⟩
  | 59 => ⟨S4x512, .f32⟩
  | 60 => ⟨S128x4x4x512, .f32⟩
  | 61 => ⟨S_, .f32⟩
  | 62 => ⟨S128x4x4, .f32⟩
  | 63 => ⟨S128x4x4x1, .f32⟩
  | 64 => ⟨S_, .f32⟩
  | 65 => ⟨S128x4x4x1, .f32⟩
  | 66 => ⟨S128x4x4x1, .f32⟩
  | 67 => ⟨S_, .f32⟩
  | 68 => ⟨S128x4x4x1, .f32⟩
  | 69 => ⟨S128x4x4x1, .f32⟩
  | 70 => ⟨S128x4x4x1, .f32⟩
  | 71 => ⟨S128x4x4x512, .f32⟩
  | 72 => ⟨S128x4x4x512, .f32⟩
  | 73 => ⟨S1x4x1x512, .f32⟩
  | 74 => ⟨S128x4x4x512, .f32⟩
  | 75 => ⟨S128x4x4x512, .f32⟩
  | 76 => ⟨S128x4x4x512, .f32⟩
  | 77 => ⟨S512x2048, .f32⟩
  | 78 => ⟨S512x2048, .bf16⟩
  | 79 => ⟨S1x8x4x256x512, .f32⟩
  | 80 => ⟨S8x4x256x512, .f32⟩
  | 81 => ⟨S1x8x4x256x512, .f32⟩
  | 82 => ⟨S1x8x4x256x512, .f32⟩
  | 83 => ⟨S2x8x4x256x512, .f32⟩
  | 84 => ⟨S1x128x4x256x512, .f32⟩
  | 85 => ⟨S128x4x256x512, .f32⟩
  | 86 => ⟨S1x128x4x256x512, .f32⟩
  | 87 => ⟨S1x128x4x256x512, .f32⟩
  | 88 => ⟨S2x128x4x256x512, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_8 : Ref sig .tc := ⟨.hbm, 96, rfl⟩
abbrev main_v74 : Ref sig .tc := ⟨.hbm, 97, rfl⟩
abbrev main_v75 : Ref sig .tc := ⟨.hbm, 98, rfl⟩
abbrev main_cst_9 : Ref sig .tc := ⟨.hbm, 99, rfl⟩
abbrev main_v76 : Ref sig .tc := ⟨.hbm, 100, rfl⟩
abbrev main_v77 : Ref sig .tc := ⟨.hbm, 101, rfl⟩
abbrev main_cst_10 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_11 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_12 : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_v115 : Ref sig .tc := ⟨.hbm, 145, rfl⟩
abbrev main_v116 : Ref sig .tc := ⟨.hbm, 146, rfl⟩
abbrev main_cst_13 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_14 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_15 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_cst_16 : Ref sig .tc := ⟨.hbm, 189, rfl⟩
abbrev main_v156 : Ref sig .tc := ⟨.hbm, 190, rfl⟩
abbrev main_v157 : Ref sig .tc := ⟨.hbm, 191, rfl⟩
abbrev main_cst_17 : Ref sig .tc := ⟨.hbm, 192, rfl⟩
abbrev main_v158 : Ref sig .tc := ⟨.hbm, 193, rfl⟩
abbrev main_v159 : Ref sig .tc := ⟨.hbm, 194, rfl⟩
abbrev main_cst_18 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩

abbrev nD : Nat := 1
abbrev τ : Topo := Topo.v7x

variable {F : FTy → Type} [FloatOps F]
-- ==== Ffn.lean ====
abbrev S16384x1024 : Shape := ⟨2, ![16384, 1024]⟩
abbrev S512x1024 : Shape := ⟨2, ![512, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S1024x1024 : Shape := ⟨2, ![1024, 1024]⟩
abbrev S32x1024 : Shape := ⟨2, ![32, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1056x1024 : Shape := ⟨2, ![1056, 1024]⟩
abbrev S1056x2816 : Shape := ⟨2, ![1056, 2816]⟩
abbrev S1x1024 : Shape := ⟨2, ![1, 1024]⟩
abbrev S1024 : Shape := ⟨1, ![1024]⟩
abbrev S1024x1 : Shape := ⟨2, ![1024, 1]⟩
abbrev S32 : Shape := ⟨1, ![32]⟩
abbrev S32x1 : Shape := ⟨2, ![32, 1]⟩
abbrev S1x1x1024x256 : Shape := ⟨4, ![1, 1, 1024, 256]⟩
abbrev S1024x256 : Shape := ⟨2, ![1024, 256]⟩
abbrev S1056x256 : Shape := ⟨2, ![1056, 256]⟩
abbrev S2816x1024 : Shape := ⟨2, ![2816, 1024]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S4x2x1024x5632, .bf16⟩
  | .hbm, ⟨6, _⟩ => ⟨S4x2x2816x1024, .bf16⟩
  | .hbm, ⟨7, _⟩ => ⟨S4x3x1x1024, .f32⟩
  | .hbm, ⟨8, _⟩ => ⟨S16384x1024, .f32⟩
  | .hbm, ⟨9, _⟩ => ⟨S512x1024, .f32⟩
  | .local _ .vmem, ⟨0, _⟩ => ⟨S1024x1024, .f32⟩
  | .local _ .vmem, ⟨1, _⟩ => ⟨S1024x1024, .f32⟩
  | .local _ .vmem, ⟨2, _⟩ => ⟨S32x1024, .f32⟩
  | .local _ .vmem, ⟨3, _⟩ => ⟨S32x1024, .f32⟩
  | .local _ .vmem, ⟨4, _⟩ => ⟨S1x1x1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1024x1024, .f32⟩
  | .local _ .vmem, ⟨8, _⟩ => ⟨S1024x1024, .f32⟩
  | .local _ .vmem, ⟨9, _⟩ => ⟨S32x1024, .f32⟩
  | .local _ .vmem, ⟨10, _⟩ => ⟨S32x1024, .f32⟩
  | .local _ .vmem, ⟨11, _⟩ => ⟨S1056x1024, .bf16⟩
  | .local _ .vmem, ⟨12, _⟩ => ⟨S1056x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnIdeal.lean ====
variable {F : FTy → Type} [FloatOps F] [Named F]
def κ : String → Option EReal := fun
  | "neg_log2e" => some ((-((Real.log 2)⁻¹) : ℝ) : EReal)
  | _ => none
-- ==== FfnRefIdeal.lean ====
abbrev S16384x1024 : Shape := ⟨2, ![16384, 1024]⟩
abbrev S512x1024 : Shape := ⟨2, ![512, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S1x1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1x1024x5632, .f32⟩
  | .hbm, ⟨24, _⟩ => ⟨S1024x5632, .f32⟩
  | .hbm, ⟨25, _⟩ => ⟨S1x1x2816x1024, .f32⟩
  | .hbm, ⟨26, _⟩ => ⟨S2816x1024, .f32⟩
  | .hbm, ⟨27, _⟩ => ⟨S16384x5632, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1x1x1024, .f32⟩
  | .hbm, ⟨46, _⟩ => ⟨S1024, .f32⟩
  | .hbm, ⟨47, _⟩ => ⟨S512x1024, .f32⟩
  | .hbm, ⟨48, _⟩ => ⟨S_, .f32⟩
  | .hbm, ⟨49, _⟩ => ⟨S512, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S512x1, .f32⟩
  | .hbm, ⟨58, _⟩ => ⟨S512x1024, .f32⟩
  | .hbm, ⟨59, _⟩ => ⟨S512x1024, .f32⟩
  | .hbm, ⟨60, _⟩ => ⟨S1x1024, .f32⟩
  | .hbm, ⟨61, _⟩ => ⟨S512x1024, .f32⟩
  | .hbm, ⟨62, _⟩ => ⟨S512x1024, .f32⟩
  | .hbm, ⟨63, _⟩ => ⟨S1x1x1024x5632, .f32⟩
  | .hbm, ⟨64, _⟩ => ⟨S1024x5632, .f32⟩
  | .hbm, ⟨65, _⟩ => ⟨S1x1x2816x1024, .f32⟩
  | .hbm, ⟨66, _⟩ => ⟨S2816x1024, .f32⟩
  | .hbm, ⟨67, _⟩ => ⟨S512x5632, .f32⟩
  | .hbm, ⟨68, _⟩ => ⟨S512x2816, .f32⟩
  | .hbm, ⟨69, _⟩ => ⟨S512x2816, .f32⟩
  | .hbm, ⟨70, _⟩ => ⟨S512x2816, .f32⟩
  | .hbm, ⟨71, _⟩ => ⟨S512x2816, .f32⟩
  | .hbm, ⟨72, _⟩ => ⟨S_, .f32⟩
  | .hbm, ⟨73, _⟩ => ⟨S512x2816, .f32⟩
  | .hbm, ⟨74, _⟩ => ⟨S512x2816, .f32⟩
  | .hbm, ⟨75, _⟩ => ⟨S_, .f32⟩
  | .hbm, ⟨76, _⟩ => ⟨S512x2816, .f32⟩
  | .hbm, ⟨77, _⟩ => ⟨S512x2816, .f32⟩
  | .hbm, ⟨78, _⟩ => ⟨S512x2816, .f32⟩
  | .hbm, ⟨79, _⟩ => ⟨S512x2816, .f32⟩
  | .hbm, ⟨80, _⟩ => ⟨S512x1024, .f32⟩
  | .hbm, ⟨81, _⟩ => ⟨S_, .f32⟩
  | .hbm, ⟨82, _⟩ => ⟨S512x1024, .f32⟩
  | .hbm, ⟨83, _⟩ => ⟨S512x1024, .f32⟩
  | .hbm, ⟨84, _⟩ => ⟨S512x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== Tail.lean ====
abbrev S16384x1024 : Shape := ⟨2, ![16384, 1024]⟩
abbrev S512x1024 : Shape := ⟨2, ![512, 1024]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024 : Shape := ⟨1, ![1024]⟩
abbrev S4x3x1x1024 : Shape := ⟨4, ![4, 3, 1, 1024]⟩
abbrev S1x1024 : Shape := ⟨2, ![1, 1024]⟩
abbrev S16x1024 : Shape := ⟨2, ![16, 1024]⟩
abbrev S1x1024x1024 : Shape := ⟨3, ![1, 1024, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S528x1024 : Shape := ⟨2, ![528, 1024]⟩
abbrev S528x2816 : Shape := ⟨2, ![528, 2816]⟩
abbrev S1024x1024 : Shape := ⟨2, ![1024, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1x1x1024x256 : Shape := ⟨4, ![1, 1, 1024, 256]⟩
abbrev S1024x256 : Shape := ⟨2, ![1024, 256]⟩
abbrev S528x256 : Shape := ⟨2, ![528, 256]⟩
abbrev S2816x1024 : Shape := ⟨2, ![2816, 1024]⟩

abbrev nBuf : Space → Nat
  | .hbm => 16
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x1024, .bf16⟩
  | .hbm, ⟨3, _⟩ => ⟨S512x1024, .bf16⟩
  | .hbm, ⟨4, _⟩ => ⟨S2x1024x1024, .f32⟩
  | .hbm, ⟨5, _⟩ => ⟨S4x3x1024, .f32⟩
  | .hbm, ⟨6, _⟩ => ⟨S4x2x1024x5632, .f32⟩
  | .hbm, ⟨7, _⟩ => ⟨S4x2x2816x1024, .f32⟩
  | .hbm, ⟨8, _⟩ => ⟨S1024, .f32⟩
  | .hbm, ⟨9, _⟩ => ⟨S4x2x1024x5632, .bf16⟩
  | .hbm, ⟨10, _⟩ => ⟨S4x2x2816x1024, .bf16⟩
  | .hbm, ⟨11, _⟩ => ⟨S2x1024x1024, .bf16⟩
  | .hbm, ⟨12, _⟩ => ⟨S4x3x1x1024, .f32⟩
  | .hbm, ⟨13, _⟩ => ⟨S1x1024, .f32⟩
  | .hbm, ⟨14, _⟩ => ⟨S16384x1024, .f32⟩
  | .hbm, ⟨15, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S1x1024x1024, .bf16⟩
  | .local _ .vmem, ⟨9, _⟩ => ⟨S1x1x1x1024, .f32⟩
  | .local _ .vmem, ⟨10, _⟩ => ⟨S1x1x1024x5632, .bf16⟩
  | .local _ .vmem, ⟨11, _⟩ => ⟨S1x1x2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S16x1024, .f32⟩
  | .local _ .vmem, ⟨16, _⟩ => ⟨S16x1024, .f32⟩
  | .local _ .vmem, ⟨17, _⟩ => ⟨S528x1024, .bf16⟩
  | .local _ .vmem, ⟨18, _⟩ => ⟨S528x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_6 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== TailIdeal.lean ====
variable {F : FTy → Type} [FloatOps F] [Named F]
def κ : String → Option EReal := fun
  | "neg_log2e" => some ((-((Real.log 2)⁻¹) : ℝ) : EReal)
  | _ => none
-- ==== TailRefIdeal.lean ====
abbrev S16384x1024 : Shape := ⟨2, ![16384, 1024]⟩
abbrev S512x1024 : Shape := ⟨2, ![512, 1024]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024 : Shape := ⟨1, ![1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 131
  | .vmem => 0
  | .smem => 0
  | _ => 0

abbrev hbmTy0_0 (i : Nat) : BufTy := match i % 128 with
  | 0 => ⟨S16384x1024, .f32⟩
  | 1 => ⟨S512x1024, .f32⟩
  | 2 => ⟨S16384x1024, .bf16⟩
  | 3 => ⟨S512x1024, .bf16⟩
  | 4 => ⟨S2x1024x1024, .f32⟩
  | 5 => ⟨S4x3x1024, .f32⟩
  | 6 => ⟨S4x2x1024x5632, .f32⟩
  | 7 => ⟨S4x2x2816x1024, .f32⟩
  | 8 => ⟨S1024, .f32⟩
  | 9 => ⟨S16384x1024, .f32⟩
  | 10 => ⟨S1x1024x1024, .f32⟩
  | 11 => ⟨S1024x1024, .f32⟩
  | 12 => ⟨S16384x1024, .f32⟩
  | 13 => ⟨S16384x1024, .f32⟩
  | 14 => ⟨S1x1x1024, .f32⟩
  | 15 => ⟨S1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S1x1x1024x5632, .f32⟩
  | 33 => ⟨S1024x5632, .f32⟩
  | 34 => ⟨S1x1x2816x1024, .f32⟩
  | 35 => ⟨S2816x1024, .f32⟩
  | 36 => ⟨S16384x5632, .f32⟩
  | 37 => ⟨S16384x2816, .f32⟩
  | 38 => ⟨S16384x2816, .f32⟩
  | 39 => ⟨S16384x2816, .f32⟩
  | 40 => ⟨S16384x2816, .f32⟩
  | 41 => ⟨S_, .f32⟩
  | 42 => ⟨S16384x2816, .f32⟩
  | 43 => ⟨S16384x2816, .f32⟩
  | 44 => ⟨S_, .f32⟩
  | 45 => ⟨S16384x2816, .f32⟩
  | 46 => ⟨S16384x2816, .f32⟩
  | 47 => ⟨S16384x2816, .f32⟩
  | 48 => ⟨S16384x2816, .f32⟩
  | 49 => ⟨S16384x1024, .f32⟩
  | 50 => ⟨S_, .f32⟩
  | 51 => ⟨S16384x1024, .f32⟩
  | 52 => ⟨S16384x1024, .f32⟩
  | 53 => ⟨S16384x1024, .f32⟩
  | 54 => ⟨S16384x1024, .f32⟩
  | 55 => ⟨S_, .f32⟩
  | 56 => ⟨S16384, .f32⟩
  | 57 => ⟨S16384x1, .f32⟩
  | 58 => ⟨S_, .f32⟩
  | 59 => ⟨S16384x1, .f32⟩
  | 60 => ⟨S16384x1, .f32⟩
  | 61 => ⟨S_, .f32⟩
  | 62 => ⟨S16384x1, .f32⟩
  | 63 => ⟨S16384x1, .f32⟩
  | 64 => ⟨S16384x1, .f32⟩
  | 65 => ⟨S16384x1024, .f32⟩
  | 66 => ⟨S16384x1024, .f32⟩
  | 67 => ⟨S1x1024, .f32⟩
  | 68 => ⟨S16384x1024, .f32⟩
  | 69 => ⟨S16384x1024, .f32⟩
  | 70 => ⟨S512x1024, .f32⟩
  | 71 => ⟨S1x1024x1024, .f32⟩
  | 72 => ⟨S1024x1024, .f32⟩
  | 73 => ⟨S512x1024, .f32⟩
  | 74 => ⟨S512x1024, .f32⟩
  | 75 => ⟨S1x1x1024, .f32⟩
  | 76 => ⟨S1024, .f32⟩
  | 77 => ⟨S512x1024, .f32⟩
  | 78 => ⟨S_, .f32⟩
  | 79 => ⟨S512, .f32⟩
  | 80 => ⟨S512x1, .f32⟩
  | 81 => ⟨S_, .f32⟩
  | 82 => ⟨S512x1, .f32⟩
  | 83 => ⟨S512x1, .f32⟩
  | 84 => ⟨S_, .f32⟩
  | 85 => ⟨S512x1, .f32⟩
  | 86 => ⟨S512x1, .f32⟩
  | 87 => ⟨S512x1, .f32⟩
  | 88 => ⟨S512x1024, .f32⟩
  | 89 => ⟨S512x1024, .f32⟩
  | 90 => ⟨S1x1024, .f32⟩
  | 91 => ⟨S512x1024, .f32⟩
  | 92 => ⟨S512x1024, .f32⟩
  | 93 => ⟨S1x1x1024x5632, .f32⟩
  | 94 => ⟨S1024x5632, .f32⟩
  | 95 => ⟨S1x1x2816x1024, .f32⟩
  | 96 => ⟨S2816x1024, .f32⟩
  | 97 => ⟨S512x5632, .f32⟩
  | 98 => ⟨S512x2816, .f32⟩
  | 99 => ⟨S512x2816, .f32⟩
  | 100 => ⟨S512x2816, .f32⟩
  | 101 => ⟨S512x2816, .f32⟩
  | 102 => ⟨S_, .f32⟩
  | 103 => ⟨S512x2816, .f32⟩
  | 104 => ⟨S512x2816, .f32⟩
  | 105 => ⟨S_, .f32⟩
  | 106 => ⟨S512x2816, .f32⟩
  | 107 => ⟨S512x2816, .f32⟩
  | 108 => ⟨S512x2816, .f32⟩
  | 109 => ⟨S512x2816, .f32⟩
  | 110 => ⟨S512x1024, .f32⟩
  | 111 => ⟨S_, .f32⟩
  | 112 => ⟨S512x1024, .f32⟩
  | 113 => ⟨S512x1024, .f32⟩
  | 114 => ⟨S512x1024, .f32⟩
  | 115 => ⟨S512x1024, .f32⟩
  | 116 => ⟨S_, .f32⟩
  | 117 => ⟨S512, .f32⟩
  | 118 => ⟨S512x1, .f32⟩
  | 119 => ⟨S_, .f32⟩
  | 120 => ⟨S512x1, .f32⟩
  | 121 => ⟨S512x1, .f32⟩
  | 122 => ⟨S_, .f32⟩
  | 123 => ⟨S512x1, .f32⟩
  | 124 => ⟨S512x1, .f32⟩
  | 125 => ⟨S512x1, .f32⟩
  | 126 => ⟨S512x1024, .f32⟩
  | 127 => ⟨S512x1024, .f32⟩
  | _ => ⟨S16384x1024, .f32⟩

abbrev hbmTy0_1 (i : Nat) : BufTy := match i % 128 with
  | 0 => ⟨S1x1024, .f32⟩
  | 1 => ⟨S512x1024, .f32⟩
  | 2 => ⟨S512x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_9 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_10 : Ref sig .tc := ⟨.hbm, 116, rfl⟩
abbrev main_v80 : Ref sig .tc := ⟨.hbm, 117, rfl⟩
abbrev main_v81 : Ref sig .tc := ⟨.hbm, 118, rfl⟩
abbrev main_cst_11 : Ref sig .tc := ⟨.hbm, 119, rfl⟩
abbrev main_v82 : Ref sig .tc := ⟨.hbm, 120, rfl⟩
abbrev main_v83 : Ref sig .tc := ⟨.hbm, 121, rfl⟩
abbrev main_cst_12 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩

abbrev nD : Nat := 1
abbrev τ : Topo := Topo.v7x

variable {F : FTy → Type} [FloatOps F]
-- ==== Mix.lean ====
abbrev S16384x1024 : Shape := ⟨2, ![16384, 1024]⟩
abbrev S512x1024 : Shape := ⟨2, ![512, 1024]⟩
abbrev S16384x2048 : Shape := ⟨2, ![16384, 2048]⟩
abbrev S512x2048 : Shape := ⟨2, ![512, 2048]⟩
abbrev S2x2048x1024 : Shape := ⟨3, ![2, 2048, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S16x1024 : Shape := ⟨2, ![16, 1024]⟩
abbrev S16x2048 : Shape := ⟨2, ![16, 2048]⟩
abbrev S1x2048x1024 : Shape := ⟨3, ![1, 2048, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S528x1024 : Shape := ⟨2, ![528, 1024]⟩
abbrev S528x2816 : Shape := ⟨2, ![528, 2816]⟩
abbrev S2048x1024 : Shape := ⟨2, ![2048, 1024]⟩
abbrev S1x1024 : Shape := ⟨2, ![1, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1x1x1024x256 : Shape := ⟨4, ![1, 1, 1024, 256]⟩
abbrev S1024x256 : Shape := ⟨2, ![1024, 256]⟩
abbrev S528x256 : Shape := ⟨2, ![528, 256]⟩
abbrev S2816x1024 : Shape := ⟨2, ![2816, 1024]⟩

abbrev nBuf : Space → Nat
  | .hbm => 16
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x2048, .bf16⟩
  | .hbm, ⟨3, _⟩ => ⟨S512x2048, .bf16⟩
  | .hbm, ⟨4, _⟩ => ⟨S16384x2048, .bf16⟩
  | .hbm, ⟨5, _⟩ => ⟨S512x2048, .bf16⟩
  | .hbm, ⟨6, _⟩ => ⟨S2x2048x1024, .f32⟩
  | .hbm, ⟨7, _⟩ => ⟨S4x3x1024, .f32⟩
  | .hbm, ⟨8, _⟩ => ⟨S4x2x1024x5632, .f32⟩
  | .hbm, ⟨9, _⟩ => ⟨S4x2x2816x1024, .f32⟩
  | .hbm, ⟨10, _⟩ => ⟨S4x2x1024x5632, .bf16⟩
  | .hbm, ⟨11, _⟩ => ⟨S4x2x2816x1024, .bf16⟩
  | .hbm, ⟨12, _⟩ => ⟨S2x2048x1024, .bf16⟩
  | .hbm, ⟨13, _⟩ => ⟨S4x3x1x1024, .f32⟩
  | .hbm, ⟨14, _⟩ => ⟨S16384x1024, .f32⟩
  | .hbm, ⟨15, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x2048, .bf16⟩
  | .local _ .vmem, ⟨5, _⟩ => ⟨S512x2048, .bf16⟩
  | .local _ .vmem, ⟨6, _⟩ => ⟨S16x2048, .bf16⟩
  | .local _ .vmem, ⟨7, _⟩ => ⟨S16x2048, .bf16⟩
  | .local _ .vmem, ⟨8, _⟩ => ⟨S512x2048, .bf16⟩
  | .local _ .vmem, ⟨9, _⟩ => ⟨S512x2048, .bf16⟩
  | .local _ .vmem, ⟨10, _⟩ => ⟨S16x2048, .bf16⟩
  | .local _ .vmem, ⟨11, _⟩ => ⟨S16x2048, .bf16⟩
  | .local _ .vmem, ⟨12, _⟩ => ⟨S1x2048x1024, .bf16⟩
  | .local _ .vmem, ⟨13, _⟩ => ⟨S1x1x1x1024, .f32⟩
  | .local _ .vmem, ⟨14, _⟩ => ⟨S1x1x1024x5632, .bf16⟩
  | .local _ .vmem, ⟨15, _⟩ => ⟨S1x1x2816x1024, .bf16⟩
  | .local _ .vmem, ⟨16, _⟩ => ⟨S512x1024, .f32⟩
  | .local _ .vmem, ⟨17, _⟩ => ⟨S512x1024, .f32⟩
  | .local _ .vmem, ⟨18, _⟩ => ⟨S16x1024, .f32⟩
  | .local _ .vmem, ⟨19, _⟩ => ⟨S16x1024, .f32⟩
  | .local _ .vmem, ⟨20, _⟩ => ⟨S528x1024, .bf16⟩
  | .local _ .vmem, ⟨21, _⟩ => ⟨S528x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc0_transform_8 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_9 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixIdeal.lean ====
variable {F : FTy → Type} [FloatOps F] [Named F]
def κ : String → Option EReal := fun
  | "neg_log2e" => some ((-((Real.log 2)⁻¹) : ℝ) : EReal)
  | _ => none
-- ==== MixRefIdeal.lean ====
abbrev S16384x1024 : Shape := ⟨2, ![16384, 1024]⟩
abbrev S512x1024 : Shape := ⟨2, ![512, 1024]⟩
abbrev S16384x2048 : Shape := ⟨2, ![16384, 2048]⟩
abbrev S512x2048 : Shape := ⟨2, ![512, 2048]⟩
abbrev S2x2048x1024 : Shape := ⟨3, ![2, 2048, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x2048x1024 : Shape := ⟨3, ![1, 2048, 1024]⟩
abbrev S2048x1024 : Shape := ⟨2, ![2048, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x2048, .bf16⟩
  | .hbm, ⟨3, _⟩ => ⟨S512x2048, .bf16⟩
  | .hbm, ⟨4, _⟩ => ⟨S16384x2048, .bf16⟩
  | .hbm, ⟨5, _⟩ => ⟨S512x2048, .bf16⟩
  | .hbm, ⟨6, _⟩ => ⟨S2x2048x1024, .f32⟩
  | .hbm, ⟨7, _⟩ => ⟨S4x3x1024, .f32⟩
  | .hbm, ⟨8, _⟩ => ⟨S4x2x1024x5632, .f32⟩
  | .hbm, ⟨9, _⟩ => ⟨S4x2x2816x1024, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S1x2048x1024, .f32⟩
  | .hbm, ⟨14, _⟩ => ⟨S2048x1024, .f32⟩
  | .hbm, ⟨15, _⟩ => ⟨S16384x1024, .f32⟩
  | .hbm, ⟨16, _⟩ => ⟨S16384x1024, .f32⟩
  | .hbm, ⟨17, _⟩ => ⟨S1x1x1024, .f32⟩
  | .hbm, ⟨18, _⟩ => ⟨S1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S1x1x1024x5632, .f32⟩
  | .hbm, ⟨36, _⟩ => ⟨S1024x5632, .f32⟩
  | .hbm, ⟨37, _⟩ => ⟨S1x1x2816x1024, .f32⟩
  | .hbm, ⟨38, _⟩ => ⟨S2816x1024, .f32⟩
  | .hbm, ⟨39, _⟩ => ⟨S16384x5632, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S_, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S512x2048, .f32⟩
  | .hbm, ⟨58, _⟩ => ⟨S512x2048, .f32⟩
  | .hbm, ⟨59, _⟩ => ⟨S512x2048, .f32⟩
  | .hbm, ⟨60, _⟩ => ⟨S1x2048x1024, .f32⟩
  | .hbm, ⟨61, _⟩ => ⟨S2048x1024, .f32⟩
  | .hbm, ⟨62, _⟩ => ⟨S512x1024, .f32⟩
  | .hbm, ⟨63, _⟩ => ⟨S512x1024, .f32⟩
  | .hbm, ⟨64, _⟩ => ⟨S1x1x1024, .f32⟩
  | .hbm, ⟨65, _⟩ => ⟨S1024, .f32⟩
  | .hbm, ⟨66, _⟩ => ⟨S512x1024, .f32⟩
  | .hbm, ⟨67, _⟩ => ⟨S_, .f32⟩
  | .hbm, ⟨68, _⟩ => ⟨S512, .f32⟩
  | .hbm, ⟨69, _⟩ => ⟨S512x1, .f32⟩
  | .hbm, ⟨70, _⟩ => ⟨S_, .f32⟩
  | .hbm, ⟨71, _⟩ => ⟨S512x1, .f32⟩
  | .hbm, ⟨72, _⟩ => ⟨S512x1, .f32⟩
  | .hbm, ⟨73, _⟩ => ⟨S_, .f32⟩
  | .hbm, ⟨74, _⟩ => ⟨S512x1, .f32⟩
  | .hbm, ⟨75, _⟩ => ⟨S512x1, .f32⟩
  | .hbm, ⟨76, _⟩ => ⟨S512x1, .f32⟩
  | .hbm, ⟨77, _⟩ => ⟨S512x1024, .f32⟩
  | .hbm, ⟨78, _⟩ => ⟨S512x1024, .f32⟩
  | .hbm, ⟨79, _⟩ => ⟨S1x1024, .f32⟩
  | .hbm, ⟨80, _⟩ => ⟨S512x1024, .f32⟩
  | .hbm, ⟨81, _⟩ => ⟨S512x1024, .f32⟩
  | .hbm, ⟨82, _⟩ => ⟨S1x1x1024x5632, .f32⟩
  | .hbm, ⟨83, _⟩ => ⟨S1024x5632, .f32⟩
  | .hbm, ⟨84, _⟩ => ⟨S1x1x2816x1024, .f32⟩
  | .hbm, ⟨85, _⟩ => ⟨S2816x1024, .f32⟩
  | .hbm, ⟨86, _⟩ => ⟨S512x5632, .f32⟩
  | .hbm, ⟨87, _⟩ => ⟨S512x2816, .f32⟩
  | .hbm, ⟨88, _⟩ => ⟨S512x2816, .f32⟩
  | .hbm, ⟨89, _⟩ => ⟨S512x2816, .f32⟩
  | .hbm, ⟨90, _⟩ => ⟨S512x2816, .f32⟩
  | .hbm, ⟨91, _⟩ => ⟨S_, .f32⟩
  | .hbm, ⟨92, _⟩ => ⟨S512x2816, .f32⟩
  | .hbm, ⟨93, _⟩ => ⟨S512x2816, .f32⟩
  | .hbm, ⟨94, _⟩ => ⟨S_, .f32⟩
  | .hbm, ⟨95, _⟩ => ⟨S512x2816, .f32⟩
  | .hbm, ⟨96, _⟩ => ⟨S512x2816, .f32⟩
  | .hbm, ⟨97, _⟩ => ⟨S512x2816, .f32⟩
  | .hbm, ⟨98, _⟩ => ⟨S512x2816, .f32⟩
  | .hbm, ⟨99, _⟩ => ⟨S512x1024, .f32⟩
  | .hbm, ⟨100, _⟩ => ⟨S_, .f32⟩
  | .hbm, ⟨101, _⟩ => ⟨S512x1024, .f32⟩
  | .hbm, ⟨102, _⟩ => ⟨S512x1024, .f32⟩
  | .hbm, ⟨103, _⟩ => ⟨S512x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_v46 : Ref sig .tc := ⟨.hbm, 69, rfl⟩
abbrev main_cst_4 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_6 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== Mid.lean ====
abbrev S16384x1024 : Shape := ⟨2, ![16384, 1024]⟩
abbrev S512x1024 : Shape := ⟨2, ![512, 1024]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S16x1024 : Shape := ⟨2, ![16, 1024]⟩
abbrev S1x1024x1024 : Shape := ⟨3, ![1, 1024, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S528x1024 : Shape := ⟨2, ![528, 1024]⟩
abbrev S528x2816 : Shape := ⟨2, ![528, 2816]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1x1x1024x256 : Shape := ⟨4, ![1, 1, 1024, 256]⟩
abbrev S1024x256 : Shape := ⟨2, ![1024, 256]⟩
abbrev S528x256 : Shape := ⟨2, ![528, 256]⟩
abbrev S2816x1024 : Shape := ⟨2, ![2816, 1024]⟩

abbrev nBuf : Space → Nat
  | .hbm => 14
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x1024, .bf16⟩
  | .hbm, ⟨3, _⟩ => ⟨S512x1024, .bf16⟩
  | .hbm, ⟨4, _⟩ => ⟨S2x1024x1024, .f32⟩
  | .hbm, ⟨5, _⟩ => ⟨S4x3x1024, .f32⟩
  | .hbm, ⟨6, _⟩ => ⟨S4x2x1024x5632, .f32⟩
  | .hbm, ⟨7, _⟩ => ⟨S4x2x2816x1024, .f32⟩
  | .hbm, ⟨8, _⟩ => ⟨S4x2x1024x5632, .bf16⟩
  | .hbm, ⟨9, _⟩ => ⟨S4x2x2816x1024, .bf16⟩
  | .hbm, ⟨10, _⟩ => ⟨S2x1024x1024, .bf16⟩
  | .hbm, ⟨11, _⟩ => ⟨S4x3x1x1024, .f32⟩
  | .hbm, ⟨12, _⟩ => ⟨S16384x1024, .f32⟩
  | .hbm, ⟨13, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S1x1024x1024, .bf16⟩
  | .local _ .vmem, ⟨9, _⟩ => ⟨S1x1x1x1024, .f32⟩
  | .local _ .vmem, ⟨10, _⟩ => ⟨S1x1x1024x5632, .bf16⟩
  | .local _ .vmem, ⟨11, _⟩ => ⟨S1x1x2816x1024, .bf16⟩
  | .local _ .vmem, ⟨12, _⟩ => ⟨S512x1024, .f32⟩
  | .local _ .vmem, ⟨13, _⟩ => ⟨S512x1024, .f32⟩
  | .local _ .vmem, ⟨14, _⟩ => ⟨S16x1024, .f32⟩
  | .local _ .vmem, ⟨15, _⟩ => ⟨S16x1024, .f32⟩
  | .local _ .vmem, ⟨16, _⟩ => ⟨S528x1024, .bf16⟩
  | .local _ .vmem, ⟨17, _⟩ => ⟨S528x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MidIdeal.lean ====
variable {F : FTy → Type} [FloatOps F] [Named F]
def κ : String → Option EReal := fun
  | "neg_log2e" => some ((-((Real.log 2)⁻¹) : ℝ) : EReal)
  | _ => none
-- ==== MidRefIdeal.lean ====
abbrev S16384x1024 : Shape := ⟨2, ![16384, 1024]⟩
abbrev S512x1024 : Shape := ⟨2, ![512, 1024]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x1024, .bf16⟩
  | .hbm, ⟨3, _⟩ => ⟨S512x1024, .bf16⟩
  | .hbm, ⟨4, _⟩ => ⟨S2x1024x1024, .f32⟩
  | .hbm, ⟨5, _⟩ => ⟨S4x3x1024, .f32⟩
  | .hbm, ⟨6, _⟩ => ⟨S4x2x1024x5632, .f32⟩
  | .hbm, ⟨7, _⟩ => ⟨S4x2x2816x1024, .f32⟩
  | .hbm, ⟨8, _⟩ => ⟨S16384x1024, .f32⟩
  | .hbm, ⟨9, _⟩ => ⟨S1x1024x1024, .f32⟩
  | .hbm, ⟨10, _⟩ => ⟨S1024x1024, .f32⟩
  | .hbm, ⟨11, _⟩ => ⟨S16384x1024, .f32⟩
  | .hbm, ⟨12, _⟩ => ⟨S16384x1024, .f32⟩
  | .hbm, ⟨13, _⟩ => ⟨S1x1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1x1024x5632, .f32⟩
  | .hbm, ⟨32, _⟩ => ⟨S1024x5632, .f32⟩
  | .hbm, ⟨33, _⟩ => ⟨S1x1x2816x1024, .f32⟩
  | .hbm, ⟨34, _⟩ => ⟨S2816x1024, .f32⟩
  | .hbm, ⟨35, _⟩ => ⟨S16384x5632, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S_, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S512x1024, .f32⟩
  | .hbm, ⟨54, _⟩ => ⟨S1x1024x1024, .f32⟩
  | .hbm, ⟨55, _⟩ => ⟨S1024x1024, .f32⟩
  | .hbm, ⟨56, _⟩ => ⟨S512x1024, .f32⟩
  | .hbm, ⟨57, _⟩ => ⟨S512x1024, .f32⟩
  | .hbm, ⟨58, _⟩ => ⟨S1x1x1024, .f32⟩
  | .hbm, ⟨59, _⟩ => ⟨S1024, .f32⟩
  | .hbm, ⟨60, _⟩ => ⟨S512x1024, .f32⟩
  | .hbm, ⟨61, _⟩ => ⟨S_, .f32⟩
  | .hbm, ⟨62, _⟩ => ⟨S512, .f32⟩
  | .hbm, ⟨63, _⟩ => ⟨S512x1, .f32⟩
  | .hbm, ⟨64, _⟩ => ⟨S_, .f32⟩
  | .hbm, ⟨65, _⟩ => ⟨S512x1, .f32⟩
  | .hbm, ⟨66, _⟩ => ⟨S512x1, .f32⟩
  | .hbm, ⟨67, _⟩ => ⟨S_, .f32⟩
  | .hbm, ⟨68, _⟩ => ⟨S512x1, .f32⟩
  | .hbm, ⟨69, _⟩ => ⟨S512x1, .f32⟩
  | .hbm, ⟨70, _⟩ => ⟨S512x1, .f32⟩
  | .hbm, ⟨71, _⟩ => ⟨S512x1024, .f32⟩
  | .hbm, ⟨72, _⟩ => ⟨S512x1024, .f32⟩
  | .hbm, ⟨73, _⟩ => ⟨S1x1024, .f32⟩
  | .hbm, ⟨74, _⟩ => ⟨S512x1024, .f32⟩
  | .hbm, ⟨75, _⟩ => ⟨S512x1024, .f32⟩
  | .hbm, ⟨76, _⟩ => ⟨S1x1x1024x5632, .f32⟩
  | .hbm, ⟨77, _⟩ => ⟨S1024x5632, .f32⟩
  | .hbm, ⟨78, _⟩ => ⟨S1x1x2816x1024, .f32⟩
  | .hbm, ⟨79, _⟩ => ⟨S2816x1024, .f32⟩
  | .hbm, ⟨80, _⟩ => ⟨S512x5632, .f32⟩
  | .hbm, ⟨81, _⟩ => ⟨S512x2816, .f32⟩
  | .hbm, ⟨82, _⟩ => ⟨S512x2816, .f32⟩
  | .hbm, ⟨83, _⟩ => ⟨S512x2816, .f32⟩
  | .hbm, ⟨84, _⟩ => ⟨S512x2816, .f32⟩
  | .hbm, ⟨85, _⟩ => ⟨S_, .f32⟩
  | .hbm, ⟨86, _⟩ => ⟨S512x2816, .f32⟩
  | .hbm, ⟨87, _⟩ => ⟨S512x2816, .f32⟩
  | .hbm, ⟨88, _⟩ => ⟨S_, .f32⟩
  | .hbm, ⟨89, _⟩ => ⟨S512x2816, .f32⟩
  | .hbm, ⟨90, _⟩ => ⟨S512x2816, .f32⟩
  | .hbm, ⟨91, _⟩ => ⟨S512x2816, .f32⟩
  | .hbm, ⟨92, _⟩ => ⟨S512x2816, .f32⟩
  | .hbm, ⟨93, _⟩ => ⟨S512x1024, .f32⟩
  | .hbm, ⟨94, _⟩ => ⟨S_, .f32⟩
  | .hbm, ⟨95, _⟩ => ⟨S512x1024, .f32⟩
  | .hbm, ⟨96, _⟩ => ⟨S512x1024, .f32⟩
  | .hbm, ⟨97, _⟩ => ⟨S512x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_6 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Proof.Retention.lean ====
/- The retention recurrence over the reals: a head's state carried chunk by chunk is the decayed sum over the
   whole past, and a chunk's output (its own rows, plus what the carried state gives) is the decayed sum over
   every earlier row. Then the same statements for extended reals all of whose data are real. -/
module

public import Idealize.ShloMosaic.PureOps.Ideal.Laws
public import Idealize.ShloMosaic.Lib.IdealHost

@[expose] public section

noncomputable section

namespace Cert.Retention

/-- The logarithm of head `h`'s decay per step, `log (1 - 2^(-5-h))`. -/
def lg (h : ℕ) : ℝ := Real.log (1 - (2 : ℝ) ^ ((-5 : ℝ) - (h : ℝ)))

/-- Head `h`'s decay over `x` steps. -/
def dec (h : ℕ) (x : ℝ) : ℝ := Real.exp (x * lg h)

theorem dec_add (h : ℕ) (x y : ℝ) : dec h (x + y) = dec h x * dec h y := by
  unfold dec; rw [add_mul, Real.exp_add]

/-- The causal decay from row `s` to row `t`: nothing for a later row. -/
def mask (h t s : ℕ) : ℝ := if s ≤ t then dec h ((t : ℝ) - (s : ℝ)) else 0

/-- One entry of the state carried over chunks of 256 rows. -/
def rState (h : ℕ) (k v : ℕ → ℝ) : ℕ → ℝ
  | 0 => 0
  | n + 1 => rState h k v n * dec h 256
      + ∑ r ∈ Finset.range 256, (k (n * 256 + r) * dec h (255 - (r : ℝ))) * v (n * 256 + r)

theorem rState_eq (h : ℕ) (k v : ℕ → ℝ) (n : ℕ) :
    rState h k v n = ∑ s ∈ Finset.range (n * 256), (k s * dec h ((n * 256 : ℕ) - 1 - (s : ℝ))) * v s := by
  induction n with
  | zero => simp [rState]
  | succ n ih =>
    rw [rState, ih, Nat.succ_mul, Finset.sum_range_add, Finset.sum_mul]
    congr 1
    · refine Finset.sum_congr rfl fun s _ => ?_
      rw [show (((n * 256 + 256 : ℕ) : ℝ) - 1 - (s : ℝ)) = ((n * 256 : ℕ) - 1 - (s : ℝ)) + 256 by push_cast; ring, dec_add]
      ring
    · refine Finset.sum_congr rfl fun s _ => ?_
      rw [show (((n * 256 + 256 : ℕ) : ℝ) - 1 - ((n * 256 + s : ℕ) : ℝ)) = 255 - (s : ℝ) by push_cast; ring]

theorem rOut_eq {D : Type} [Fintype D] (h : ℕ) (q : D → ℝ) (k : ℕ → D → ℝ) (v : ℕ → ℝ) (n r : ℕ) (hn : n < 8)
    (hr : r < 256) :
    (∑ s ∈ Finset.range 256, ((∑ d, q d * k (n * 256 + s) d) * mask h r s) * v (n * 256 + s))
        + (∑ d, q d * rState h (fun s => k s d) v n) * dec h ((r : ℝ) + 1)
      = ∑ s ∈ Finset.range 2048, ((∑ d, q d * k s d) * mask h (n * 256 + r) s) * v s := by
  have e : 2048 = n * 256 + (256 + (7 - n) * 256) := by omega
  have e1 : ∀ f : ℕ → ℝ, (∑ s ∈ Finset.range 2048, f s) = ∑ s ∈ Finset.range (n * 256 + (256 + (7 - n) * 256)), f s := by
    intro f; rw [← e]
  rw [e1, Finset.sum_range_add, Finset.sum_range_add, add_comm]
  congr 1
  · have : ∀ d, q d * rState h (fun s => k s d) v n
        = ∑ s ∈ Finset.range (n * 256), q d * ((k s d * dec h ((n * 256 : ℕ) - 1 - (s : ℝ))) * v s) := by
      intro d; rw [rState_eq, Finset.mul_sum]
    rw [Finset.sum_congr rfl fun d _ => this d, Finset.sum_comm, Finset.sum_mul]
    refine Finset.sum_congr rfl fun s hs => ?_
    have hs' : s < n * 256 := Finset.mem_range.1 hs
    have hm : mask h (n * 256 + r) s = dec h ((n * 256 : ℕ) - 1 - (s : ℝ)) * dec h ((r : ℝ) + 1) := by
      rw [mask, if_pos (by omega), ← dec_add]
      congr 1; push_cast; ring
    rw [hm, Finset.sum_mul, Finset.sum_mul, Finset.sum_mul]
    refine Finset.sum_congr rfl fun d _ => ?_
    ring
  · rw [show (∑ x ∈ Finset.range ((7 - n) * 256), ((∑ d, q d * k (n * 256 + (256 + x)) d)
        * mask h (n * 256 + r) (n * 256 + (256 + x))) * v (n * 256 + (256 + x))) = 0 from
        Finset.sum_eq_zero fun s _ => by rw [mask, if_neg (by omega)]; ring, add_zero]
    refine Finset.sum_congr rfl fun s _ => ?_
    have hm : mask h (n * 256 + r) (n * 256 + s) = mask h r s := by
      unfold mask
      by_cases hle : s ≤ r
      · rw [if_pos hle, if_pos (by omega)]; congr 1; push_cast; ring
      · rw [if_neg hle, if_neg (by omega)]
    rw [hm]

/-! ## Extended reals -/

theorem coe_sum {ι : Type} (s : Finset ι) (f : ι → ℝ) : ((∑ i ∈ s, f i : ℝ) : EReal) = ∑ i ∈ s, (f i : EReal) :=
  map_sum (⟨⟨((↑) : ℝ → EReal), rfl⟩, EReal.coe_add⟩ : ℝ →+ EReal) f s

/-- One entry of the carried state, in extended reals, from `s0`: `cd` the decay of a chunk, `kd` the decay of
    each of its rows to its end. -/
def chain (cd : EReal) (kd : Fin 256 → EReal) (k v : ℕ → EReal) (s0 : EReal) : ℕ → EReal
  | 0 => s0
  | n + 1 => chain cd kd k v s0 n * cd + ∑ r : Fin 256, (k (n * 256 + r.val) * kd r) * v (n * 256 + r.val)

/-- Chunks carried on from where others ended. -/
theorem chain_add (cd : EReal) (kd : Fin 256 → EReal) (k v : ℕ → EReal) (s0 : EReal) (m n : ℕ) :
    chain cd kd (fun s => k (m * 256 + s)) (fun s => v (m * 256 + s)) (chain cd kd k v s0 m) n
      = chain cd kd k v s0 (m + n) := by
  induction n with
  | zero => rfl
  | succ n ih =>
    show _ = chain cd kd k v s0 (m + n) * cd + _
    rw [chain, ih]
    congr 1
    refine Finset.sum_congr rfl fun r _ => ?_
    rw [show m * 256 + (n * 256 + r.val) = (m + n) * 256 + r.val by ring]
    rfl

theorem chain_congr (cd : EReal) (kd : Fin 256 → EReal) {k k' v v' : ℕ → EReal} (s0 : EReal) (n : ℕ)
    (hk : ∀ s, s < n * 256 → k s = k' s) (hv : ∀ s, s < n * 256 → v s = v' s) :
    chain cd kd k v s0 n = chain cd kd k' v' s0 n := by
  induction n with
  | zero => rfl
  | succ n ih =>
    rw [chain, chain, ih (fun s hs => hk s (by omega)) (fun s hs => hv s (by omega))]
    congr 1
    refine Finset.sum_congr rfl fun r _ => ?_
    rw [hk _ (by have := r.isLt; omega), hv _ (by have := r.isLt; omega)]

theorem chain_coe (h : ℕ) (k v : ℕ → ℝ) (n : ℕ) :
    chain (dec h 256 : EReal) (fun r => ((dec h (255 - (r.val : ℝ)) : ℝ) : EReal)) (fun s => (k s : EReal))
      (fun s => (v s : EReal)) 0 n = ((rState h k v n : ℝ) : EReal) := by
  induction n with
  | zero => simp [chain, rState]
  | succ n ih =>
    rw [chain, ih, rState, Finset.sum_range]
    push_cast [coe_sum]
    rfl

/-- The state after `n` chunks, on real data: the decayed sum over the whole past. -/
theorem state_eq (h : ℕ) (k v : ℕ → ℝ) :
    chain (dec h 256 : EReal) (fun r => ((dec h (255 - (r.val : ℝ)) : ℝ) : EReal)) (fun s => (k s : EReal))
      (fun s => (v s : EReal)) 0 8
      = ∑ s : Fin 2048, ((k s.val : EReal) * ((dec h (2047 - (s.val : ℝ)) : ℝ) : EReal)) * (v s.val : EReal) := by
  rw [chain_coe, rState_eq, show 8 * 256 = 2048 from rfl, Finset.sum_range, coe_sum]
  refine Finset.sum_congr rfl fun s _ => ?_
  rw [show ((2048 : ℕ) : ℝ) - 1 - (s.val : ℝ) = 2047 - (s.val : ℝ) by push_cast; ring]
  push_cast
  rfl

/-- Row `r` of chunk `n`, on real data: its own chunk's earlier rows and the carried state together give the
    decayed sum over every earlier row of the sequence. -/
theorem out_eq (h : ℕ) (q : Fin 256 → ℝ) (k : ℕ → Fin 256 → ℝ) (v : ℕ → ℝ) (n r : ℕ) (hn : n < 8) (hr : r < 256) :
    (∑ s : Fin 256, ((∑ d, (q d : EReal) * (k (n * 256 + s.val) d : EReal)) * ((mask h r s.val : ℝ) : EReal))
          * (v (n * 256 + s.val) : EReal))
        + (∑ d, (q d : EReal) * chain (dec h 256 : EReal) (fun r => ((dec h (255 - (r.val : ℝ)) : ℝ) : EReal))
            (fun s => (k s d : EReal)) (fun s => (v s : EReal)) 0 n) * ((dec h ((r : ℝ) + 1) : ℝ) : EReal)
      = ∑ s : Fin 2048, ((∑ d, (q d : EReal) * (k s.val d : EReal)) * ((mask h (n * 256 + r) s.val : ℝ) : EReal))
          * (v s.val : EReal) := by
  have := congrArg ((↑) : ℝ → EReal) (rOut_eq h q k v n r hn hr)
  rw [Finset.sum_range, Finset.sum_range] at this
  push_cast [coe_sum] at this
  simp only [chain_coe]
  exact this

end Cert.Retention

end
-- ==== Proof.Words.lean ====
module

public import proofs.«01_k».proof.Proof.Retention

@[expose] public section

/-! The scalar words of the decay tables, read as real numbers: the constants both programs write, an index turned
    into a float, the logarithm of a head's decay, a decay, and a masked decay. -/

noncomputable section

namespace Cert.Retention

open Idealize.ShloMosaic

theorem f32_neg5 : (FloatOps.ofBits (F := Ideal) .f32 0xC0A00000#32 : EReal) = ((-5 : ℝ) : EReal) := by
  simp [Ideal.ofBits, Ideal.ieee, ← EReal.coe_mul]; norm_num
theorem f32_2 : (FloatOps.ofBits (F := Ideal) .f32 0x40000000#32 : EReal) = ((2 : ℝ) : EReal) := by
  simp [Ideal.ofBits, Ideal.ieee, ← EReal.coe_mul]; norm_num
theorem f32_1 : (FloatOps.ofBits (F := Ideal) .f32 0x3F800000#32 : EReal) = ((1 : ℝ) : EReal) := by
  simp [Ideal.ofBits, Ideal.ieee, ← EReal.coe_mul]; norm_num
theorem f32_0 : (FloatOps.ofBits (F := Ideal) .f32 0x00000000#32 : EReal) = ((0 : ℝ) : EReal) := by
  simp [Ideal.ofBits, Ideal.ieee]
theorem f32_3 : (FloatOps.ofBits (F := Ideal) .f32 0x40400000#32 : EReal) = ((3 : ℝ) : EReal) := by
  simp [Ideal.ofBits, Ideal.ieee, ← EReal.coe_mul]; norm_num
theorem f32_4 : (FloatOps.ofBits (F := Ideal) .f32 0x40800000#32 : EReal) = ((4 : ℝ) : EReal) := by
  simp [Ideal.ofBits, Ideal.ieee, ← EReal.coe_mul]; norm_num
theorem f32_255 : (FloatOps.ofBits (F := Ideal) .f32 0x437F0000#32 : EReal) = ((255 : ℝ) : EReal) := by
  simp [Ideal.ofBits, Ideal.ieee, ← EReal.coe_mul]; norm_num
theorem f32_256 : (FloatOps.ofBits (F := Ideal) .f32 0x43800000#32 : EReal) = ((256 : ℝ) : EReal) := by
  simp [Ideal.ofBits, Ideal.ieee, ← EReal.coe_mul]; norm_num
theorem f32_2047 : (FloatOps.ofBits (F := Ideal) .f32 0x44FFE000#32 : EReal) = ((2047 : ℝ) : EReal) := by
  simp [Ideal.ofBits, Ideal.ieee, ← EReal.coe_mul]; norm_num
theorem f32_2048 : (FloatOps.ofBits (F := Ideal) .f32 0x45000000#32 : EReal) = ((2048 : ℝ) : EReal) := by
  simp [Ideal.ofBits, Ideal.ieee, ← EReal.coe_mul]; norm_num

/-- A small index, as a float. -/
theorem sitofp_nat (n : ℕ) (h : n < 4096) :
    (FloatOps.sitofp (F := Ideal) .f32 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem sub_coe (a b : ℝ) : (FloatOps.subf (F := Ideal) (φ := .f32) (a : EReal) (b : EReal) : EReal) = ((a - b : ℝ) : EReal) := by
  show (a : EReal) - (b : EReal) = _
  push_cast; rfl
theorem add_coe (a b : ℝ) : (FloatOps.addf (F := Ideal) (φ := .f32) (a : EReal) (b : EReal) : EReal) = ((a + b : ℝ) : EReal) := by
  show (a : EReal) + (b : EReal) = _
  push_cast; rfl
theorem mul_coe (a b : ℝ) : (FloatOps.mulf (F := Ideal) (φ := .f32) (a : EReal) (b : EReal) : EReal) = ((a * b : ℝ) : EReal) := by
  show (a : EReal) * (b : EReal) = _
  push_cast; rfl
theorem exp_coe (a : ℝ) : (FloatOps.hostUnary (F := Ideal) (φ := .f32) .exp (a : EReal) : EReal) = ((Real.exp a : ℝ) : EReal) := rfl

/-- The logarithm of one head's decay per token. -/
theorem log_gamma (h : ℕ) (hh : h < 4096) :
    (FloatOps.hostUnary (F := Ideal) (φ := .f32) .log
      (FloatOps.subf (F := Ideal) (φ := .f32) (FloatOps.ofBits .f32 0x3F800000#32)
        (FloatOps.hostPowf (F := Ideal) (φ := .f32) (FloatOps.ofBits .f32 0x40000000#32)
          (FloatOps.subf (F := Ideal) (φ := .f32) (FloatOps.ofBits .f32 0xC0A00000#32)
            (FloatOps.sitofp .f32 (BitVec.ofNat 32 h))))) : EReal) = ((lg h : ℝ) : EReal) := by
  rw [sitofp_nat h hh, f32_1, f32_2, f32_neg5, sub_coe]
  have hp : (FloatOps.hostPowf (F := Ideal) (φ := .f32) ((2 : ℝ) : EReal) ((-5 - (h : ℝ) : ℝ) : EReal) : EReal)
      = (((2 : ℝ) ^ (-5 - (h : ℝ)) : ℝ) : EReal) := rfl
  rw [hp, sub_coe]
  have hlt : (2 : ℝ) ^ (-5 - (h : ℝ)) < 1 := Real.rpow_lt_one_of_one_lt_of_neg (by norm_num) (by have : (0 : ℝ) ≤ h := Nat.cast_nonneg h; linarith)
  show (if (1 - (2 : ℝ) ^ (-5 - (h : ℝ))) ≤ 0 then (⊥ : EReal) else ((Real.log (1 - (2 : ℝ) ^ (-5 - (h : ℝ))) : ℝ) : EReal)) = _
  rw [if_neg (by linarith)]
  rfl

/-- A decay over `x` tokens. -/
theorem decay_word (h : ℕ) (x : ℝ) :
    (FloatOps.hostUnary (F := Ideal) (φ := .f32) .exp (FloatOps.mulf (F := Ideal) (φ := .f32) (x : EReal) ((lg h : ℝ) : EReal)) : EReal)
      = ((dec h x : ℝ) : EReal) := by
  rw [mul_coe, exp_coe]; rfl

/-- The masked decay between two tokens. -/
theorem mask_word (h t s : ℕ) :
    (Scalar.select (FloatOps.cmpf (F := Ideal) (φ := .f32) .oge (((t : ℝ) - (s : ℝ) : ℝ) : EReal) ((0 : ℝ) : EReal))
      ((dec h ((t : ℝ) - (s : ℝ)) : ℝ) : EReal) ((0 : ℝ) : EReal) : EReal) = ((mask h t s : ℝ) : EReal) := by
  have hc : (FloatOps.cmpf (F := Ideal) (φ := .f32) .oge (((t : ℝ) - (s : ℝ) : ℝ) : EReal) ((0 : ℝ) : EReal))
      = BitVec.ofBool (decide (s ≤ t)) := by
    show BitVec.ofBool (decide (((0 : ℝ) : EReal) ≤ (((t : ℝ) - (s : ℝ) : ℝ) : EReal))) = _
    congr 1
    rw [decide_eq_decide, EReal.coe_le_coe_iff, sub_nonneg, Nat.cast_le]
  rw [hc]
  unfold mask
  by_cases hst : s ≤ t
  · rw [if_pos hst, decide_eq_true hst]; rfl
  · rw [if_neg hst, decide_eq_false hst]; rfl

end Cert.Retention

end
-- ==== Proof.Chunk.lean ====
module

public import proofs.«01_k».proof.Proof.Words
public import proofs.«01_k».proof.Proof.Gen.KernelIdeal.Skeleton
public import Idealize.ShloMosaic.Lib.Pointwise
public import Idealize.ShloMosaic.Lib.Pipeline.ValueKit

@[expose] public section

/-! What one grid point computes for the prompt, over its blocks: the row blocks of a chunk, the stages of a chunk
    (scores, decayed update, intra- and inter-chunk output, norm), each at an index, and the four chunks of a head. -/

noncomputable section

namespace Cert.Retention

open Idealize.ShloMosaic Idealize.ShloMosaic.TcCoe Cert.KernelIdeal Cert.KernelIdeal.Gen

/-! ## The blocks of a chunk -/

/-- Row `s`, feature `d` of head `hl` of a query or key block. -/
def kRow (x : Vec Ideal S1024x512 .bf16) (hl s : ℕ) (d : Fin 256) : EReal :=
  x (ix2 (⟨s % 1024, Nat.mod_lt _ (by decide)⟩ : Fin 1024) (⟨(hl * 256 + d.val) % 512, Nat.mod_lt _ (by decide)⟩ : Fin 512))
/-- Row `s`, feature `e` of head `hl` of a value block. -/
def vRow (x : Vec Ideal S1024x1024 .bf16) (hl s : ℕ) (e : Fin 512) : EReal :=
  x (ix2 (⟨s % 1024, Nat.mod_lt _ (by decide)⟩ : Fin 1024) (⟨(hl * 512 + e.val) % 1024, Nat.mod_lt _ (by decide)⟩ : Fin 1024))
/-- A per-head number read at head `hl` of the pair. -/
def hd2 (hl : ℕ) : Fin 2 := ⟨hl % 2, Nat.mod_lt _ (by decide)⟩

def kBlk (x : Vec Ideal S1024x512 .bf16) (n hl : ℕ) : Vec Ideal S256x256 .bf16 := fun i => kRow x hl (n * 256 + (i 0).val) (i 1)
def vBlk (x : Vec Ideal S1024x1024 .bf16) (n hl : ℕ) : Vec Ideal S256x512 .bf16 := fun i => vRow x hl (n * 256 + (i 0).val) (i 1)
def dmBlk (x : Vec Ideal S2x256x256 .f32) (hl : ℕ) : Vec Ideal S1x256x256 .f32 := fun i => x (ix3 (hd2 hl) (i 1) (i 2))
def colBlk (x : Vec Ideal S2x256x1 .f32) (hl : ℕ) : Vec Ideal S1x256x1 .f32 := fun i => x (ix3 (hd2 hl) (i 1) (i 2))
def gnBlk (x : Vec Ideal S1x2x1x512 .f32) (hl : ℕ) : Vec Ideal S1x1x1x512 .f32 := fun i => x (ix4 (i 0) (hd2 hl) (i 2) (i 3))
def stBlk (x : Vec Ideal S1x1x2x256x512 .f32) (hl : ℕ) : Vec Ideal S1x1x1x256x512 .f32 :=
  fun i => x (ix5 (i 0) (i 1) (hd2 hl) (i 3) (i 4))

theorem ld_k_0_0 (x : Vec Ideal S1024x512 .bf16) :
    View.ld x (Rect.unit ![0, 0] ![256, 256] inb_S1024x512_S256x256_0_0) = kBlk x 0 0 := by
  funext i; pointwise; unfold kBlk kRow; blk_ext []
theorem ld_v_0_0 (x : Vec Ideal S1024x1024 .bf16) :
    View.ld x (Rect.unit ![0, 0] ![256, 512] inb_S1024x1024_S256x512_0_0) = vBlk x 0 0 := by
  funext i; pointwise; unfold vBlk vRow; blk_ext []
theorem ld_k_1_0 (x : Vec Ideal S1024x512 .bf16) :
    View.ld x (Rect.unit ![256, 0] ![256, 256] inb_S1024x512_S256x256_256_0) = kBlk x 1 0 := by
  funext i; pointwise; unfold kBlk kRow; blk_ext []
theorem ld_v_1_0 (x : Vec Ideal S1024x1024 .bf16) :
    View.ld x (Rect.unit ![256, 0] ![256, 512] inb_S1024x1024_S256x512_256_0) = vBlk x 1 0 := by
  funext i; pointwise; unfold vBlk vRow; blk_ext []
theorem ld_k_2_0 (x : Vec Ideal S1024x512 .bf16) :
    View.ld x (Rect.unit ![512, 0] ![256, 256] inb_S1024x512_S256x256_512_0) = kBlk x 2 0 := by
  funext i; pointwise; unfold kBlk kRow; blk_ext []
theorem ld_v_2_0 (x : Vec Ideal S1024x1024 .bf16) :
    View.ld x (Rect.unit ![512, 0] ![256, 512] inb_S1024x1024_S256x512_512_0) = vBlk x 2 0 := by
  funext i; pointwise; unfold vBlk vRow; blk_ext []
theorem ld_k_3_0 (x : Vec Ideal S1024x512 .bf16) :
    View.ld x (Rect.unit ![768, 0] ![256, 256] inb_S1024x512_S256x256_768_0) = kBlk x 3 0 := by
  funext i; pointwise; unfold kBlk kRow; blk_ext []
theorem ld_v_3_0 (x : Vec Ideal S1024x1024 .bf16) :
    View.ld x (Rect.unit ![768, 0] ![256, 512] inb_S1024x1024_S256x512_768_0) = vBlk x 3 0 := by
  funext i; pointwise; unfold vBlk vRow; blk_ext []
theorem ld_dm_0 (x : Vec Ideal S2x256x256 .f32) :
    View.ld x (Rect.unit ![0, 0, 0] ![1, 256, 256] inb_S2x256x256_S1x256x256_0_0_0) = dmBlk x 0 := by
  funext i; pointwise; unfold dmBlk hd2; blk_ext []
theorem ld_col_0 (x : Vec Ideal S2x256x1 .f32) :
    View.ld x (Rect.unit ![0, 0, 0] ![1, 256, 1] inb_S2x256x1_S1x256x1_0_0_0) = colBlk x 0 := by
  funext i; pointwise; unfold colBlk hd2; blk_ext []
theorem ld_gn_0 (x : Vec Ideal S1x2x1x512 .f32) :
    View.ld x (Rect.unit ![0, 0, 0, 0] ![1, 1, 1, 512] inb_S1x2x1x512_S1x1x1x512_0_0_0_0) = gnBlk x 0 := by
  funext i; pointwise; unfold gnBlk hd2; blk_ext []
theorem ld_st_0 (x : Vec Ideal S1x1x2x256x512 .f32) :
    View.ld x (Rect.unit ![0, 0, 0, 0, 0] ![1, 1, 1, 256, 512] inb_S1x1x2x256x512_S1x1x1x256x512_0_0_0_0_0) = stBlk x 0 := by
  funext i; pointwise; unfold stBlk hd2; blk_ext []
theorem ld_k_0_1 (x : Vec Ideal S1024x512 .bf16) :
    View.ld x (Rect.unit ![0, 256] ![256, 256] inb_S1024x512_S256x256_0_256) = kBlk x 0 1 := by
  funext i; pointwise; unfold kBlk kRow; blk_ext []
theorem ld_v_0_1 (x : Vec Ideal S1024x1024 .bf16) :
    View.ld x (Rect.unit ![0, 512] ![256, 512] inb_S1024x1024_S256x512_0_512) = vBlk x 0 1 := by
  funext i; pointwise; unfold vBlk vRow; blk_ext []
theorem ld_k_1_1 (x : Vec Ideal S1024x512 .bf16) :
    View.ld x (Rect.unit ![256, 256] ![256, 256] inb_S1024x512_S256x256_256_256) = kBlk x 1 1 := by
  funext i; pointwise; unfold kBlk kRow; blk_ext []
theorem ld_v_1_1 (x : Vec Ideal S1024x1024 .bf16) :
    View.ld x (Rect.unit ![256, 512] ![256, 512] inb_S1024x1024_S256x512_256_512) = vBlk x 1 1 := by
  funext i; pointwise; unfold vBlk vRow; blk_ext []
theorem ld_k_2_1 (x : Vec Ideal S1024x512 .bf16) :
    View.ld x (Rect.unit ![512, 256] ![256, 256] inb_S1024x512_S256x256_512_256) = kBlk x 2 1 := by
  funext i; pointwise; unfold kBlk kRow; blk_ext []
theorem ld_v_2_1 (x : Vec Ideal S1024x1024 .bf16) :
    View.ld x (Rect.unit ![512, 512] ![256, 512] inb_S1024x1024_S256x512_512_512) = vBlk x 2 1 := by
  funext i; pointwise; unfold vBlk vRow; blk_ext []
theorem ld_k_3_1 (x : Vec Ideal S1024x512 .bf16) :
    View.ld x (Rect.unit ![768, 256] ![256, 256] inb_S1024x512_S256x256_768_256) = kBlk x 3 1 := by
  funext i; pointwise; unfold kBlk kRow; blk_ext []
theorem ld_v_3_1 (x : Vec Ideal S1024x1024 .bf16) :
    View.ld x (Rect.unit ![768, 512] ![256, 512] inb_S1024x1024_S256x512_768_512) = vBlk x 3 1 := by
  funext i; pointwise; unfold vBlk vRow; blk_ext []
theorem ld_dm_1 (x : Vec Ideal S2x256x256 .f32) :
    View.ld x (Rect.unit ![1, 0, 0] ![1, 256, 256] inb_S2x256x256_S1x256x256_1_0_0) = dmBlk x 1 := by
  funext i; pointwise; unfold dmBlk hd2; blk_ext []
theorem ld_col_1 (x : Vec Ideal S2x256x1 .f32) :
    View.ld x (Rect.unit ![1, 0, 0] ![1, 256, 1] inb_S2x256x1_S1x256x1_1_0_0) = colBlk x 1 := by
  funext i; pointwise; unfold colBlk hd2; blk_ext []
theorem ld_gn_1 (x : Vec Ideal S1x2x1x512 .f32) :
    View.ld x (Rect.unit ![0, 1, 0, 0] ![1, 1, 1, 512] inb_S1x2x1x512_S1x1x1x512_0_1_0_0) = gnBlk x 1 := by
  funext i; pointwise; unfold gnBlk hd2; blk_ext []
theorem ld_st_1 (x : Vec Ideal S1x1x2x256x512 .f32) :
    View.ld x (Rect.unit ![0, 0, 1, 0, 0] ![1, 1, 1, 256, 512] inb_S1x1x2x256x512_S1x1x1x256x512_0_0_1_0_0) = stBlk x 1 := by
  funext i; pointwise; unfold stBlk hd2; blk_ext []

/-! ## The stages of a chunk -/

/-- A chunk's decayed update of the state: `kᵀ · v` with every key scaled by its decay to the chunk's end, onto the
    decayed state. -/
def stepV (S : Vec Ideal S256x512 .f32) (cd : EReal) (k : Vec Ideal S256x256 .bf16) (v : Vec Ideal S256x512 .bf16)
    (kd : Vec Ideal S1x256x1 .f32) : Vec Ideal S256x512 .f32 := k0_pay97 (F := Ideal) S cd (k0_pay77 k v kd)

/-- A chunk's output: the masked scores on its own values and the queries on the carried state, then the head's norm. -/
def outV (q k : Vec Ideal S256x256 .bf16) (v : Vec Ideal S256x512 .bf16) (dm : Vec Ideal S1x256x256 .f32)
    (S : Vec Ideal S256x512 .f32) (qd : Vec Ideal S1x256x1 .f32) (g : Vec Ideal S1x1x1x512 .f32) : Vec Ideal S256x512 .bf16 :=
  k0_pay118 (k0_pay92 v (k0_pay73 q k) dm) (k0_pay96 q S) qd g

theorem stepV_apply (S : Vec Ideal S256x512 .f32) (cd : EReal) (k : Vec Ideal S256x256 .bf16) (v : Vec Ideal S256x512 .bf16)
    (kd : Vec Ideal S1x256x1 .f32) (d : Fin 256) (e : Fin 512) :
    stepV S cd k v kd (ix2 d e) = S (ix2 d e) * cd + ∑ r : Fin 256, (k (ix2 r d) * kd (ix3 0 r 0)) * v (ix2 r e) := by
  unfold stepV k0_pay97 k0_pay77
  pointwise

/-- The norm of a head's output row: divided by the root of its mean square and scaled. -/
def nrm (o g : Fin 512 → EReal) (e : Fin 512) : EReal :=
  o e * Ideal.rsqrt (Ideal.div (∑ x, o x * o x) (Ideal.ofBits FTy.f32 0x44000000#32) + Ideal.ofBits FTy.f32 0x358637BD#32) * g e

theorem intra_apply (q k : Vec Ideal S256x256 .bf16) (v : Vec Ideal S256x512 .bf16) (dm : Vec Ideal S1x256x256 .f32) (r : Fin 256) (e : Fin 512) :
    k0_pay92 v (k0_pay73 q k) dm (ix2 r e)
      = ∑ s : Fin 256, ((∑ d : Fin 256, q (ix2 r d) * k (ix2 s d)) * dm (ix3 0 r s)) * v (ix2 s e) := by
  unfold k0_pay92 k0_pay73
  pointwise
theorem inter_apply (q : Vec Ideal S256x256 .bf16) (S : Vec Ideal S256x512 .f32) (r : Fin 256) (e : Fin 512) :
    k0_pay96 q S (ix2 r e) = ∑ d : Fin 256, q (ix2 r d) * S (ix2 d e) := by
  unfold k0_pay96
  pointwise
theorem norm_apply (a b : Vec Ideal S256x512 .f32) (qd : Vec Ideal S1x256x1 .f32) (g : Vec Ideal S1x1x1x512 .f32) (r : Fin 256) (e : Fin 512) :
    k0_pay118 a b qd g (ix2 r e) = nrm (fun e => a (ix2 r e) + b (ix2 r e) * qd (ix3 0 r 0)) (fun e => g (ix4 0 0 0 e)) e := by
  unfold k0_pay118 nrm
  pointwise

/-! ## The four chunks of a head -/

section Head
variable (x0 x1 : Vec Ideal S1024x512 .bf16) (x2 : Vec Ideal S1024x1024 .bf16) (x3 : Vec Ideal S1x2x1x512 .f32)
  (x4 : Vec Ideal S2x256x256 .f32) (x5 x6 : Vec Ideal S2x256x1 .f32) (cd : ℕ → EReal) (S : ℕ → Vec Ideal S1x1x1x256x512 .f32)

/-- Head `hl`'s state after `n` of the block's chunks, from `S`. -/
def stV (hl : ℕ) : ℕ → Vec Ideal S256x512 .f32
  | 0 => k0_pay72 (S hl)
  | n + 1 => stepV (stV hl n) (cd hl) (kBlk x1 n hl) (vBlk x2 n hl) (colBlk x6 hl)

/-- Head `hl`'s output on chunk `n` of the block. -/
def chunkV (hl n : ℕ) : Vec Ideal S256x512 .bf16 :=
  outV (kBlk x0 n hl) (kBlk x1 n hl) (vBlk x2 n hl) (dmBlk x4 hl) (stV x1 x2 x6 cd S hl n) (colBlk x5 hl) (gnBlk x3 hl)

/-- The state at an index: the recursion over chunks. -/
theorem stV_apply (hl n : ℕ) (d : Fin 256) (e : Fin 512) :
    stV x1 x2 x6 cd S hl n (ix2 d e)
      = chain (cd hl) (fun r => x6 (ix3 (hd2 hl) r 0)) (fun s => kRow x1 hl s d) (fun s => vRow x2 hl s e) (S hl (ix5 0 0 0 d e)) n := by
  induction n with
  | zero =>
    show k0_pay72 (S hl) (ix2 d e) = S hl (ix5 0 0 0 d e)
    unfold k0_pay72
    pointwise
  | succ n ih => rw [stV, stepV_apply, ih]; rfl

/-- Row `r` of chunk `n` of head `hl` before the norm. -/
def oRow (hl n : ℕ) (r : Fin 256) (e : Fin 512) : EReal :=
  (∑ s : Fin 256, ((∑ d : Fin 256, kRow x0 hl (n * 256 + r.val) d * kRow x1 hl (n * 256 + s.val) d) * x4 (ix3 (hd2 hl) r s))
      * vRow x2 hl (n * 256 + s.val) e)
    + (∑ d : Fin 256, kRow x0 hl (n * 256 + r.val) d
        * chain (cd hl) (fun r => x6 (ix3 (hd2 hl) r 0)) (fun s => kRow x1 hl s d) (fun s => vRow x2 hl s e) (S hl (ix5 0 0 0 d e)) n)
      * x5 (ix3 (hd2 hl) r 0)

theorem chunkV_apply (hl n : ℕ) (r : Fin 256) (e : Fin 512) :
    chunkV x0 x1 x2 x3 x4 x5 x6 cd S hl n (ix2 r e)
      = nrm (oRow x0 x1 x2 x4 x5 x6 cd S hl n r) (fun e => x3 (ix4 0 (hd2 hl) 0 e)) e := by
  unfold chunkV outV
  rw [norm_apply]
  simp only [intra_apply, inter_apply, stV_apply]
  rfl

end Head

end Cert.Retention

end
-- ==== Proof.Tables.lean ====
module

public import proofs.«01_k».proof.Proof.Words
public import proofs.«01_k».proof.Proof.Gen.KernelIdeal.Frame.Runs
public import Idealize.ShloMosaic.Lib.StableHlo.ReadAt
public import Idealize.ShloMosaic.Lib.Claim
public import Idealize.ShloMosaic.Lib.Tactic

@[expose] public section

/-! The tables that the program's host operations make before the launch, at an index: every one a decay of a head. -/

noncomputable section

namespace Cert.Retention

open Idealize.ShloMosaic Idealize.ShloMosaic.TcCoe Cert.KernelIdeal Cert.KernelIdeal.Gen

variable (m : (ℓ : Loc nD τ sig) → Buf (Elt Ideal) ℓ) (c : Dev nD)

theorem zero_word : (id (constant (F := Ideal) S_ FTy.f32 0#32) ix0 : EReal) = ((0 : ℝ) : EReal) := f32_0

theorem V_dm (h : Fin 4) (t s : Fin 256) :
    V m c main_v24 (ix3 h t s) = ((mask h t s : ℝ) : EReal) := by
  unfold V
  after_reads_at
  rw [zero_word, log_gamma _ (by omega), sitofp_nat _ (by omega), sitofp_nat _ (by omega), sub_coe, decay_word, f32_0]
  exact mask_word _ _ _

theorem V_qd (h : Fin 4) (t : Fin 256) :
    V m c main_v44 (ix3 h t 0) = ((dec h ((t.val : ℝ) + 1) : ℝ) : EReal) := by
  unfold V
  after_reads_at
  rw [log_gamma _ (by omega), sitofp_nat _ (by omega), f32_1, add_coe, decay_word]

theorem V_kd (h : Fin 4) (t : Fin 256) :
    V m c main_v45 (ix3 h t 0) = ((dec h (255 - (t.val : ℝ)) : ℝ) : EReal) := by
  unfold V
  after_reads_at
  rw [log_gamma _ (by omega), sitofp_nat _ (by omega), f32_255, sub_coe, decay_word]

theorem V_cd (h : Fin 4) : V m c main_v43 (ix1 h) = ((dec h 256 : ℝ) : EReal) := by
  unfold V
  after_reads_at
  rw [log_gamma _ (by omega), f32_256, decay_word]

theorem V_cds (h : Fin 4) : V m c main_v88 (ix1 h) = ((dec h 4 : ℝ) : EReal) := by
  unfold V
  after_reads_at
  rw [log_gamma _ (by omega), f32_4, decay_word]

theorem V_gn (l : Fin 2) (h : Fin 4) (e : Fin 512) :
    V m c main_v0 (ix4 l h 0 e) = m ((c : Thread nD τ).loc main_arg6) (ix3 l h e) := by
  unfold V
  after_reads_at

theorem V_qds (h : Fin 4) (a : Fin 64) :
    V m c main_v97 (ix3 h a 0) = ((dec h (((a.val % 4 : ℕ) : ℝ) + 1) : ℝ) : EReal) := by
  unfold V
  after_reads_at
  rw [log_gamma _ (by omega), sitofp_nat _ (by omega), f32_1, add_coe, decay_word]

theorem V_kds (h : Fin 4) (a : Fin 64) :
    V m c main_v101 (ix3 h a 0) = ((dec h (3 - ((a.val % 4 : ℕ) : ℝ)) : ℝ) : EReal) := by
  unfold V
  after_reads_at
  rw [log_gamma _ (by omega), sitofp_nat _ (by omega), f32_3, sub_coe, decay_word]

/-- The literal block mask: row and column belong to the same sequence of four rows. -/
theorem lit_same : ∀ i : Fin 4096, lit0 i = BitVec.ofBool (decide (i.val / 64 / 4 = i.val % 64 / 4)) := by
  decide +kernel

theorem same_seq (a b : Fin 64) :
    lit0 (S64x64.rowMajor (ix2 a b)) = BitVec.ofBool (decide (a.val / 4 = b.val / 4)) := by
  have h : (S64x64.rowMajor (ix2 a b)).val = a.val * 64 + b.val :=
    Shape.rowMajor_val_two (d := ![64, 64]) (ix2 a b)
  refine (lit_same (S64x64.rowMajor (ix2 a b))).trans ?_
  rw [h]
  congr 2
  rw [eq_iff_iff, show (a.val * 64 + b.val) / 64 = a.val by omega, show (a.val * 64 + b.val) % 64 = b.val by omega]

theorem V_dms (h : Fin 4) (a b : Fin 64) :
    V m c main_v93 (ix3 h a b) = ((if a.val / 4 = b.val / 4 then mask h (a.val % 4) (b.val % 4) else 0 : ℝ) : EReal) := by
  unfold V
  after_reads_at
  rw [zero_word, log_gamma _ (by omega), sitofp_nat _ (by omega), sitofp_nat _ (by omega), sub_coe, decay_word, f32_0,
    mask_word, same_seq]
  by_cases hab : a.val / 4 = b.val / 4
  · rw [if_pos hab, decide_eq_true hab]; rfl
  · rw [if_neg hab, decide_eq_false hab]; rfl

end Cert.Retention

end
-- ==== Proof.Blocks.lean ====
module

public import proofs.«01_k».proof.Proof.Chunk
public import proofs.«01_k».proof.Proof.Tables
public import proofs.«01_k».proof.Proof.Gen.KernelIdeal.Value
public import Idealize.ShloMosaic.Lib.Pipeline.ValueKit
public import Idealize.ShloMosaic.Lib.Pipeline.ReadBack

@[expose] public section

/-! The blocks that a grid point is given, read in the arrays they were cut from. -/

set_option maxRecDepth 16384

noncomputable section

namespace Cert.Retention

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

theorem idx_0 (t : Fin cfg0.N) : win0_0.index t = ![t.val / 4 * 2 + t.val % 2, t.val / 2 % 2] := by revert t; decide +kernel
theorem idx_1 (t : Fin cfg0.N) : win0_1.index t = ![t.val / 4 * 2 + t.val % 2, t.val / 2 % 2] := by revert t; decide +kernel
theorem idx_2 (t : Fin cfg0.N) : win0_2.index t = ![t.val / 4 * 2 + t.val % 2, t.val / 2 % 2] := by revert t; decide +kernel
theorem idx_3 (t : Fin cfg0.N) : win0_3.index t = ![1, t.val / 2 % 2, 0, 0] := by revert t; decide +kernel
theorem idx_4 (t : Fin cfg0.N) : win0_4.index t = ![t.val / 2 % 2, 0, 0] := by revert t; decide +kernel
theorem idx_5 (t : Fin cfg0.N) : win0_5.index t = ![t.val / 2 % 2, 0, 0] := by revert t; decide +kernel
theorem idx_6 (t : Fin cfg0.N) : win0_6.index t = ![t.val / 2 % 2, 0, 0] := by revert t; decide +kernel
theorem idx_7 (t : Fin cfg0.N) : win0_7.index t = ![0] := by revert t; decide +kernel
theorem idx_8 (t : Fin cfg0.N) : win0_8.index t = ![t.val / 4, t.val % 4] := by revert t; decide +kernel
theorem idx_9 (t : Fin cfg0.N) : win0_9.index t = ![t.val / 4, t.val % 4] := by revert t; decide +kernel
theorem idx_10 (t : Fin cfg0.N) : win0_10.index t = ![t.val / 4, t.val % 4] := by revert t; decide +kernel
theorem idx_11 (t : Fin cfg0.N) : win0_11.index t = ![1, t.val % 4, 0, 0] := by revert t; decide +kernel
theorem idx_12 (t : Fin cfg0.N) : win0_12.index t = ![t.val % 4, 0, 0] := by revert t; decide +kernel
theorem idx_13 (t : Fin cfg0.N) : win0_13.index t = ![t.val % 4, 0, 0] := by revert t; decide +kernel
theorem idx_14 (t : Fin cfg0.N) : win0_14.index t = ![t.val % 4, 0, 0] := by revert t; decide +kernel
theorem idx_15 (t : Fin cfg0.N) : win0_15.index t = ![0] := by revert t; decide +kernel
theorem idx_16 (t : Fin cfg0.N) : win0_16.index t = ![1, t.val / 4, t.val % 4, 0, 0] := by revert t; decide +kernel
theorem idx_17 (t : Fin cfg0.N) : win0_17.index t = ![t.val / 4 * 2 + t.val % 2, t.val / 2 % 2] := by revert t; decide +kernel
theorem idx_18 (t : Fin cfg0.N) : win0_18.index t = ![1, t.val / 4, t.val / 2 % 2, 0, 0] := by revert t; decide +kernel
theorem idx_19 (t : Fin cfg0.N) : win0_19.index t = ![t.val / 4, t.val % 4] := by revert t; decide +kernel
theorem idx_20 (t : Fin cfg0.N) : win0_20.index t = ![1, t.val / 4, t.val % 4, 0, 0] := by revert t; decide +kernel

theorem iblk_0 (t : Fin cfg0.N) (a : Fin 1024) (b : Fin 512) :
    iblk m c 0 t (ix2 a b) = m ((c : Thread nD τ).loc main_arg0) (ix2 (⟨(t.val / 4 * 2048 + t.val % 2 * 1024 + a.val) % 16384, Nat.mod_lt _ (by decide)⟩ : Fin 16384) (⟨(t.val / 2 % 2 * 512 + b.val) % 1024, Nat.mod_lt _ (by decide)⟩ : Fin 1024)) := by
  have hN : t.val < 32 := t.isLt
  blk_ext [iblk, V_main_arg0, idx_0 t]
theorem iblk_1 (t : Fin cfg0.N) (a : Fin 1024) (b : Fin 512) :
    iblk m c 1 t (ix2 a b) = m ((c : Thread nD τ).loc main_arg1) (ix2 (⟨(t.val / 4 * 2048 + t.val % 2 * 1024 + a.val) % 16384, Nat.mod_lt _ (by decide)⟩ : Fin 16384) (⟨(t.val / 2 % 2 * 512 + b.val) % 1024, Nat.mod_lt _ (by decide)⟩ : Fin 1024)) := by
  have hN : t.val < 32 := t.isLt
  blk_ext [iblk, V_main_arg1, idx_1 t]
theorem iblk_2 (t : Fin cfg0.N) (a : Fin 1024) (b : Fin 1024) :
    iblk m c 2 t (ix2 a b) = m ((c : Thread nD τ).loc main_arg2) (ix2 (⟨(t.val / 4 * 2048 + t.val % 2 * 1024 + a.val) % 16384, Nat.mod_lt _ (by decide)⟩ : Fin 16384) (⟨(t.val / 2 % 2 * 1024 + b.val) % 2048, Nat.mod_lt _ (by decide)⟩ : Fin 2048)) := by
  have hN : t.val < 32 := t.isLt
  blk_ext [iblk, V_main_arg2, idx_2 t]
theorem iblk_8 (t : Fin cfg0.N) (a : Fin 64) (b : Fin 256) :
    iblk m c 8 t (ix2 a b) = m ((c : Thread nD τ).loc main_arg3) (ix2 (⟨(t.val / 4 * 64 + a.val) % 512, Nat.mod_lt _ (by decide)⟩ : Fin 512) (⟨(t.val % 4 * 256 + b.val) % 1024, Nat.mod_lt _ (by decide)⟩ : Fin 1024)) := by
  have hN : t.val < 32 := t.isLt
  blk_ext [iblk, V_main_arg3, idx_8 t]
theorem iblk_9 (t : Fin cfg0.N) (a : Fin 64) (b : Fin 256) :
    iblk m c 9 t (ix2 a b) = m ((c : Thread nD τ).loc main_arg4) (ix2 (⟨(t.val / 4 * 64 + a.val) % 512, Nat.mod_lt _ (by decide)⟩ : Fin 512) (⟨(t.val % 4 * 256 + b.val) % 1024, Nat.mod_lt _ (by decide)⟩ : Fin 1024)) := by
  have hN : t.val < 32 := t.isLt
  blk_ext [iblk, V_main_arg4, idx_9 t]
theorem iblk_10 (t : Fin cfg0.N) (a : Fin 64) (b : Fin 512) :
    iblk m c 10 t (ix2 a b) = m ((c : Thread nD τ).loc main_arg5) (ix2 (⟨(t.val / 4 * 64 + a.val) % 512, Nat.mod_lt _ (by decide)⟩ : Fin 512) (⟨(t.val % 4 * 512 + b.val) % 2048, Nat.mod_lt _ (by decide)⟩ : Fin 2048)) := by
  have hN : t.val < 32 := t.isLt
  blk_ext [iblk, V_main_arg5, idx_10 t]
theorem iblk_4 (t : Fin cfg0.N) (h : Fin 2) (a : Fin 256) (b : Fin 256) :
    iblk m c 4 t (ix3 h a b) = V m c main_v24 (ix3 (⟨(t.val / 2 % 2 * 2 + h.val) % 4, Nat.mod_lt _ (by decide)⟩ : Fin 4) a b) := by
  have hN : t.val < 32 := t.isLt
  blk_ext [iblk, idx_4 t]
theorem iblk_5 (t : Fin cfg0.N) (h : Fin 2) (a : Fin 256) (b : Fin 1) :
    iblk m c 5 t (ix3 h a b) = V m c main_v44 (ix3 (⟨(t.val / 2 % 2 * 2 + h.val) % 4, Nat.mod_lt _ (by decide)⟩ : Fin 4) a b) := by
  have hN : t.val < 32 := t.isLt
  blk_ext [iblk, idx_5 t]
theorem iblk_6 (t : Fin cfg0.N) (h : Fin 2) (a : Fin 256) (b : Fin 1) :
    iblk m c 6 t (ix3 h a b) = V m c main_v45 (ix3 (⟨(t.val / 2 % 2 * 2 + h.val) % 4, Nat.mod_lt _ (by decide)⟩ : Fin 4) a b) := by
  have hN : t.val < 32 := t.isLt
  blk_ext [iblk, idx_6 t]
theorem iblk_12 (t : Fin cfg0.N) (a : Fin 64) (b : Fin 64) :
    iblk m c 12 t (ix3 0 a b) = V m c main_v93 (ix3 (⟨(t.val % 4) % 4, Nat.mod_lt _ (by decide)⟩ : Fin 4) a b) := by
  have hN : t.val < 32 := t.isLt
  blk_ext [iblk, idx_12 t]
theorem iblk_13 (t : Fin cfg0.N) (a : Fin 64) (b : Fin 1) :
    iblk m c 13 t (ix3 0 a b) = V m c main_v97 (ix3 (⟨(t.val % 4) % 4, Nat.mod_lt _ (by decide)⟩ : Fin 4) a b) := by
  have hN : t.val < 32 := t.isLt
  blk_ext [iblk, idx_13 t]
theorem iblk_14 (t : Fin cfg0.N) (a : Fin 64) (b : Fin 1) :
    iblk m c 14 t (ix3 0 a b) = V m c main_v101 (ix3 (⟨(t.val % 4) % 4, Nat.mod_lt _ (by decide)⟩ : Fin 4) a b) := by
  have hN : t.val < 32 := t.isLt
  blk_ext [iblk, idx_14 t]
theorem iblk_3 (t : Fin cfg0.N) (h : Fin 2) (e : Fin 512) :
    iblk m c 3 t (ix4 0 h 0 e) = V m c main_v0 (ix4 1 (⟨(t.val / 2 % 2 * 2 + h.val) % 4, Nat.mod_lt _ (by decide)⟩ : Fin 4) 0 e) := by
  have hN : t.val < 32 := t.isLt
  blk_ext [iblk, idx_3 t]
theorem iblk_11 (t : Fin cfg0.N) (e : Fin 512) :
    iblk m c 11 t (ix4 0 0 0 e) = V m c main_v0 (ix4 1 (⟨(t.val % 4) % 4, Nat.mod_lt _ (by decide)⟩ : Fin 4) 0 e) := by
  have hN : t.val < 32 := t.isLt
  blk_ext [iblk, idx_11 t]
theorem iblk_7 (t : Fin cfg0.N) (h : Fin 4) : iblk m c 7 t (ix1 h) = V m c main_v43 (ix1 h) := by
  blk_ext [iblk, idx_7 t]
theorem iblk_15 (t : Fin cfg0.N) (h : Fin 4) : iblk m c 15 t (ix1 h) = V m c main_v88 (ix1 h) := by
  blk_ext [iblk, idx_15 t]
theorem iblk_16 (t : Fin cfg0.N) (n : Fin 16) (d : Fin 256) (e : Fin 512) :
    iblk m c 16 t (ix5 0 n 0 d e) = m ((c : Thread nD τ).loc main_arg7) (ix5 1 (⟨(t.val / 4 * 16 + n.val) % 128, Nat.mod_lt _ (by decide)⟩ : Fin 128) (⟨(t.val % 4) % 4, Nat.mod_lt _ (by decide)⟩ : Fin 4) d e) := by
  have hN : t.val < 32 := t.isLt
  blk_ext [iblk, V_main_arg7, idx_16 t]

end Cert.Retention

end
-- ==== Proof.Points.lean ====
module

public import proofs.«01_k».proof.Proof.Chunk
public import proofs.«01_k».proof.Proof.Gen.KernelIdeal.Value
public import Idealize.ShloMosaic.Lib.Pipeline.ValueKit
public import Idealize.ShloMosaic.Lib.Pipeline.ReadBack
public import Idealize.ShloMosaic.Lib.Pipeline.CanonAppend

@[expose] public section

/-! What one grid point leaves in the prompt's blocks: every piece of the output block is one chunk of one head, and
    the state block holds the two heads' states after the point's four chunks. -/

set_option maxRecDepth 16384

noncomputable section

namespace Cert.Retention

open Idealize.ShloMosaic Idealize.ShloMosaic.TcCoe Idealize.ShloMosaic.Tactic Cert.KernelIdeal Cert.KernelIdeal.Gen

/-! ## The stages as the kernel names them -/

section Stages
variable (q k : Vec Ideal S256x256 .bf16) (v : Vec Ideal S256x512 .bf16) (kd qd : Vec Ideal S1x256x1 .f32)
  (s : FVec Ideal S256x256 .f32) (dm : Vec Ideal S1x256x256 .f32) (S a b u u1 : FVec Ideal S256x512 .f32) (cd : EReal)
  (g : Vec Ideal S1x1x1x512 .f32)

theorem stage_0 : k0_pay74 q k = k0_pay73 q k := rfl
theorem stage_1 : k0_pay75 q k = k0_pay73 q k := rfl
theorem stage_2 : k0_pay76 q k = k0_pay73 q k := rfl
theorem stage_3 : k0_pay83 q k = k0_pay73 q k := rfl
theorem stage_4 : k0_pay84 q k = k0_pay73 q k := rfl
theorem stage_5 : k0_pay85 q k = k0_pay73 q k := rfl
theorem stage_6 : k0_pay86 q k = k0_pay73 q k := rfl
theorem stage_7 : k0_pay79 v (k0_pay78 k) kd = k0_pay77 k v kd := rfl
theorem stage_8 : k0_pay91 v (k0_pay90 k) kd = k0_pay77 k v kd := rfl
theorem stage_9 : k0_pay80 k v kd = k0_pay77 k v kd := rfl
theorem stage_10 : k0_pay81 k v kd = k0_pay77 k v kd := rfl
theorem stage_11 : k0_pay87 k v kd = k0_pay77 k v kd := rfl
theorem stage_12 : k0_pay88 k v kd = k0_pay77 k v kd := rfl
theorem stage_13 : k0_pay89 k v kd = k0_pay77 k v kd := rfl
theorem stage_14 : k0_pay93 v s dm = k0_pay92 v s dm := rfl
theorem stage_15 : k0_pay94 v s dm = k0_pay92 v s dm := rfl
theorem stage_16 : k0_pay95 v s dm = k0_pay92 v s dm := rfl
theorem stage_17 : k0_pay105 v s dm = k0_pay92 v s dm := rfl
theorem stage_18 : k0_pay106 v s dm = k0_pay92 v s dm := rfl
theorem stage_19 : k0_pay107 v s dm = k0_pay92 v s dm := rfl
theorem stage_20 : k0_pay108 v s dm = k0_pay92 v s dm := rfl
theorem stage_21 : k0_pay98 q S cd u = k0_pay96 q (k0_pay97 S cd u) := rfl
theorem stage_22 : k0_pay111 q S cd u = k0_pay96 q (k0_pay97 S cd u) := rfl
theorem stage_23 : k0_pay99 S cd u u1 = k0_pay97 (k0_pay97 S cd u) cd u1 := rfl
theorem stage_24 : k0_pay112 S cd u u1 = k0_pay97 (k0_pay97 S cd u) cd u1 := rfl
theorem stage_25 : k0_pay100 q S cd u u1 = k0_pay96 q (k0_pay97 (k0_pay97 S cd u) cd u1) := rfl
theorem stage_26 : k0_pay113 q S cd u u1 = k0_pay96 q (k0_pay97 (k0_pay97 S cd u) cd u1) := rfl
theorem stage_27 : k0_pay102 u S (k0_pay101 cd) = k0_pay97 S cd u := rfl
theorem stage_28 : k0_pay115 u S (k0_pay114 cd) = k0_pay97 S cd u := rfl
theorem stage_29 : k0_pay103 q u S (k0_pay101 cd) = k0_pay96 q (k0_pay97 S cd u) := rfl
theorem stage_30 : k0_pay116 q u S (k0_pay114 cd) = k0_pay96 q (k0_pay97 S cd u) := rfl
theorem stage_31 : k0_pay104 cd u u1 S (k0_pay101 cd) = k0_pay97 (k0_pay97 S cd u) cd u1 := rfl
theorem stage_32 : k0_pay117 cd u u1 S (k0_pay114 cd) = k0_pay97 (k0_pay97 S cd u) cd u1 := rfl
theorem stage_33 : k0_pay109 q S = k0_pay96 q S := rfl
theorem stage_34 : k0_pay110 S cd u = k0_pay97 S cd u := rfl
theorem stage_35 : k0_pay123 a b qd g = k0_pay118 a b qd g := rfl
theorem stage_36 : k0_pay128 a b qd g = k0_pay118 a b qd g := rfl
theorem stage_37 : k0_pay133 a b qd g = k0_pay118 a b qd g := rfl
theorem stage_38 : k0_pay122 (k0_pay119 a b qd) (k0_pay120 g) (k0_pay121 a b qd) (FloatOps.ofBits (F := Ideal) FTy.f32 897988541#32) = k0_pay118 a b qd g := rfl
theorem stage_39 : k0_pay127 (k0_pay124 a b qd) (k0_pay125 g) (k0_pay126 a b qd) (FloatOps.ofBits (F := Ideal) FTy.f32 897988541#32) = k0_pay118 a b qd g := rfl
theorem stage_40 : k0_pay132 (k0_pay129 a b qd) (k0_pay130 g) (k0_pay131 a b qd) (FloatOps.ofBits (F := Ideal) FTy.f32 897988541#32) = k0_pay118 a b qd g := rfl
theorem stage_41 : k0_pay137 (k0_pay134 a b qd) (k0_pay135 g) (k0_pay136 a b qd) (FloatOps.ofBits (F := Ideal) FTy.f32 897988541#32) = k0_pay118 a b qd g := rfl
theorem stage_82 (x : Vec Ideal S1x1x1x256x512 .f32) : k0_pay82 x = k0_pay72 x := rfl
theorem stage_138 : k0_pay138 S = k0_pay1 S := rfl
theorem stage_71 : k0_pay71 (F := Ideal) = k0_pay70 := rfl

end Stages

/-! ## The blocks a point leaves -/

/-- A point's per-chunk decay of its pair's head `hl`. -/
def cdF (x : Vec Ideal S4 .f32) (t : Fin cfg0.N) (hl : ℕ) : EReal := x (ix1 (⟨(t.val / 2 % 2 * 2 + hl) % 4, Nat.mod_lt _ (by decide)⟩ : Fin 4))

theorem off2_0 (t : Fin cfg0.N) : k0_off2 (grid0.coords t) 0#32 0 = (t.val / 2 % 2 * 2 + 0) % 4 := by revert t; decide +kernel
theorem off2_1 (t : Fin cfg0.N) : k0_off2 (grid0.coords t) 1#32 0 = (t.val / 2 % 2 * 2 + 1) % 4 := by revert t; decide +kernel

theorem ld_cd_0 (x : Vec Ideal S4 .f32) (t : Fin cfg0.N) (hb) (hn : 0 < (Rect.unit (s := S4) (k0_off2 (grid0.coords t) 0#32) ![1] hb).shape.numel) :
    View.ld x (Rect.unit (k0_off2 (grid0.coords t) 0#32) ![1] hb) (Shape.Idx.first hn) = cdF x t 0 := by
  unfold cdF
  refine congrArg x (funext fun a => Fin.ext ?_)
  obtain rfl : a = 0 := Subsingleton.elim _ _
  show k0_off2 (grid0.coords t) 0#32 0 + 1 * 0 = _
  rw [off2_0]; rfl
theorem ld_cd_1 (x : Vec Ideal S4 .f32) (t : Fin cfg0.N) (hb) (hn : 0 < (Rect.unit (s := S4) (k0_off2 (grid0.coords t) 1#32) ![1] hb).shape.numel) :
    View.ld x (Rect.unit (k0_off2 (grid0.coords t) 1#32) ![1] hb) (Shape.Idx.first hn) = cdF x t 1 := by
  unfold cdF
  refine congrArg x (funext fun a => Fin.ext ?_)
  obtain rfl : a = 0 := Subsingleton.elim _ _
  show k0_off2 (grid0.coords t) 1#32 0 + 1 * 0 = _
  rw [off2_1]; rfl

section Blocks
variable (x0 x1 : Vec Ideal S1024x512 .bf16) (x2 : Vec Ideal S1024x1024 .bf16) (x3 : Vec Ideal S1x2x1x512 .f32)
  (x4 : Vec Ideal S2x256x256 .f32) (x5 x6 : Vec Ideal S2x256x1 .f32) (cd : ℕ → EReal) (S : ℕ → Vec Ideal S1x1x1x256x512 .f32)

/-- The prompt output block: head `y 1 / 512`, chunk `y 0 / 256`. -/
def outBlk (y : S1024x1024.Idx) : EReal :=
  chunkV x0 x1 x2 x3 x4 x5 x6 cd S ((y 1).val / 512) ((y 0).val / 256)
    (ix2 (⟨(y 0).val % 256, Nat.mod_lt _ (by decide)⟩ : Fin 256) (⟨(y 1).val % 512, Nat.mod_lt _ (by decide)⟩ : Fin 512))

/-- The state block: head `y 2` after four chunks. -/
def stateBlk (y : S1x1x2x256x512.Idx) : EReal := k0_pay1 (F := Ideal) (stV x1 x2 x6 cd S (y 2).val 4) (ix5 0 0 0 (y 3) (y 4))

theorem out_piece (n hl : ℕ) (hb : ∀ a, (![n * 256, hl * 512] : Fin 2 → ℕ) a + (![256, 512] : Fin 2 → ℕ) a ≤ S1024x1024.size a)
    (x : S256x512.Idx) :
    chunkV x0 x1 x2 x3 x4 x5 x6 cd S hl n x
      = outBlk x0 x1 x2 x3 x4 x5 x6 cd S ((Rect.unit (s := S1024x1024) ![n * 256, hl * 512] ![256, 512] hb).emb x) := by
  have h0 : (((Rect.unit (s := S1024x1024) ![n * 256, hl * 512] ![256, 512] hb).emb x) 0).val = n * 256 + 1 * (x 0).val := rfl
  have h1 : (((Rect.unit (s := S1024x1024) ![n * 256, hl * 512] ![256, 512] hb).emb x) 1).val = hl * 512 + 1 * (x 1).val := rfl
  have hx0 : (x 0).val < 256 := (x 0).isLt
  have hx1 : (x 1).val < 512 := (x 1).isLt
  unfold outBlk
  have e0 : (((Rect.unit (s := S1024x1024) ![n * 256, hl * 512] ![256, 512] hb).emb x) 0).val / 256 = n := by omega
  have e1 : (((Rect.unit (s := S1024x1024) ![n * 256, hl * 512] ![256, 512] hb).emb x) 1).val / 512 = hl := by omega
  rw [e0, e1]
  refine congrArg _ (funext fun a => ?_)
  match a with
  | 0 => exact Fin.ext (by show (x 0).val = _ % 256; omega)
  | 1 => exact Fin.ext (by show (x 1).val = _ % 512; omega)

theorem state_piece (hl : ℕ) (hb : ∀ a, (![0, 0, hl, 0, 0] : Fin 5 → ℕ) a + (![1, 1, 1, 256, 512] : Fin 5 → ℕ) a ≤ S1x1x2x256x512.size a)
    (x : S1x1x1x256x512.Idx) :
    k0_pay1 (F := Ideal) (stV x1 x2 x6 cd S hl 4) x
      = stateBlk x1 x2 x6 cd S ((Rect.unit (s := S1x1x2x256x512) ![0, 0, hl, 0, 0] ![1, 1, 1, 256, 512] hb).emb x) := by
  unfold stateBlk
  have e : (((Rect.unit (s := S1x1x2x256x512) ![0, 0, hl, 0, 0] ![1, 1, 1, 256, 512] hb).emb x) 2).val = hl := by
    show hl + 1 * (x 2).val = hl
    have : (x 2).val < 1 := (x 2).isLt
    omega
  rw [e]
  refine congrArg _ (funext fun a => Fin.ext ?_)
  match a with
  | 0 => have : (x 0).val < 1 := (x 0).isLt; show (x 0).val = 0; omega
  | 1 => have : (x 1).val < 1 := (x 1).isLt; show (x 1).val = 0; omega
  | 2 => have : (x 2).val < 1 := (x 2).isLt; show (x 2).val = 0; omega
  | 3 => show (x 3).val = 0 + 1 * (x 3).val; omega
  | 4 => show (x 4).val = 0 + 1 * (x 4).val; omega

end Blocks

variable (c : Dev nD) (x0 x1 : Vec Ideal S1024x512 .bf16) (x2 : Vec Ideal S1024x1024 .bf16) (x3 : Vec Ideal S1x2x1x512 .f32)
  (x4 : Vec Ideal S2x256x256 .f32) (x5 x6 : Vec Ideal S2x256x1 .f32) (x7 : Vec Ideal S4 .f32) (x8 x9 : Vec Ideal S64x256 .bf16)
  (x10 : Vec Ideal S64x512 .bf16) (x11 : Vec Ideal S1x1x1x512 .f32) (x12 : Vec Ideal S1x64x64 .f32) (x13 x14 : Vec Ideal S1x64x1 .f32)
  (x15 : Vec Ideal S4 .f32) (x16 : Vec Ideal S1x16x1x256x512 .f32)

theorem out17_A (t : Fin cfg0.N) (h0 : t.val % 2 = 0) (y : S1024x1024.Idx) :
    out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) x0 x1 x2 x3 x4 x5 x6 x7 x8 x9 x10 x11 x12 x13 x14 x15 x16 y
      = outBlk x0 x1 x2 x3 x4 x5 x6 (cdF x7 t) (fun _ => k0_pay70 (F := Ideal)) y := by
  frame_open
  simp (disch := decide) only [↓ View.readCov_skip, ↓ View.readCov_cons_toLoadRect, ↓ View.readCov_fill]
  frame_out
  simp only [stage_0, stage_1, stage_2, stage_3, stage_4, stage_5, stage_6, stage_7, stage_8, stage_9, stage_10, stage_11, stage_12, stage_13, stage_14, stage_15, stage_16, stage_17, stage_18, stage_19, stage_20, stage_21, stage_22, stage_23, stage_24, stage_25, stage_26, stage_27, stage_28, stage_29, stage_30, stage_31, stage_32, stage_33, stage_34, stage_35, stage_36, stage_37, stage_38, stage_39, stage_40, stage_41, stage_82, stage_138, stage_71, ld_k_0_0, ld_k_1_0, ld_k_2_0, ld_k_3_0, ld_k_0_1, ld_k_1_1, ld_k_2_1, ld_k_3_1, ld_v_0_0, ld_v_1_0, ld_v_2_0, ld_v_3_0, ld_v_0_1, ld_v_1_1, ld_v_2_1, ld_v_3_1, ld_dm_0, ld_dm_1, ld_col_0, ld_col_1, ld_gn_0, ld_gn_1, ld_st_0, ld_st_1]
  rw [ld_cd_0, ld_cd_1]
  refine View.canon_apply_of_pieces (Val := Elt Ideal) (e := .bf16) (outBlk x0 x1 x2 x3 x4 x5 x6 (cdF x7 t) (fun _ => k0_pay70 (F := Ideal))) _ ?_ y ?_
  case refine_2 => exact View.cover_of_tiledL _ (![256, 512] : Fin 2 → ℕ) (by rfl) y
  simp only [List.forall_mem_cons]
  refine ⟨?_, ?_, ?_, ?_, ?_, ?_, ?_, ?_, fun p hp => absurd hp List.not_mem_nil⟩
  · exact fun x => out_piece x0 x1 x2 x3 x4 x5 x6 (cdF x7 t) (fun _ => k0_pay70 (F := Ideal)) 3 1 _ x
  · exact fun x => out_piece x0 x1 x2 x3 x4 x5 x6 (cdF x7 t) (fun _ => k0_pay70 (F := Ideal)) 2 1 _ x
  · exact fun x => out_piece x0 x1 x2 x3 x4 x5 x6 (cdF x7 t) (fun _ => k0_pay70 (F := Ideal)) 1 1 _ x
  · exact fun x => out_piece x0 x1 x2 x3 x4 x5 x6 (cdF x7 t) (fun _ => k0_pay70 (F := Ideal)) 0 1 _ x
  · exact fun x => out_piece x0 x1 x2 x3 x4 x5 x6 (cdF x7 t) (fun _ => k0_pay70 (F := Ideal)) 3 0 _ x
  · exact fun x => out_piece x0 x1 x2 x3 x4 x5 x6 (cdF x7 t) (fun _ => k0_pay70 (F := Ideal)) 2 0 _ x
  · exact fun x => out_piece x0 x1 x2 x3 x4 x5 x6 (cdF x7 t) (fun _ => k0_pay70 (F := Ideal)) 1 0 _ x
  · exact fun x => out_piece x0 x1 x2 x3 x4 x5 x6 (cdF x7 t) (fun _ => k0_pay70 (F := Ideal)) 0 0 _ x

theorem out17_B (t : Fin cfg0.N) (h0 : ¬ t.val % 2 = 0) (X : Vec Ideal S1x1x2x256x512 .f32) (y : S1024x1024.Idx) :
    out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) x0 x1 x2 x3 x4 x5 x6 x7 x8 x9 x10 x11 x12 x13 x14 x15 x16 X y
      = outBlk x0 x1 x2 x3 x4 x5 x6 (cdF x7 t) (stBlk X) y := by
  frame_open
  simp (disch := decide) only [↓ View.readCov_skip, ↓ View.readCov_cons_toLoadRect, ↓ View.readCov_fill]
  frame_out
  simp only [stage_0, stage_1, stage_2, stage_3, stage_4, stage_5, stage_6, stage_7, stage_8, stage_9, stage_10, stage_11, stage_12, stage_13, stage_14, stage_15, stage_16, stage_17, stage_18, stage_19, stage_20, stage_21, stage_22, stage_23, stage_24, stage_25, stage_26, stage_27, stage_28, stage_29, stage_30, stage_31, stage_32, stage_33, stage_34, stage_35, stage_36, stage_37, stage_38, stage_39, stage_40, stage_41, stage_82, stage_138, stage_71, ld_k_0_0, ld_k_1_0, ld_k_2_0, ld_k_3_0, ld_k_0_1, ld_k_1_1, ld_k_2_1, ld_k_3_1, ld_v_0_0, ld_v_1_0, ld_v_2_0, ld_v_3_0, ld_v_0_1, ld_v_1_1, ld_v_2_1, ld_v_3_1, ld_dm_0, ld_dm_1, ld_col_0, ld_col_1, ld_gn_0, ld_gn_1, ld_st_0, ld_st_1]
  rw [ld_cd_0, ld_cd_1]
  refine View.canon_apply_of_pieces (Val := Elt Ideal) (e := .bf16) (outBlk x0 x1 x2 x3 x4 x5 x6 (cdF x7 t) (stBlk X)) _ ?_ y ?_
  case refine_2 => exact View.cover_of_tiledL _ (![256, 512] : Fin 2 → ℕ) (by rfl) y
  simp only [List.forall_mem_cons]
  refine ⟨?_, ?_, ?_, ?_, ?_, ?_, ?_, ?_, fun p hp => absurd hp List.not_mem_nil⟩
  · exact fun x => out_piece x0 x1 x2 x3 x4 x5 x6 (cdF x7 t) (stBlk X) 3 1 _ x
  · exact fun x => out_piece x0 x1 x2 x3 x4 x5 x6 (cdF x7 t) (stBlk X) 2 1 _ x
  · exact fun x => out_piece x0 x1 x2 x3 x4 x5 x6 (cdF x7 t) (stBlk X) 1 1 _ x
  · exact fun x => out_piece x0 x1 x2 x3 x4 x5 x6 (cdF x7 t) (stBlk X) 0 1 _ x
  · exact fun x => out_piece x0 x1 x2 x3 x4 x5 x6 (cdF x7 t) (stBlk X) 3 0 _ x
  · exact fun x => out_piece x0 x1 x2 x3 x4 x5 x6 (cdF x7 t) (stBlk X) 2 0 _ x
  · exact fun x => out_piece x0 x1 x2 x3 x4 x5 x6 (cdF x7 t) (stBlk X) 1 0 _ x
  · exact fun x => out_piece x0 x1 x2 x3 x4 x5 x6 (cdF x7 t) (stBlk X) 0 0 _ x

theorem out18_A (t : Fin cfg0.N) (h0 : t.val % 2 = 0) (y : S1x1x2x256x512.Idx) :
    out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) x0 x1 x2 x3 x4 x5 x6 x7 x8 x9 x10 x11 x12 x13 x14 x15 x16 y
      = stateBlk x1 x2 x6 (cdF x7 t) (fun _ => k0_pay70 (F := Ideal)) y := by
  frame_open
  simp (disch := decide) only [↓ View.readCov_skip, ↓ View.readCov_cons_toLoadRect, ↓ View.readCov_fill]
  frame_out
  simp only [stage_0, stage_1, stage_2, stage_3, stage_4, stage_5, stage_6, stage_7, stage_8, stage_9, stage_10, stage_11, stage_12, stage_13, stage_14, stage_15, stage_16, stage_17, stage_18, stage_19, stage_20, stage_21, stage_22, stage_23, stage_24, stage_25, stage_26, stage_27, stage_28, stage_29, stage_30, stage_31, stage_32, stage_33, stage_34, stage_35, stage_36, stage_37, stage_38, stage_39, stage_40, stage_41, stage_82, stage_138, stage_71, ld_k_0_0, ld_k_1_0, ld_k_2_0, ld_k_3_0, ld_k_0_1, ld_k_1_1, ld_k_2_1, ld_k_3_1, ld_v_0_0, ld_v_1_0, ld_v_2_0, ld_v_3_0, ld_v_0_1, ld_v_1_1, ld_v_2_1, ld_v_3_1, ld_dm_0, ld_dm_1, ld_col_0, ld_col_1, ld_gn_0, ld_gn_1, ld_st_0, ld_st_1]
  rw [ld_cd_0, ld_cd_1]
  refine View.canon_append_of_pieces (Val := Elt Ideal) (e := .f32) (stateBlk x1 x2 x6 (cdF x7 t) (fun _ => k0_pay70 (F := Ideal))) [_, _] [_, _] ?_ y ?_
  case refine_2 => exact View.cover_of_tiledL _ (![1, 1, 1, 256, 512] : Fin 5 → ℕ) (by rfl) y
  simp only [List.forall_mem_cons]
  refine ⟨?_, ?_, fun p hp => absurd hp List.not_mem_nil⟩
  · exact fun x => state_piece x1 x2 x6 (cdF x7 t) (fun _ => k0_pay70 (F := Ideal)) 1 _ x
  · exact fun x => state_piece x1 x2 x6 (cdF x7 t) (fun _ => k0_pay70 (F := Ideal)) 0 _ x

theorem out18_B (t : Fin cfg0.N) (h0 : ¬ t.val % 2 = 0) (X : Vec Ideal S1x1x2x256x512 .f32) (y : S1x1x2x256x512.Idx) :
    out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) x0 x1 x2 x3 x4 x5 x6 x7 x8 x9 x10 x11 x12 x13 x14 x15 x16 X y
      = stateBlk x1 x2 x6 (cdF x7 t) (stBlk X) y := by
  frame_open
  simp (disch := decide) only [↓ View.readCov_skip, ↓ View.readCov_cons_toLoadRect, ↓ View.readCov_fill]
  frame_out
  simp only [stage_0, stage_1, stage_2, stage_3, stage_4, stage_5, stage_6, stage_7, stage_8, stage_9, stage_10, stage_11, stage_12, stage_13, stage_14, stage_15, stage_16, stage_17, stage_18, stage_19, stage_20, stage_21, stage_22, stage_23, stage_24, stage_25, stage_26, stage_27, stage_28, stage_29, stage_30, stage_31, stage_32, stage_33, stage_34, stage_35, stage_36, stage_37, stage_38, stage_39, stage_40, stage_41, stage_82, stage_138, stage_71, ld_k_0_0, ld_k_1_0, ld_k_2_0, ld_k_3_0, ld_k_0_1, ld_k_1_1, ld_k_2_1, ld_k_3_1, ld_v_0_0, ld_v_1_0, ld_v_2_0, ld_v_3_0, ld_v_0_1, ld_v_1_1, ld_v_2_1, ld_v_3_1, ld_dm_0, ld_dm_1, ld_col_0, ld_col_1, ld_gn_0, ld_gn_1, ld_st_0, ld_st_1]
  rw [ld_cd_0, ld_cd_1]
  refine View.canon_apply_of_pieces (Val := Elt Ideal) (e := .f32) (stateBlk x1 x2 x6 (cdF x7 t) (stBlk X)) _ ?_ y ?_
  case refine_2 => exact View.cover_of_tiledL _ (![1, 1, 1, 256, 512] : Fin 5 → ℕ) (by rfl) y
  simp only [List.forall_mem_cons]
  refine ⟨?_, ?_, fun p hp => absurd hp List.not_mem_nil⟩
  · exact fun x => state_piece x1 x2 x6 (cdF x7 t) (stBlk X) 1 _ x
  · exact fun x => state_piece x1 x2 x6 (cdF x7 t) (stBlk X) 0 _ x

end Cert.Retention

end
-- ==== Proof.Prompt.lean ====
module

public import proofs.«01_k».proof.Proof.Blocks
public import proofs.«01_k».proof.Proof.Points

@[expose] public section

/-! The prompt side of the kernel, over the whole arrays: what every point computes is the recurrence of its sequence
    and head, carried over the sequence's eight chunks by two grid points. -/

set_option maxRecDepth 16384

noncomputable section

namespace Cert.Retention

open Idealize.ShloMosaic Idealize.ShloMosaic.TcCoe Idealize.ShloMosaic.Tactic Cert.KernelIdeal Cert.KernelIdeal.Gen

/-! ## A sequence's rows in the arrays -/

/-- Feature `d` of head `h` of row `s` of sequence `b`, in the queries or keys. -/
def gk (X : S16384x1024.Idx → EReal) (b h s : ℕ) (d : Fin 256) : EReal :=
  X (ix2 (⟨(b * 2048 + s) % 16384, Nat.mod_lt _ (by decide)⟩ : Fin 16384) (⟨(h * 256 + d.val) % 1024, Nat.mod_lt _ (by decide)⟩ : Fin 1024))
/-- Feature `e` of head `h` of row `s` of sequence `b`, in the values. -/
def gv (X : S16384x2048.Idx → EReal) (b h s : ℕ) (e : Fin 512) : EReal :=
  X (ix2 (⟨(b * 2048 + s) % 16384, Nat.mod_lt _ (by decide)⟩ : Fin 16384) (⟨(h * 512 + e.val) % 2048, Nat.mod_lt _ (by decide)⟩ : Fin 2048))

/-- Entry `(d, e)` of the state of head `h` of sequence `b` after `n` chunks. -/
def stG (K : S16384x1024.Idx → EReal) (V' : S16384x2048.Idx → EReal) (b h : ℕ) (d : Fin 256) (e : Fin 512) (n : ℕ) : EReal :=
  chain (dec h 256 : EReal) (fun r => ((dec h (255 - (r.val : ℝ)) : ℝ) : EReal)) (fun s => gk K b h s d) (fun s => gv V' b h s e) 0 n

/-- Row `s` of head `h` of sequence `b` before the norm: chunk `s / 256`, its row `s % 256`. -/
def oG (Q K : S16384x1024.Idx → EReal) (V' : S16384x2048.Idx → EReal) (b h s : ℕ) (e : Fin 512) : EReal :=
  (∑ j : Fin 256, ((∑ d : Fin 256, gk Q b h s d * gk K b h (s / 256 * 256 + j.val) d) * ((mask h (s % 256) j.val : ℝ) : EReal))
      * gv V' b h (s / 256 * 256 + j.val) e)
    + (∑ d : Fin 256, gk Q b h s d * stG K V' b h d e (s / 256)) * ((dec h (((s % 256 : ℕ) : ℝ) + 1) : ℝ) : EReal)

variable (m : (ℓ : Loc nD τ sig) → Buf (Elt Ideal) ℓ) (c : Dev nD)

/-- The queries, keys and values of the prompt, the norm's scale, as launched. -/
abbrev aQ : S16384x1024.Idx → EReal := m ((c : Thread nD τ).loc main_arg0)
abbrev aK : S16384x1024.Idx → EReal := m ((c : Thread nD τ).loc main_arg1)
abbrev aV : S16384x2048.Idx → EReal := m ((c : Thread nD τ).loc main_arg2)
abbrev aG : S2x4x512.Idx → EReal := m ((c : Thread nD τ).loc main_arg6)

/-- The head that lane `hl` of a point's pair is. -/
def hdOf (t : Fin cfg0.N) (hl : ℕ) : ℕ := t.val / 2 % 2 * 2 + hl

theorem hdOf_lt (t : Fin cfg0.N) (hl : ℕ) (h : hl < 2) : hdOf t hl < 4 := by unfold hdOf; omega

theorem kRow_q (t : Fin cfg0.N) (hl : ℕ) (hh : hl < 2) (s : ℕ) (hs : s < 1024) (d : Fin 256) :
    kRow (iblk m c 0 t) hl s d = gk (aQ m c) (t.val / 4) (hdOf t hl) (t.val % 2 * 1024 + s) d := by
  have hN : t.val < 32 := t.isLt
  unfold kRow gk hdOf
  rw [iblk_0]
  blk_ext []
theorem kRow_k (t : Fin cfg0.N) (hl : ℕ) (hh : hl < 2) (s : ℕ) (hs : s < 1024) (d : Fin 256) :
    kRow (iblk m c 1 t) hl s d = gk (aK m c) (t.val / 4) (hdOf t hl) (t.val % 2 * 1024 + s) d := by
  have hN : t.val < 32 := t.isLt
  unfold kRow gk hdOf
  rw [iblk_1]
  blk_ext []
theorem vRow_v (t : Fin cfg0.N) (hl : ℕ) (hh : hl < 2) (s : ℕ) (hs : s < 1024) (e : Fin 512) :
    vRow (iblk m c 2 t) hl s e = gv (aV m c) (t.val / 4) (hdOf t hl) (t.val % 2 * 1024 + s) e := by
  have hN : t.val < 32 := t.isLt
  unfold vRow gv hdOf
  rw [iblk_2]
  blk_ext []

theorem hd2_eq (t : Fin cfg0.N) (hl : ℕ) (hh : hl < 2) : (t.val / 2 % 2 * 2 + (hd2 hl).val) % 4 = hdOf t hl := by
  unfold hd2 hdOf
  show (t.val / 2 % 2 * 2 + hl % 2) % 4 = _
  omega

theorem dm_at (t : Fin cfg0.N) (hl : ℕ) (hh : hl < 2) (r s : Fin 256) :
    iblk m c 4 t (ix3 (hd2 hl) r s) = ((mask (hdOf t hl) r.val s.val : ℝ) : EReal) := by
  rw [iblk_4, V_dm]; simp only [hd2_eq t hl hh]
theorem qd_at (t : Fin cfg0.N) (hl : ℕ) (hh : hl < 2) (r : Fin 256) :
    iblk m c 5 t (ix3 (hd2 hl) r 0) = ((dec (hdOf t hl) ((r.val : ℝ) + 1) : ℝ) : EReal) := by
  rw [iblk_5, V_qd]; simp only [hd2_eq t hl hh]
theorem kd_at (t : Fin cfg0.N) (hl : ℕ) (hh : hl < 2) (r : Fin 256) :
    iblk m c 6 t (ix3 (hd2 hl) r 0) = ((dec (hdOf t hl) (255 - (r.val : ℝ)) : ℝ) : EReal) := by
  rw [iblk_6, V_kd]; simp only [hd2_eq t hl hh]
theorem cd_at (t : Fin cfg0.N) (hl : ℕ) (hh : hl < 2) :
    cdF (iblk m c 7 t) t hl = ((dec (hdOf t hl) 256 : ℝ) : EReal) := by
  unfold cdF
  rw [iblk_7, V_cd]
  have : (t.val / 2 % 2 * 2 + hl) % 4 = hdOf t hl := by unfold hdOf; omega
  simp only [this]
theorem gn_at (t : Fin cfg0.N) (hl : ℕ) (hh : hl < 2) (e : Fin 512) :
    iblk m c 3 t (ix4 0 (hd2 hl) 0 e) = aG m c (ix3 1 (⟨hdOf t hl % 4, Nat.mod_lt _ (by decide)⟩ : Fin 4) e) := by
  rw [iblk_3, V_gn]
  have h1 := hd2_eq t hl hh
  have h2 := hdOf_lt t hl hh
  refine congrArg _ (congrArg (fun h => ix3 1 h e) (Fin.ext ?_))
  show (t.val / 2 % 2 * 2 + (hd2 hl).val) % 4 = hdOf t hl % 4
  rw [h1]
  exact (Nat.mod_eq_of_lt h2).symm

/-! ## A point's states and rows -/

section Point
variable (b : ℕ) (H : ℕ → ℕ) (p : ℕ) (Q K : S16384x1024.Idx → EReal) (V' : S16384x2048.Idx → EReal) (g : ℕ → Fin 512 → EReal)
  (x0 x1 : Vec Ideal S1024x512 .bf16) (x2 : Vec Ideal S1024x1024 .bf16) (x3 : Vec Ideal S1x2x1x512 .f32)
  (x4 : Vec Ideal S2x256x256 .f32) (x5 x6 : Vec Ideal S2x256x1 .f32) (cd : ℕ → EReal) (S : ℕ → Vec Ideal S1x1x1x256x512 .f32)
  (hq : ∀ hl, hl < 2 → ∀ s, s < 1024 → ∀ d, kRow x0 hl s d = gk Q b (H hl) (p * 1024 + s) d)
  (hk : ∀ hl, hl < 2 → ∀ s, s < 1024 → ∀ d, kRow x1 hl s d = gk K b (H hl) (p * 1024 + s) d)
  (hv : ∀ hl, hl < 2 → ∀ s, s < 1024 → ∀ e, vRow x2 hl s e = gv V' b (H hl) (p * 1024 + s) e)
  (hg : ∀ hl, hl < 2 → ∀ e, x3 (ix4 0 (hd2 hl) 0 e) = g (H hl) e)
  (hdm : ∀ hl, hl < 2 → ∀ r s, x4 (ix3 (hd2 hl) r s) = ((mask (H hl) r.val s.val : ℝ) : EReal))
  (hqd : ∀ hl, hl < 2 → ∀ r, x5 (ix3 (hd2 hl) r 0) = ((dec (H hl) ((r.val : ℝ) + 1) : ℝ) : EReal))
  (hkd : ∀ hl, hl < 2 → ∀ r, x6 (ix3 (hd2 hl) r 0) = ((dec (H hl) (255 - (r.val : ℝ)) : ℝ) : EReal))
  (hcd : ∀ hl, hl < 2 → cd hl = ((dec (H hl) 256 : ℝ) : EReal))
  (hS : ∀ hl, hl < 2 → ∀ d e, S hl (ix5 0 0 0 d e) = stG K V' b (H hl) d e (p * 4))

include hk hv hkd hcd hS in
theorem point_chain (hl : ℕ) (hh : hl < 2) (n : ℕ) (hn : n ≤ 4) (d : Fin 256) (e : Fin 512) :
    chain (cd hl) (fun r => x6 (ix3 (hd2 hl) r 0)) (fun s => kRow x1 hl s d) (fun s => vRow x2 hl s e) (S hl (ix5 0 0 0 d e)) n
      = stG K V' b (H hl) d e (p * 4 + n) := by
  rw [hS hl hh, hcd hl hh]
  simp only [hkd hl hh]
  unfold stG
  rw [← chain_add]
  refine chain_congr _ _ _ _ (fun s hs => ?_) (fun s hs => ?_)
  · rw [hk hl hh s (by omega)]; exact congrArg (fun x => gk K b (H hl) x d) (by omega)
  · rw [hv hl hh s (by omega)]; exact congrArg (fun x => gv V' b (H hl) x e) (by omega)

include hq hk hv hdm hqd hkd hcd hS in
theorem point_row (hl : ℕ) (hh : hl < 2) (n : ℕ) (hn : n < 4) (r : Fin 256) (e : Fin 512) :
    oRow x0 x1 x2 x4 x5 x6 cd S hl n r e = oG Q K V' b (H hl) (p * 1024 + n * 256 + r.val) e := by
  have hr : r.val < 256 := r.isLt
  have e1 : (p * 1024 + n * 256 + r.val) / 256 = p * 4 + n := by omega
  have e2 : (p * 1024 + n * 256 + r.val) % 256 = r.val := by omega
  have e3 : ∀ j, p * 1024 + (n * 256 + j) = (p * 4 + n) * 256 + j := fun j => by omega
  have e4 : p * 1024 + n * 256 + r.val = (p * 4 + n) * 256 + r.val := by omega
  unfold oRow oG
  rw [e1, e2]
  refine congrArg₂ (· + ·) (Finset.sum_congr rfl fun j _ => ?_) ?_
  · have hj : j.val < 256 := j.isLt
    rw [hdm hl hh, hv hl hh _ (by omega), e3]
    refine congrArg (fun x => x * _ * _) (Finset.sum_congr rfl fun d _ => ?_)
    rw [hq hl hh _ (by omega), hk hl hh _ (by omega), e3, e3, e4]
  · rw [hqd hl hh]
    refine congrArg (fun x => x * _) (Finset.sum_congr rfl fun d _ => ?_)
    rw [point_chain b H p K V' x1 x2 x6 cd S hk hv hkd hcd hS hl hh n (by omega), hq hl hh _ (by omega), e3, e4]

include hq hk hv hg hdm hqd hkd hcd hS in
theorem point_out (y : S1024x1024.Idx) :
    outBlk x0 x1 x2 x3 x4 x5 x6 cd S y
      = nrm (oG Q K V' b (H ((y 1).val / 512)) (p * 1024 + (y 0).val)) (g (H ((y 1).val / 512)))
          (⟨(y 1).val % 512, Nat.mod_lt _ (by decide)⟩ : Fin 512) := by
  have h0 : (y 0).val < 1024 := (y 0).isLt
  have h1 : (y 1).val < 1024 := (y 1).isLt
  unfold outBlk
  rw [chunkV_apply]
  refine congrArg₂ (fun o g => nrm o g _) (funext fun e => ?_) (funext fun e => hg _ (by omega) e)
  rw [point_row b H p Q K V' x0 x1 x2 x4 x5 x6 cd S hq hk hv hdm hqd hkd hcd hS _ (by omega) _ (by omega)]
  refine congrArg (fun x => oG Q K V' b _ x e) ?_
  show p * 1024 + (y 0).val / 256 * 256 + (y 0).val % 256 = _
  omega

include hk hv hkd hcd hS in
theorem point_stateBlk (z : Fin 2) (d : Fin 256) (e : Fin 512) :
    stateBlk x1 x2 x6 cd S (ix5 0 0 z d e) = stG K V' b (H z.val) d e (p * 4 + 4) := by
  refine Eq.trans ?_ ((stV_apply x1 x2 x6 cd S z.val 4 d e).trans
    (point_chain b H p K V' x1 x2 x6 cd S hk hv hkd hcd hS z.val z.isLt 4 (le_refl _) d e))
  show k0_pay1 (F := Ideal) (stV x1 x2 x6 cd S z.val 4) (ix5 0 0 0 d e) = _
  unfold k0_pay1
  pointwise

end Point

/-- The state that a sequence starts from. -/
theorem start_zero (t : Fin cfg0.N) (h0 : t.val % 2 = 0) (hl : ℕ) (d : Fin 256) (e : Fin 512) :
    k0_pay70 (F := Ideal) (ix5 0 0 0 d e) = stG (aK m c) (aV m c) (t.val / 4) (hdOf t hl) d e (t.val % 2 * 4) := by
  rw [h0]
  show _ = (0 : EReal)
  unfold k0_pay70
  pointwise

/-- The norm's scale of head `h`. -/
def gG (h : ℕ) (e : Fin 512) : EReal := aG m c (ix3 1 (⟨h % 4, Nat.mod_lt _ (by decide)⟩ : Fin 4) e)

/-- A point's state block, from the state it starts from. -/
theorem point_state (t : Fin cfg0.N) (S : ℕ → Vec Ideal S1x1x1x256x512 .f32)
    (hS : ∀ hl, hl < 2 → ∀ d e, S hl (ix5 0 0 0 d e) = stG (aK m c) (aV m c) (t.val / 4) (hdOf t hl) d e (t.val % 2 * 4))
    (z : Fin 2) (d : Fin 256) (e : Fin 512) :
    stateBlk (iblk m c 1 t) (iblk m c 2 t) (iblk m c 6 t) (cdF (iblk m c 7 t) t) S (ix5 0 0 z d e)
      = stG (aK m c) (aV m c) (t.val / 4) (hdOf t z.val) d e (t.val % 2 * 4 + 4) :=
  point_stateBlk (t.val / 4) (hdOf t) (t.val % 2) (aK m c) (aV m c) _ _ _ _ S
    (kRow_k m c t) (vRow_v m c t) (kd_at m c t) (cd_at m c t) hS z d e

/-- A point's output block, from the state it starts from. -/
theorem point_outBlk (t : Fin cfg0.N) (S : ℕ → Vec Ideal S1x1x1x256x512 .f32)
    (hS : ∀ hl, hl < 2 → ∀ d e, S hl (ix5 0 0 0 d e) = stG (aK m c) (aV m c) (t.val / 4) (hdOf t hl) d e (t.val % 2 * 4))
    (y : S1024x1024.Idx) :
    outBlk (iblk m c 0 t) (iblk m c 1 t) (iblk m c 2 t) (iblk m c 3 t) (iblk m c 4 t) (iblk m c 5 t) (iblk m c 6 t)
        (cdF (iblk m c 7 t) t) S y
      = nrm (oG (aQ m c) (aK m c) (aV m c) (t.val / 4) (hdOf t ((y 1).val / 512)) (t.val % 2 * 1024 + (y 0).val))
          (gG m c (hdOf t ((y 1).val / 512))) (⟨(y 1).val % 512, Nat.mod_lt _ (by decide)⟩ : Fin 512) :=
  point_out (t.val / 4) (hdOf t) (t.val % 2) (aQ m c) (aK m c) (aV m c) (gG m c) _ _ _ _ _ _ _ _ S
    (kRow_q m c t) (kRow_k m c t) (vRow_v m c t) (gn_at m c t) (dm_at m c t) (qd_at m c t) (kd_at m c t) (cd_at m c t) hS y

/-- What a sequence's first point leaves in the state block. -/
theorem state_first (t : Fin cfg0.N) (h0 : t.val % 2 = 0) (z : Fin 2) (d : Fin 256) (e : Fin 512) :
    (outsAt0 m c t.val t.isLt).2.1 (ix5 0 0 z d e) = stG (aK m c) (aV m c) (t.val / 4) (hdOf t z.val) d e 4 := by
  simp only [outsAt0_A m c t h0]
  refine (out18_A c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) t h0 (ix5 0 0 z d e)).trans ?_
  refine (point_state m c t _ (fun hl _ d e => start_zero m c t h0 hl d e) z d e).trans ?_
  rw [h0]

/-- The state block that a sequence's second point reads is its first point's. -/
theorem start_second (t : Fin cfg0.N) (h0 : ¬ t.val % 2 = 0) (h' : t.val - 1 < cfg0.N) (hl : ℕ) (hh : hl < 2) (d : Fin 256) (e : Fin 512) :
    stBlk (outsAt0 m c (t.val - 1) h').2.1 hl (ix5 0 0 0 d e)
      = stG (aK m c) (aV m c) (t.val / 4) (hdOf t hl) d e (t.val % 2 * 4) := by
  have h1 : t.val % 2 = 1 := by omega
  refine (state_first m c ⟨t.val - 1, h'⟩ (by show (t.val - 1) % 2 = 0; omega) (hd2 hl) d e).trans ?_
  have e1 : (t.val - 1) / 4 = t.val / 4 := by omega
  have e2 : hdOf ⟨t.val - 1, h'⟩ (hd2 hl).val = hdOf t hl := by
    unfold hdOf hd2
    show (t.val - 1) / 2 % 2 * 2 + hl % 2 = _
    omega
  rw [h1, e2]
  show stG _ _ ((t.val - 1) / 4) _ d e 4 = _
  rw [e1]

theorem state_second (t : Fin cfg0.N) (h0 : ¬ t.val % 2 = 0) (z : Fin 2) (d : Fin 256) (e : Fin 512) :
    (outsAt0 m c t.val t.isLt).2.1 (ix5 0 0 z d e) = stG (aK m c) (aV m c) (t.val / 4) (hdOf t z.val) d e 8 := by
  have h1 : t.val % 2 = 1 := by omega
  simp only [outsAt0_B m c t h0]
  refine (out18_B c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) t h0 _ (ix5 0 0 z d e)).trans ?_
  refine (point_state m c t _ (fun hl hh d e => start_second m c t h0 _ hl hh d e) z d e).trans ?_
  rw [h1]

/-- What a point leaves in the prompt's output block. -/
theorem out_point (t : Fin cfg0.N) (y : S1024x1024.Idx) :
    (outsAt0 m c t.val t.isLt).1 y
      = nrm (oG (aQ m c) (aK m c) (aV m c) (t.val / 4) (hdOf t ((y 1).val / 512)) (t.val % 2 * 1024 + (y 0).val))
          (gG m c (hdOf t ((y 1).val / 512))) (⟨(y 1).val % 512, Nat.mod_lt _ (by decide)⟩ : Fin 512) := by
  by_cases h0 : t.val % 2 = 0
  · simp only [outsAt0_A m c t h0]
    refine (out17_A c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) t h0 y).trans ?_
    exact point_outBlk m c t _ (fun hl _ d e => start_zero m c t h0 hl d e) y
  · simp only [outsAt0_B m c t h0]
    refine (out17_B c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) t h0 _ y).trans ?_
    exact point_outBlk m c t _ (fun hl hh d e => start_second m c t h0 _ hl hh d e) y

end Cert.Retention

end
-- ==== Proof.RefPrompt.lean ====
module

public import proofs.«01_k».proof.Proof.Prompt
public import proofs.«01_k».proof.Proof.Gen.ReferenceIdeal.Read

@[expose] public section

/-! The reference on the prompt: every result at an index. -/

set_option maxRecDepth 16384

noncomputable section

namespace Cert.Retention

open Idealize.ShloMosaic Idealize.ShloMosaic.TcCoe Idealize.ShloMosaic.StableHlo Cert.ReferenceIdeal Cert.ReferenceIdeal.Gen Cert.ReferenceIdeal.Read

/-- Row `t` of head `h` of sequence `b` before the norm: the whole sequence at once. -/
def wO (Q K : S16384x1024.Idx → EReal) (V' : S16384x2048.Idx → EReal) (b h t : ℕ) (e : Fin 512) : EReal :=
  ∑ s : Fin 2048, ((∑ d : Fin 256, gk Q b h t d * gk K b h s.val d) * ((mask h t s.val : ℝ) : EReal)) * gv V' b h s.val e

/-- Entry `(d, e)` of head `h` of sequence `b`'s state after its last row: the whole sequence at once. -/
def wS (K : S16384x1024.Idx → EReal) (V' : S16384x2048.Idx → EReal) (b h : ℕ) (d : Fin 256) (e : Fin 512) : EReal :=
  ∑ s : Fin 2048, (gk K b h s.val d * ((dec h (2047 - (s.val : ℝ)) : ℝ) : EReal)) * gv V' b h s.val e

/-- The second layer's norm scale of head `h`. -/
def gain (G : S2x4x512.Idx → EReal) (h : ℕ) (e : Fin 512) : EReal :=
  G (ix3 1 (⟨h % 4, Nat.mod_lt _ (by decide)⟩ : Fin 4) e)

/-- The logarithm of a head's decay per row. -/
theorem r7 (i : S4.Idx) : val_main_v7 (F := Ideal) i = ((lg (i 0).val : ℝ) : EReal) := by
  have h0 : (i 0).val < 4 := (i 0).isLt
  simp only [val_main_v7_apply, val_main_v6_apply, val_main_v5_apply, val_main_cst_1_apply, val_main_v4_apply, val_main_v3_apply,
    val_main_cst_0_apply, val_main_v2_apply, val_main_v1_apply, val_main_cst_apply]
  exact log_gamma _ (by omega)

theorem r11 (x0 : (⟨S16384x1024, .bf16⟩ : BufTy).Contents (Elt Ideal)) (i : S8x4x2048x256.Idx) :
    val_main_v11 (F := Ideal) x0 i = gk x0 (i 0).val (i 1).val (i 2).val (i 3) := by
  have h0 : (i 0).val < 8 := (i 0).isLt
  have h1 : (i 1).val < 4 := (i 1).isLt
  have h2 : (i 2).val < 2048 := (i 2).isLt
  have h3 : (i 3).val < 256 := (i 3).isLt
  rw [val_main_v11_apply, val_main_v10_apply, val_main_v9_apply]
  unfold gk
  refine congrArg x0 (funext fun a => Fin.ext ?_)
  match a with
  | ⟨0, _⟩ =>
    show ((((i 0).val * 2048 + (i 2).val) * 4 + (i 1).val) * 256 + (i 3).val) / 1024 = ((i 0).val * 2048 + (i 2).val) % 16384
    omega
  | ⟨1, _⟩ =>
    show ((((i 0).val * 2048 + (i 2).val) * 4 + (i 1).val) * 256 + (i 3).val) % 1024 = ((i 1).val * 256 + (i 3).val) % 1024
    omega

theorem r14 (x1 : (⟨S16384x1024, .bf16⟩ : BufTy).Contents (Elt Ideal)) (i : S8x4x2048x256.Idx) :
    val_main_v14 (F := Ideal) x1 i = gk x1 (i 0).val (i 1).val (i 2).val (i 3) := by
  have h0 : (i 0).val < 8 := (i 0).isLt
  have h1 : (i 1).val < 4 := (i 1).isLt
  have h2 : (i 2).val < 2048 := (i 2).isLt
  have h3 : (i 3).val < 256 := (i 3).isLt
  rw [val_main_v14_apply, val_main_v13_apply, val_main_v12_apply]
  unfold gk
  refine congrArg x1 (funext fun a => Fin.ext ?_)
  match a with
  | ⟨0, _⟩ =>
    show ((((i 0).val * 2048 + (i 2).val) * 4 + (i 1).val) * 256 + (i 3).val) / 1024 = ((i 0).val * 2048 + (i 2).val) % 16384
    omega
  | ⟨1, _⟩ =>
    show ((((i 0).val * 2048 + (i 2).val) * 4 + (i 1).val) * 256 + (i 3).val) % 1024 = ((i 1).val * 256 + (i 3).val) % 1024
    omega

theorem r17 (x2 : (⟨S16384x2048, .bf16⟩ : BufTy).Contents (Elt Ideal)) (i : S8x4x2048x512.Idx) :
    val_main_v17 (F := Ideal) x2 i = gv x2 (i 0).val (i 1).val (i 2).val (i 3) := by
  have h0 : (i 0).val < 8 := (i 0).isLt
  have h1 : (i 1).val < 4 := (i 1).isLt
  have h2 : (i 2).val < 2048 := (i 2).isLt
  have h3 : (i 3).val < 512 := (i 3).isLt
  rw [val_main_v17_apply, val_main_v16_apply, val_main_v15_apply]
  unfold gv
  refine congrArg x2 (funext fun a => Fin.ext ?_)
  match a with
  | ⟨0, _⟩ =>
    show ((((i 0).val * 2048 + (i 2).val) * 4 + (i 1).val) * 512 + (i 3).val) / 2048 = ((i 0).val * 2048 + (i 2).val) % 16384
    omega
  | ⟨1, _⟩ =>
    show ((((i 0).val * 2048 + (i 2).val) * 4 + (i 1).val) * 512 + (i 3).val) % 2048 = ((i 1).val * 512 + (i 3).val) % 2048
    omega

/-- The masked decay between two rows. -/
theorem r33 (i : S4x2048x2048.Idx) :
    val_main_v33 (F := Ideal) i = ((mask (i 0).val (i 1).val (i 2).val : ℝ) : EReal) := by
  have h0 : (i 0).val < 4 := (i 0).isLt
  have h1 : (i 1).val < 2048 := (i 1).isLt
  have h2 : (i 2).val < 2048 := (i 2).isLt
  simp only [val_main_v33_apply, val_main_call0_v1_apply, val_main_v27_apply, val_main_v25_apply, val_main_v23_apply, val_main_v21_apply, val_main_v22_apply, val_main_v19_apply, val_main_v20_apply,
    val_main_v26_apply, val_main_cst_3_apply, val_main_v32_apply, val_main_v31_apply, val_main_v29_apply, val_main_v28_apply, val_main_v30_apply, val_main_v24_apply, r7, val_main_call0_v2_apply, val_main_call0_v0_apply, val_main_cst_4_apply]
  change (Scalar.select (FloatOps.cmpf (F := Ideal) (φ := .f32) .oge (FloatOps.subf (F := Ideal) (φ := .f32) (FloatOps.sitofp (F := Ideal) .f32 (BitVec.ofNat 32 (i 1).val) : EReal) (FloatOps.sitofp (F := Ideal) .f32 (BitVec.ofNat 32 (i 2).val) : EReal))
    (FloatOps.ofBits .f32 0x00000000#32)) (FloatOps.hostUnary (F := Ideal) (φ := .f32) .exp (FloatOps.mulf (F := Ideal) (φ := .f32)
      (FloatOps.subf (F := Ideal) (φ := .f32) (FloatOps.sitofp (F := Ideal) .f32 (BitVec.ofNat 32 (i 1).val) : EReal) (FloatOps.sitofp (F := Ideal) .f32 (BitVec.ofNat 32 (i 2).val) : EReal)) ((lg (i 0).val : ℝ) : EReal))) (FloatOps.ofBits (F := Ideal) .f32 0x00000000#32) : EReal) = _
  rw [sitofp_nat _ (by omega), sitofp_nat _ (by omega), sub_coe, decay_word, f32_0]
  exact mask_word _ _ _

/-- The decay of a query. -/
theorem r41 (i : S4x2048.Idx) : val_main_v41 (F := Ideal) i = ((dec (i 0).val (((i 1).val : ℝ) + 1) : ℝ) : EReal) := by
  have h0 : (i 0).val < 4 := (i 0).isLt
  have h1 : (i 1).val < 2048 := (i 1).isLt
  simp only [val_main_v41_apply, val_main_v40_apply, val_main_v38_apply, val_main_v36_apply, val_main_v34_apply, val_main_v35_apply, val_main_cst_5_apply, val_main_v39_apply, val_main_v37_apply, r7]
  change (FloatOps.hostUnary (F := Ideal) (φ := .f32) .exp (FloatOps.mulf (F := Ideal) (φ := .f32)
    (FloatOps.addf (F := Ideal) (φ := .f32) (FloatOps.sitofp (F := Ideal) .f32 (BitVec.ofNat 32 (i 1).val) : EReal) (FloatOps.ofBits .f32 0x3F800000#32)) ((lg (i 0).val : ℝ) : EReal)) : EReal) = _
  rw [sitofp_nat _ (by omega), f32_1, add_coe, decay_word]

/-- The decay of a key to the end of its sequence. -/
theorem r49 (i : S4x2048.Idx) : val_main_v49 (F := Ideal) i = ((dec (i 0).val (2047 - ((i 1).val : ℝ)) : ℝ) : EReal) := by
  have h0 : (i 0).val < 4 := (i 0).isLt
  have h1 : (i 1).val < 2048 := (i 1).isLt
  simp only [val_main_v49_apply, val_main_v48_apply, val_main_v46_apply, val_main_v44_apply, val_main_v42_apply, val_main_v43_apply, val_main_cst_6_apply, val_main_v47_apply, val_main_v45_apply, r7]
  change (FloatOps.hostUnary (F := Ideal) (φ := .f32) .exp (FloatOps.mulf (F := Ideal) (φ := .f32)
    (FloatOps.subf (F := Ideal) (φ := .f32) (FloatOps.ofBits .f32 0x44FFE000#32) (FloatOps.sitofp (F := Ideal) .f32 (BitVec.ofNat 32 (i 1).val) : EReal)) ((lg (i 0).val : ℝ) : EReal)) : EReal) = _
  rw [sitofp_nat _ (by omega), f32_2047, sub_coe, decay_word]

/-- The decay over a whole sequence. -/
theorem r52 (i : S4.Idx) : val_main_v52 (F := Ideal) i = ((dec (i 0).val 2048 : ℝ) : EReal) := by
  simp only [val_main_v52_apply, val_main_v51_apply, val_main_v50_apply, val_main_cst_7_apply, r7, f32_2048, decay_word]

/-- The scores of a row against the rows of its sequence. -/
theorem r53 (x0 : (⟨S16384x1024, .bf16⟩ : BufTy).Contents (Elt Ideal)) (x1 : (⟨S16384x1024, .bf16⟩ : BufTy).Contents (Elt Ideal)) (i : S8x4x2048x2048.Idx) : val_main_v53 (F := Ideal) x0 x1 i
    = ∑ d : Fin 256, gk x0 (i 0).val (i 1).val (i 2).val d * gk x1 (i 0).val (i 1).val (i 3).val d := by
  rw [val_main_v53_apply]
  refine Finset.sum_congr rfl fun d _ => ?_
  rw [r11, r14]
  rfl

/-- An output row before the norm. -/
theorem r62 (x0 : (⟨S16384x1024, .bf16⟩ : BufTy).Contents (Elt Ideal)) (x1 : (⟨S16384x1024, .bf16⟩ : BufTy).Contents (Elt Ideal)) (x2 : (⟨S16384x2048, .bf16⟩ : BufTy).Contents (Elt Ideal))  (i : S8x4x2048x512.Idx) : val_main_v62 (F := Ideal) x0 x1 x2  i
    = wO x0 x1 x2 (i 0).val (i 1).val (i 2).val (i 3) := by
  rw [val_main_v62_apply]
  have hz : val_main_v58 (F := Ideal) x0 i = 0 := by
    rw [val_main_v58_apply]
    refine Finset.sum_eq_zero fun d _ => ?_
    simp only [val_main_v8_apply, val_main_cst_2_apply, f32_0]
    exact mul_zero _
  have hz' : val_main_v61 (F := Ideal) x0 i = 0 := by
    rw [val_main_v61_apply, hz]
    exact zero_mul _
  rw [hz']
  refine (add_zero _).trans ?_
  rw [val_main_v57_apply]
  unfold wO
  refine Finset.sum_congr rfl fun s _ => ?_
  rw [val_main_v56_apply, r53, val_main_v55_apply, val_main_v54_apply, r33, r17]
  rfl

/-- A sequence's state after its last row. -/
theorem r70 (x1 : (⟨S16384x1024, .bf16⟩ : BufTy).Contents (Elt Ideal)) (x2 : (⟨S16384x2048, .bf16⟩ : BufTy).Contents (Elt Ideal))  (i : S8x4x256x512.Idx) : val_main_v70 (F := Ideal) x1 x2  i
    = wS x1 x2 (i 0).val (i 1).val (i 2) (i 3) := by
  rw [val_main_v70_apply, val_main_v65_apply]

  have hz : FloatOps.mulf (F := Ideal) (φ := .f32) (val_main_v8 (F := Ideal) i) (val_main_v64 (F := Ideal) i) = (0 : EReal) := by
    simp only [val_main_v8_apply, val_main_cst_2_apply, f32_0]
    exact zero_mul _
  rw [hz]
  refine (zero_add _).trans ?_
  unfold wS
  · rw [val_main_v69_apply]
    refine Finset.sum_congr rfl fun s _ => ?_
    rw [val_main_v68_apply, r14, val_main_v67_apply, val_main_v66_apply, r49, r17]
    rfl

/-- The norm's scale. -/
theorem r72 (x6 : (⟨S2x4x512, .f32⟩ : BufTy).Contents (Elt Ideal)) (i : S4x512.Idx) : val_main_v72 (F := Ideal) x6 i = gain x6 (i 0).val (i 1) := by
  have h0 : (i 0).val < 4 := (i 0).isLt
  have h1 : (i 1).val < 512 := (i 1).isLt
  rw [val_main_v72_apply, val_main_v71_apply]
  unfold gain
  refine congrArg x6 (funext fun a => Fin.ext ?_)
  match a with
  | ⟨0, _⟩ => rfl
  | ⟨1, _⟩ =>
    show ((i 0).val * 512 + (i 1).val) / 512 % 4 = (i 0).val % 4
    omega
  | ⟨2, _⟩ =>
    show ((i 0).val * 512 + (i 1).val) % 512 = (i 1).val
    omega

/-- An output row. -/
theorem r85 (x0 : (⟨S16384x1024, .bf16⟩ : BufTy).Contents (Elt Ideal)) (x1 : (⟨S16384x1024, .bf16⟩ : BufTy).Contents (Elt Ideal)) (x2 : (⟨S16384x2048, .bf16⟩ : BufTy).Contents (Elt Ideal)) (x6 : (⟨S2x4x512, .f32⟩ : BufTy).Contents (Elt Ideal))  (i : S8x4x2048x512.Idx) : val_main_v85 (F := Ideal) x0 x1 x2 x6  i
    = nrm (wO x0 x1 x2 (i 0).val (i 1).val (i 2).val) (gain x6 (i 1).val) (i 3) := by
  simp only [val_main_v85_apply, val_main_v82_apply, val_main_v84_apply, val_main_v83_apply, r72, val_main_v81_apply, val_main_v80_apply, val_main_v79_apply, val_main_v77_apply, val_main_v75_apply, val_main_v74_apply, val_main_v73_apply,
    r62, val_main_v76_apply, val_main_v78_apply, val_main_cst_8_apply, val_main_cst_9_apply, val_main_cst_10_apply]
  unfold nrm
  refine congrArg₂ (fun x y : EReal => x * y) (congrArg₂ (fun x y : EReal => x * y) rfl ?_) rfl
  refine congrArg (fun x : EReal => Ideal.rsqrt (Ideal.div x _ + _)) ?_
  rw [f32_0]
  exact zero_add _

theorem r88 (x0 : (⟨S16384x1024, .bf16⟩ : BufTy).Contents (Elt Ideal)) (x1 : (⟨S16384x1024, .bf16⟩ : BufTy).Contents (Elt Ideal)) (x2 : (⟨S16384x2048, .bf16⟩ : BufTy).Contents (Elt Ideal)) (x6 : (⟨S2x4x512, .f32⟩ : BufTy).Contents (Elt Ideal))  (i : S16384x2048.Idx) : val_main_v88 (F := Ideal) x0 x1 x2 x6  i
    = nrm (wO x0 x1 x2 ((i 0).val / 2048) ((i 1).val / 512) ((i 0).val % 2048)) (gain x6 ((i 1).val / 512))
      (⟨(i 1).val % 512, Nat.mod_lt _ (by decide)⟩ : Fin 512) := by
  have h0 : (i 0).val < 16384 := (i 0).isLt
  have h1 : (i 1).val < 2048 := (i 1).isLt
  rw [val_main_v88_apply, val_main_v87_apply, val_main_v86_apply, r85]
  have e0 : ((i 0).val * 2048 + (i 1).val) / 4194304 = (i 0).val / 2048 := by omega
  have e1 : ((i 0).val * 2048 + (i 1).val) / 512 % 4 = (i 1).val / 512 := by omega
  have e2 : ((i 0).val * 2048 + (i 1).val) / 2048 % 2048 = (i 0).val % 2048 := by omega
  have e3 : ((i 0).val * 2048 + (i 1).val) % 512 = (i 1).val % 512 := by omega
  change nrm (wO x0 x1 x2 (((i 0).val * 2048 + (i 1).val) / 4194304) (((i 0).val * 2048 + (i 1).val) / 512 % 4)
    (((i 0).val * 2048 + (i 1).val) / 2048 % 2048)) (gain x6 (((i 0).val * 2048 + (i 1).val) / 512 % 4)) _ = _
  rw [e0, e1, e2]
  exact congrArg _ (Fin.ext e3)

theorem r175 (x1 : (⟨S16384x1024, .bf16⟩ : BufTy).Contents (Elt Ideal)) (x2 : (⟨S16384x2048, .bf16⟩ : BufTy).Contents (Elt Ideal))  (x8 : (⟨S2x8x4x256x512, .f32⟩ : BufTy).Contents (Elt Ideal)) (i : S2x8x4x256x512.Idx) : val_main_v175 (F := Ideal) x1 x2 x8 i
    = if (i 0).val = 1 then wS x1 x2 (i 1).val (i 2).val (i 3) (i 4) else x8 i := by
  have h0 : (i 0).val < 2 := (i 0).isLt
  have h1 : (i 1).val < 8 := (i 1).isLt
  have h2 : (i 2).val < 4 := (i 2).isLt
  have h3 : (i 3).val < 256 := (i 3).isLt
  have h4 : (i 4).val < 512 := (i 4).isLt
  unfold val_main_v175
  by_cases h : (i 0).val = 1
  · rw [if_pos h]
    refine (concatenate_pair_apply_right (0 : Fin 5) (val_main_v173 (F := Ideal) x8) (val_main_v174 (F := Ideal) x1 x2 ) _ i rfl rfl
      (ix5 (0 : Fin 1) (i 1) (i 2) (i 3) (i 4)) (fun b hb => ?_) ?_).trans ?_
    · match b with
      | ⟨0, _⟩ => exact absurd rfl hb
      | ⟨1, _⟩ => rfl
      | ⟨2, _⟩ => rfl
      | ⟨3, _⟩ => rfl
      | ⟨4, _⟩ => rfl
    · show 0 + 1 = (i 0).val
      omega
    · rw [val_main_v174_apply, r70]
      rfl
  · rw [if_neg h]
    refine (concatenate_pair_apply_left (0 : Fin 5) (val_main_v173 (F := Ideal) x8) (val_main_v174 (F := Ideal) x1 x2 ) _ i rfl
      (ix5 (0 : Fin 1) (i 1) (i 2) (i 3) (i 4)) (fun b => ?_)).trans ?_
    · match b with
      | ⟨0, _⟩ =>
        show 0 = (i 0).val
        omega
      | ⟨1, _⟩ => rfl
      | ⟨2, _⟩ => rfl
      | ⟨3, _⟩ => rfl
      | ⟨4, _⟩ => rfl
    · rw [val_main_v173_apply, val_main_v172_apply, val_main_v171_apply]
      refine congrArg x8 (funext fun a => Fin.ext ?_)
      match a with
      | ⟨0, _⟩ =>
        show 0 = (i 0).val
        omega
      | ⟨1, _⟩ =>
        show ((((i 1).val * 4 + (i 2).val) * 256 + (i 3).val) * 512 + (i 4).val) / 524288 % 8 = (i 1).val
        omega
      | ⟨2, _⟩ =>
        show ((((i 1).val * 4 + (i 2).val) * 256 + (i 3).val) * 512 + (i 4).val) / 131072 % 4 = (i 2).val
        omega
      | ⟨3, _⟩ =>
        show ((((i 1).val * 4 + (i 2).val) * 256 + (i 3).val) * 512 + (i 4).val) / 512 % 256 = (i 3).val
        omega
      | ⟨4, _⟩ =>
        show ((((i 1).val * 4 + (i 2).val) * 256 + (i 3).val) * 512 + (i 4).val) % 512 = (i 4).val
        omega

end Cert.Retention

end
-- ==== Proof.Sample.lean ====
module

public import proofs.«01_k».proof.Proof.Points

@[expose] public section

/-! What one grid point computes for the sample, over its blocks: one head of sixteen sequences of four rows each. The
    kernel takes the sequences one after the other, each by a select over the 64 rows on the row's sequence number. -/

set_option maxRecDepth 16384

noncomputable section

namespace Cert.Retention

open Idealize.ShloMosaic Idealize.ShloMosaic.TcCoe Idealize.ShloMosaic.Tactic Cert.KernelIdeal Cert.KernelIdeal.Gen

/-- Every row's sequence number, as the kernel computes it. -/
def seqW : IVec S64x1 32 := k0_pay5 (iota Kind.tc S64x1 32 [0] iota_S64x1_d0_w32) (4#32) k0_pay3 k0_pay4 1#32

theorem seqW_apply (a : Fin 64) : seqW (ix2 a 0) = BitVec.ofNat 32 (a.val / 4) := by
  unfold seqW
  revert a
  decide +kernel

/-- The rows of sequence `w`, and none other. -/
theorem seqW_eq (a : Fin 64) (n : ℕ) (hn : n < 16) :
    IntOp.cmpi .eq (seqW (ix2 a 0)) (BitVec.ofNat 32 n) = if a.val / 4 = n then 1#1 else 0#1 := by
  rw [seqW_apply]
  have ha : a.val < 64 := a.isLt
  by_cases h : a.val / 4 = n
  · rw [if_pos h, h]; simp [IntOp.cmpi]
  · rw [if_neg h]
    have : ¬ BitVec.ofNat 32 (a.val / 4) = BitVec.ofNat 32 n := fun hh => h (by
      have := congrArg BitVec.toNat hh
      rw [BitVec.toNat_ofNat, BitVec.toNat_ofNat, Nat.mod_eq_of_lt (by omega), Nat.mod_eq_of_lt (by omega)] at this
      exact this)
    show BitVec.ofBool (BitVec.ofNat 32 (a.val / 4) == BitVec.ofNat 32 n) = 0#1
    rw [beq_false_of_ne this]; rfl

/-- Sequence `w`'s new state: the decayed old one and its own rows' outer products. -/
def updV (w : BitVec 32) (v : Vec Ideal S64x512 .bf16) (k : FVec Ideal S64x256 .f32) (cd : EReal) (s : Vec Ideal S1x1x1x256x512 .f32) :
    FVec Ideal S1x1x1x256x512 .f32 :=
  shapeCast S1x1x1x256x512
    (addf (mulf (shapeCast S256x512 s shapeCasts_S1x1x1x256x512_S256x512) (broadcast S256x512 cd))
      (matmul (φ₁ := .bf16) (φ₂ := .bf16) dot_S64x256_S64x512_S256x512_0_0_1_1_n_n none
        (truncf .bf16 (select (broadcastTo S64x256 (shapeCast S64x1 (cmpi .eq seqW (broadcast S64x1 w)) shapeCasts_S64x1_S64x1) broadcasts_S64x1_S64x256)
          k (broadcast S64x256 (Scalar.ofBits (F := Ideal) .f32 0x00000000#32))) bitsLt_bf16_f32) v
        (constant (F := Ideal) S256x512 .f32 0x00000000#32)))
    shapeCasts_S256x512_S1x1x1x256x512

/-- Sequence `w`'s rows of the queries on its old state, the other rows as they were. -/
def pickV (w : BitVec 32) (q : Vec Ideal S64x256 .bf16) (s : Vec Ideal S1x1x1x256x512 .f32) (p : FVec Ideal S64x512 .f32) : FVec Ideal S64x512 .f32 :=
  select (broadcastTo S64x512 (shapeCast S64x1 (cmpi .eq seqW (broadcast S64x1 w)) shapeCasts_S64x1_S64x1) broadcasts_S64x1_S64x512)
    (matmul (φ₁ := .bf16) (φ₂ := .bf16) dot_S64x256_S256x512_S64x512_1_0_0_1_n_n none q
      (truncf .bf16 (shapeCast S256x512 s shapeCasts_S1x1x1x256x512_S256x512) bitsLt_bf16_f32) (constant (F := Ideal) S64x512 .f32 0x00000000#32))
    p

theorem updV_apply (n : ℕ) (hn : n < 16) (v : Vec Ideal S64x512 .bf16) (k : FVec Ideal S64x256 .f32) (cd : EReal) (s : Vec Ideal S1x1x1x256x512 .f32)
    (d : Fin 256) (e : Fin 512) :
    updV (BitVec.ofNat 32 n) v k cd s (ix5 0 0 0 d e)
      = s (ix5 0 0 0 d e) * cd + ∑ x : Fin 64, (if x.val / 4 = n then k (ix2 x d) else 0) * v (ix2 x e) := by
  unfold updV
  pointwise
  refine congrArg (fun z => s (ix5 0 0 0 d e) * cd + z) (Finset.sum_congr rfl fun x _ => ?_)
  rw [seqW_eq x n hn]
  by_cases h : x.val / 4 = n
  · rw [if_pos h, if_pos h]; rfl
  · rw [if_neg h, if_neg h, zero_mul]; rfl

theorem pickV_apply (n : ℕ) (hn : n < 16) (q : Vec Ideal S64x256 .bf16) (s : Vec Ideal S1x1x1x256x512 .f32) (p : FVec Ideal S64x512 .f32)
    (a : Fin 64) (e : Fin 512) :
    pickV (BitVec.ofNat 32 n) q s p (ix2 a e)
      = if a.val / 4 = n then ∑ x : Fin 256, q (ix2 a x) * s (ix5 0 0 0 x e) else p (ix2 a e) := by
  unfold pickV
  pointwise
  rw [seqW_eq a n hn]
  by_cases h : a.val / 4 = n
  · rw [if_pos h, if_pos h]; rfl
  · rw [if_neg h, if_neg h]; rfl

/-- The first `n` sequences' rows of the queries on their old states. -/
def pickAll (q : Vec Ideal S64x256 .bf16) (s : ℕ → Vec Ideal S1x1x1x256x512 .f32) : ℕ → FVec Ideal S64x512 .f32
  | 0 => broadcast S64x512 (Scalar.ofBits (F := Ideal) .f32 0x00000000#32)
  | n + 1 => pickV (BitVec.ofNat 32 n) q (s n) (pickAll q s n)

theorem pickAll_apply (q : Vec Ideal S64x256 .bf16) (s : ℕ → Vec Ideal S1x1x1x256x512 .f32) (a : Fin 64) (e : Fin 512) (n : ℕ) (hn : n ≤ 16)
    (h : a.val / 4 < n) : pickAll q s n (ix2 a e) = ∑ x : Fin 256, q (ix2 a x) * s (a.val / 4) (ix5 0 0 0 x e) := by
  induction n with
  | zero => omega
  | succ n ih =>
    rw [pickAll, pickV_apply n (by omega)]
    by_cases h' : a.val / 4 = n
    · rw [if_pos h', h']
    · rw [if_neg h', ih (by omega) (by omega)]

/-- Sequence `n`'s state in the block of states. -/
def sBlk (x : Vec Ideal S1x16x1x256x512 .f32) (n : ℕ) : Vec Ideal S1x1x1x256x512 .f32 :=
  fun i => x (ix5 (i 0) (⟨n % 16, Nat.mod_lt _ (by decide)⟩ : Fin 16) (i 2) (i 3) (i 4))

theorem ld_s_0 (x : Vec Ideal S1x16x1x256x512 .f32) :
    View.ld x (Rect.unit ![0, 0, 0, 0, 0] ![1, 1, 1, 256, 512] inb_S1x16x1x256x512_S1x1x1x256x512_0_0_0_0_0) = sBlk x 0 := by
  funext i; pointwise; unfold sBlk; blk_ext []
theorem ld_s_1 (x : Vec Ideal S1x16x1x256x512 .f32) :
    View.ld x (Rect.unit ![0, 1, 0, 0, 0] ![1, 1, 1, 256, 512] inb_S1x16x1x256x512_S1x1x1x256x512_0_1_0_0_0) = sBlk x 1 := by
  funext i; pointwise; unfold sBlk; blk_ext []
theorem ld_s_2 (x : Vec Ideal S1x16x1x256x512 .f32) :
    View.ld x (Rect.unit ![0, 2, 0, 0, 0] ![1, 1, 1, 256, 512] inb_S1x16x1x256x512_S1x1x1x256x512_0_2_0_0_0) = sBlk x 2 := by
  funext i; pointwise; unfold sBlk; blk_ext []
theorem ld_s_3 (x : Vec Ideal S1x16x1x256x512 .f32) :
    View.ld x (Rect.unit ![0, 3, 0, 0, 0] ![1, 1, 1, 256, 512] inb_S1x16x1x256x512_S1x1x1x256x512_0_3_0_0_0) = sBlk x 3 := by
  funext i; pointwise; unfold sBlk; blk_ext []
theorem ld_s_4 (x : Vec Ideal S1x16x1x256x512 .f32) :
    View.ld x (Rect.unit ![0, 4, 0, 0, 0] ![1, 1, 1, 256, 512] inb_S1x16x1x256x512_S1x1x1x256x512_0_4_0_0_0) = sBlk x 4 := by
  funext i; pointwise; unfold sBlk; blk_ext []
theorem ld_s_5 (x : Vec Ideal S1x16x1x256x512 .f32) :
    View.ld x (Rect.unit ![0, 5, 0, 0, 0] ![1, 1, 1, 256, 512] inb_S1x16x1x256x512_S1x1x1x256x512_0_5_0_0_0) = sBlk x 5 := by
  funext i; pointwise; unfold sBlk; blk_ext []
theorem ld_s_6 (x : Vec Ideal S1x16x1x256x512 .f32) :
    View.ld x (Rect.unit ![0, 6, 0, 0, 0] ![1, 1, 1, 256, 512] inb_S1x16x1x256x512_S1x1x1x256x512_0_6_0_0_0) = sBlk x 6 := by
  funext i; pointwise; unfold sBlk; blk_ext []
theorem ld_s_7 (x : Vec Ideal S1x16x1x256x512 .f32) :
    View.ld x (Rect.unit ![0, 7, 0, 0, 0] ![1, 1, 1, 256, 512] inb_S1x16x1x256x512_S1x1x1x256x512_0_7_0_0_0) = sBlk x 7 := by
  funext i; pointwise; unfold sBlk; blk_ext []
theorem ld_s_8 (x : Vec Ideal S1x16x1x256x512 .f32) :
    View.ld x (Rect.unit ![0, 8, 0, 0, 0] ![1, 1, 1, 256, 512] inb_S1x16x1x256x512_S1x1x1x256x512_0_8_0_0_0) = sBlk x 8 := by
  funext i; pointwise; unfold sBlk; blk_ext []
theorem ld_s_9 (x : Vec Ideal S1x16x1x256x512 .f32) :
    View.ld x (Rect.unit ![0, 9, 0, 0, 0] ![1, 1, 1, 256, 512] inb_S1x16x1x256x512_S1x1x1x256x512_0_9_0_0_0) = sBlk x 9 := by
  funext i; pointwise; unfold sBlk; blk_ext []
theorem ld_s_10 (x : Vec Ideal S1x16x1x256x512 .f32) :
    View.ld x (Rect.unit ![0, 10, 0, 0, 0] ![1, 1, 1, 256, 512] inb_S1x16x1x256x512_S1x1x1x256x512_0_10_0_0_0) = sBlk x 10 := by
  funext i; pointwise; unfold sBlk; blk_ext []
theorem ld_s_11 (x : Vec Ideal S1x16x1x256x512 .f32) :
    View.ld x (Rect.unit ![0, 11, 0, 0, 0] ![1, 1, 1, 256, 512] inb_S1x16x1x256x512_S1x1x1x256x512_0_11_0_0_0) = sBlk x 11 := by
  funext i; pointwise; unfold sBlk; blk_ext []
theorem ld_s_12 (x : Vec Ideal S1x16x1x256x512 .f32) :
    View.ld x (Rect.unit ![0, 12, 0, 0, 0] ![1, 1, 1, 256, 512] inb_S1x16x1x256x512_S1x1x1x256x512_0_12_0_0_0) = sBlk x 12 := by
  funext i; pointwise; unfold sBlk; blk_ext []
theorem ld_s_13 (x : Vec Ideal S1x16x1x256x512 .f32) :
    View.ld x (Rect.unit ![0, 13, 0, 0, 0] ![1, 1, 1, 256, 512] inb_S1x16x1x256x512_S1x1x1x256x512_0_13_0_0_0) = sBlk x 13 := by
  funext i; pointwise; unfold sBlk; blk_ext []
theorem ld_s_14 (x : Vec Ideal S1x16x1x256x512 .f32) :
    View.ld x (Rect.unit ![0, 14, 0, 0, 0] ![1, 1, 1, 256, 512] inb_S1x16x1x256x512_S1x1x1x256x512_0_14_0_0_0) = sBlk x 14 := by
  funext i; pointwise; unfold sBlk; blk_ext []
theorem ld_s_15 (x : Vec Ideal S1x16x1x256x512 .f32) :
    View.ld x (Rect.unit ![0, 15, 0, 0, 0] ![1, 1, 1, 256, 512] inb_S1x16x1x256x512_S1x1x1x256x512_0_15_0_0_0) = sBlk x 15 := by
  funext i; pointwise; unfold sBlk; blk_ext []

/-- The point's decay over a sequence's four rows. -/
def cdsF (x : Vec Ideal S4 .f32) (t : Fin cfg0.N) : EReal := x (ix1 (⟨t.val % 4, Nat.mod_lt _ (by decide)⟩ : Fin 4))

theorem off1 (t : Fin cfg0.N) : k0_off1 (grid0.coords t) 0 = t.val % 4 := by revert t; decide +kernel

theorem ld_cds (x : Vec Ideal S4 .f32) (t : Fin cfg0.N) (hb) (hn : 0 < (Rect.unit (s := S4) (k0_off1 (grid0.coords t)) ![1] hb).shape.numel) :
    View.ld x (Rect.unit (k0_off1 (grid0.coords t)) ![1] hb) (Shape.Idx.first hn) = cdsF x t := by
  unfold cdsF
  refine congrArg x (funext fun a => Fin.ext ?_)
  obtain rfl : a = 0 := Subsingleton.elim _ _
  show k0_off1 (grid0.coords t) 0 + 1 * 0 = _
  rw [off1]; rfl

/-! ## The stages as the kernel names them -/

section Stages
variable (v : Vec Ideal S64x512 .bf16) (q : Vec Ideal S64x256 .bf16) (k : FVec Ideal S64x256 .f32) (cd : EReal) (s s1 : Vec Ideal S1x1x1x256x512 .f32)
  (p : FVec Ideal S64x512 .f32)

theorem sample_0 : k0_pay5 (iota Kind.tc S64x1 32 [0] iota_S64x1_d0_w32) (4#32) k0_pay3 k0_pay4 1#32 = seqW := rfl
theorem sample_1 : k0_pay11 (k0_pay10 v k cd (iota Kind.tc S64x1 32 [0] iota_S64x1_d0_w32) (4#32) k0_pay3 k0_pay4 1#32 s) = updV 0#32 v k cd s := rfl
theorem sample_2 : k0_pay14 v k cd seqW s = updV 1#32 v k cd s := rfl
theorem sample_3 : k0_pay18 v k cd (k0_pay15 s) (k0_pay16 seqW) = updV 2#32 v k cd s := rfl
theorem sample_4 : k0_pay22 v k cd seqW s = updV 3#32 v k cd s := rfl
theorem sample_5 : k0_pay25 v k cd seqW s = updV 4#32 v k cd s := rfl
theorem sample_6 : k0_pay30 (k0_pay29 v k cd seqW s) = updV 5#32 v k cd s := rfl
theorem sample_7 : k0_pay33 v k cd seqW s = updV 6#32 v k cd s := rfl
theorem sample_8 : k0_pay37 v k cd (k0_pay34 s) (k0_pay35 seqW) = updV 7#32 v k cd s := rfl
theorem sample_9 : k0_pay41 v k cd seqW s = updV 8#32 v k cd s := rfl
theorem sample_10 : k0_pay44 v k cd seqW s = updV 9#32 v k cd s := rfl
theorem sample_11 : k0_pay49 (k0_pay48 v k cd seqW s) = updV 10#32 v k cd s := rfl
theorem sample_12 : k0_pay52 v k cd seqW s = updV 11#32 v k cd s := rfl
theorem sample_13 : k0_pay56 v k cd (k0_pay53 s) (k0_pay54 seqW) = updV 12#32 v k cd s := rfl
theorem sample_14 : k0_pay60 v k cd seqW s = updV 13#32 v k cd s := rfl
theorem sample_15 : k0_pay63 v k cd seqW s = updV 14#32 v k cd s := rfl
theorem sample_16 : k0_pay68 (k0_pay67 v k cd seqW s) = updV 15#32 v k cd s := rfl
theorem sample_17 : k0_pay9 q (iota Kind.tc S64x1 32 [0] iota_S64x1_d0_w32) (4#32) k0_pay3 k0_pay4 1#32 s = pickV 0#32 q s (broadcast S64x512 (Scalar.ofBits (F := Ideal) .f32 0x00000000#32)) := rfl
theorem sample_18 : k0_pay17 q seqW p s s1 = pickV 2#32 q s1 (pickV 1#32 q s p) := rfl
theorem sample_19 : k0_pay28 q seqW p s s1 = pickV 5#32 q s1 (pickV 4#32 q s p) := rfl
theorem sample_20 : k0_pay36 q seqW p s s1 = pickV 7#32 q s1 (pickV 6#32 q s p) := rfl
theorem sample_21 : k0_pay47 q seqW p s s1 = pickV 10#32 q s1 (pickV 9#32 q s p) := rfl
theorem sample_22 : k0_pay55 q seqW p s s1 = pickV 12#32 q s1 (pickV 11#32 q s p) := rfl
theorem sample_23 : k0_pay66 q seqW p s s1 = pickV 15#32 q s1 (pickV 14#32 q s p) := rfl
theorem sample_24 : k0_pay21 q seqW p s = pickV 3#32 q s p := rfl
theorem sample_25 : k0_pay40 q seqW p s = pickV 8#32 q s p := rfl
theorem sample_26 : k0_pay59 q seqW p s = pickV 13#32 q s p := rfl

end Stages

theorem kdec_apply (k : Vec Ideal S64x256 .bf16) (kd : Vec Ideal S1x64x1 .f32) (a : Fin 64) (d : Fin 256) :
    k0_pay2 k kd (ix2 a d) = k (ix2 a d) * kd (ix3 0 a 0) := by
  unfold k0_pay2
  pointwise
theorem sIntra_apply (q k : Vec Ideal S64x256 .bf16) (v : Vec Ideal S64x512 .bf16) (dm : Vec Ideal S1x64x64 .f32) (a : Fin 64) (e : Fin 512) :
    k0_pay6 q v k dm (ix2 a e)
      = ∑ b : Fin 64, ((∑ d : Fin 256, q (ix2 a d) * k (ix2 b d)) * dm (ix3 0 a b)) * v (ix2 b e) := by
  unfold k0_pay6
  pointwise
theorem sNorm_apply (a b : FVec Ideal S64x512 .f32) (qd : Vec Ideal S1x64x1 .f32) (g : Vec Ideal S1x1x1x512 .f32) (r : Fin 64) (e : Fin 512) :
    k0_pay69 a b qd g (ix2 r e) = nrm (fun e => a (ix2 r e) + b (ix2 r e) * qd (ix3 0 r 0)) (fun e => g (ix4 0 0 0 e)) e := by
  unfold k0_pay69 nrm
  pointwise

variable (c : Dev nD) (x0 x1 : Vec Ideal S1024x512 .bf16) (x2 : Vec Ideal S1024x1024 .bf16) (x3 : Vec Ideal S1x2x1x512 .f32)
  (x4 : Vec Ideal S2x256x256 .f32) (x5 x6 : Vec Ideal S2x256x1 .f32) (x7 : Vec Ideal S4 .f32) (x8 x9 : Vec Ideal S64x256 .bf16)
  (x10 : Vec Ideal S64x512 .bf16) (x11 : Vec Ideal S1x1x1x512 .f32) (x12 : Vec Ideal S1x64x64 .f32) (x13 x14 : Vec Ideal S1x64x1 .f32)
  (x15 : Vec Ideal S4 .f32) (x16 : Vec Ideal S1x16x1x256x512 .f32)

/-- The sample's output block. -/
def sOutBlk : FVec Ideal S64x512 .bf16 := k0_pay69 (k0_pay6 x8 x10 x9 x12) (pickAll x8 (sBlk x16) 16) x13 x11

/-- The sample's state block: one new state per sequence. -/
def sStateBlk (cd : EReal) (y : S1x16x1x256x512.Idx) : EReal :=
  updV (BitVec.ofNat 32 (y 1).val) x10 (k0_pay2 x9 x14) cd (sBlk x16 (y 1).val) (ix5 0 0 0 (y 3) (y 4))

theorem sState_piece (cd : EReal) (n : ℕ) (hb : ∀ a, (![0, n, 0, 0, 0] : Fin 5 → ℕ) a + (![1, 1, 1, 256, 512] : Fin 5 → ℕ) a ≤ S1x16x1x256x512.size a)
    (x : S1x1x1x256x512.Idx) :
    updV (BitVec.ofNat 32 n) x10 (k0_pay2 x9 x14) cd (sBlk x16 n) x
      = sStateBlk x9 x10 x14 x16 cd ((Rect.unit (s := S1x16x1x256x512) ![0, n, 0, 0, 0] ![1, 1, 1, 256, 512] hb).emb x) := by
  unfold sStateBlk
  have e : (((Rect.unit (s := S1x16x1x256x512) ![0, n, 0, 0, 0] ![1, 1, 1, 256, 512] hb).emb x) 1).val = n := by
    show n + 1 * (x 1).val = n
    have : (x 1).val < 1 := (x 1).isLt
    omega
  rw [e]
  refine congrArg _ (funext fun a => Fin.ext ?_)
  match a with
  | 0 => have : (x 0).val < 1 := (x 0).isLt; show (x 0).val = 0; omega
  | 1 => have : (x 1).val < 1 := (x 1).isLt; show (x 1).val = 0; omega
  | 2 => have : (x 2).val < 1 := (x 2).isLt; show (x 2).val = 0; omega
  | 3 => show (x 3).val = 0 + 1 * (x 3).val; omega
  | 4 => show (x 4).val = 0 + 1 * (x 4).val; omega

theorem out19_A (t : Fin cfg0.N) (h0 : t.val % 2 = 0) (y : S64x512.Idx) :
    out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) x0 x1 x2 x3 x4 x5 x6 x7 x8 x9 x10 x11 x12 x13 x14 x15 x16 y
      = sOutBlk x8 x9 x10 x11 x12 x13 x16 y := by
  frame_open
  simp (disch := decide) only [↓ View.readCov_skip, ↓ View.readCov_cons_toLoadRect, ↓ View.readCov_fill]
  frame_out
  simp only [sample_0, sample_1, sample_2, sample_3, sample_4, sample_5, sample_6, sample_7, sample_8, sample_9, sample_10, sample_11, sample_12, sample_13, sample_14, sample_15, sample_16, sample_17, sample_18, sample_19, sample_20, sample_21, sample_22, sample_23, sample_24, sample_25, sample_26, ld_s_0, ld_s_1, ld_s_2, ld_s_3, ld_s_4, ld_s_5, ld_s_6, ld_s_7, ld_s_8, ld_s_9, ld_s_10, ld_s_11, ld_s_12, ld_s_13, ld_s_14, ld_s_15]
  rfl

theorem out19_B (t : Fin cfg0.N) (h0 : ¬ t.val % 2 = 0) (X : Vec Ideal S1x1x2x256x512 .f32) (y : S64x512.Idx) :
    out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) x0 x1 x2 x3 x4 x5 x6 x7 x8 x9 x10 x11 x12 x13 x14 x15 x16 X y
      = sOutBlk x8 x9 x10 x11 x12 x13 x16 y := by
  frame_open
  simp (disch := decide) only [↓ View.readCov_skip, ↓ View.readCov_cons_toLoadRect, ↓ View.readCov_fill]
  frame_out
  simp only [sample_0, sample_1, sample_2, sample_3, sample_4, sample_5, sample_6, sample_7, sample_8, sample_9, sample_10, sample_11, sample_12, sample_13, sample_14, sample_15, sample_16, sample_17, sample_18, sample_19, sample_20, sample_21, sample_22, sample_23, sample_24, sample_25, sample_26, ld_s_0, ld_s_1, ld_s_2, ld_s_3, ld_s_4, ld_s_5, ld_s_6, ld_s_7, ld_s_8, ld_s_9, ld_s_10, ld_s_11, ld_s_12, ld_s_13, ld_s_14, ld_s_15]
  rfl

theorem out20_A (t : Fin cfg0.N) (h0 : t.val % 2 = 0) (y : S1x16x1x256x512.Idx) :
    out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) ((hcond0_0 t).mpr h0) x0 x1 x2 x3 x4 x5 x6 x7 x8 x9 x10 x11 x12 x13 x14 x15 x16 y
      = sStateBlk x9 x10 x14 x16 (cdsF x15 t) y := by
  frame_open
  simp (disch := decide) only [↓ View.readCov_skip, ↓ View.readCov_cons_toLoadRect, ↓ View.readCov_fill]
  frame_out
  simp only [sample_0, sample_1, sample_2, sample_3, sample_4, sample_5, sample_6, sample_7, sample_8, sample_9, sample_10, sample_11, sample_12, sample_13, sample_14, sample_15, sample_16, sample_17, sample_18, sample_19, sample_20, sample_21, sample_22, sample_23, sample_24, sample_25, sample_26, ld_s_0, ld_s_1, ld_s_2, ld_s_3, ld_s_4, ld_s_5, ld_s_6, ld_s_7, ld_s_8, ld_s_9, ld_s_10, ld_s_11, ld_s_12, ld_s_13, ld_s_14, ld_s_15]
  rw [ld_cds]
  refine View.canon_apply_of_pieces (Val := Elt Ideal) (e := .f32) (sStateBlk x9 x10 x14 x16 (cdsF x15 t)) _ ?_ y ?_
  case refine_2 => exact View.cover_of_tiledL _ (![1, 1, 1, 256, 512] : Fin 5 → ℕ) (by rfl) y
  simp only [List.forall_mem_cons]
  refine ⟨?_, ?_, ?_, ?_, ?_, ?_, ?_, ?_, ?_, ?_, ?_, ?_, ?_, ?_, ?_, ?_, fun p hp => absurd hp List.not_mem_nil⟩
  · exact fun x => sState_piece x9 x10 x14 x16 (cdsF x15 t) 15 _ x
  · exact fun x => sState_piece x9 x10 x14 x16 (cdsF x15 t) 14 _ x
  · exact fun x => sState_piece x9 x10 x14 x16 (cdsF x15 t) 13 _ x
  · exact fun x => sState_piece x9 x10 x14 x16 (cdsF x15 t) 12 _ x
  · exact fun x => sState_piece x9 x10 x14 x16 (cdsF x15 t) 11 _ x
  · exact fun x => sState_piece x9 x10 x14 x16 (cdsF x15 t) 10 _ x
  · exact fun x => sState_piece x9 x10 x14 x16 (cdsF x15 t) 9 _ x
  · exact fun x => sState_piece x9 x10 x14 x16 (cdsF x15 t) 8 _ x
  · exact fun x => sState_piece x9 x10 x14 x16 (cdsF x15 t) 7 _ x
  · exact fun x => sState_piece x9 x10 x14 x16 (cdsF x15 t) 6 _ x
  · exact fun x => sState_piece x9 x10 x14 x16 (cdsF x15 t) 5 _ x
  · exact fun x => sState_piece x9 x10 x14 x16 (cdsF x15 t) 4 _ x
  · exact fun x => sState_piece x9 x10 x14 x16 (cdsF x15 t) 3 _ x
  · exact fun x => sState_piece x9 x10 x14 x16 (cdsF x15 t) 2 _ x
  · exact fun x => sState_piece x9 x10 x14 x16 (cdsF x15 t) 1 _ x
  · exact fun x => sState_piece x9 x10 x14 x16 (cdsF x15 t) 0 _ x

theorem out20_B (t : Fin cfg0.N) (h0 : ¬ t.val % 2 = 0) (X : Vec Ideal S1x1x2x256x512 .f32) (y : S1x16x1x256x512.Idx) :
    out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (fun h => h0 ((hcond0_0 t).mp h)) x0 x1 x2 x3 x4 x5 x6 x7 x8 x9 x10 x11 x12 x13 x14 x15 x16 X y
      = sStateBlk x9 x10 x14 x16 (cdsF x15 t) y := by
  frame_open
  simp (disch := decide) only [↓ View.readCov_skip, ↓ View.readCov_cons_toLoadRect, ↓ View.readCov_fill]
  frame_out
  simp only [sample_0, sample_1, sample_2, sample_3, sample_4, sample_5, sample_6, sample_7, sample_8, sample_9, sample_10, sample_11, sample_12, sample_13, sample_14, sample_15, sample_16, sample_17, sample_18, sample_19, sample_20, sample_21, sample_22, sample_23, sample_24, sample_25, sample_26, ld_s_0, ld_s_1, ld_s_2, ld_s_3, ld_s_4, ld_s_5, ld_s_6, ld_s_7, ld_s_8, ld_s_9, ld_s_10, ld_s_11, ld_s_12, ld_s_13, ld_s_14, ld_s_15]
  rw [ld_cds]
  refine View.canon_apply_of_pieces (Val := Elt Ideal) (e := .f32) (sStateBlk x9 x10 x14 x16 (cdsF x15 t)) _ ?_ y ?_
  case refine_2 => exact View.cover_of_tiledL _ (![1, 1, 1, 256, 512] : Fin 5 → ℕ) (by rfl) y
  simp only [List.forall_mem_cons]
  refine ⟨?_, ?_, ?_, ?_, ?_, ?_, ?_, ?_, ?_, ?_, ?_, ?_, ?_, ?_, ?_, ?_, fun p hp => absurd hp List.not_mem_nil⟩
  · exact fun x => sState_piece x9 x10 x14 x16 (cdsF x15 t) 15 _ x
  · exact fun x => sState_piece x9 x10 x14 x16 (cdsF x15 t) 14 _ x
  · exact fun x => sState_piece x9 x10 x14 x16 (cdsF x15 t) 13 _ x
  · exact fun x => sState_piece x9 x10 x14 x16 (cdsF x15 t) 12 _ x
  · exact fun x => sState_piece x9 x10 x14 x16 (cdsF x15 t) 11 _ x
  · exact fun x => sState_piece x9 x10 x14 x16 (cdsF x15 t) 10 _ x
  · exact fun x => sState_piece x9 x10 x14 x16 (cdsF x15 t) 9 _ x
  · exact fun x => sState_piece x9 x10 x14 x16 (cdsF x15 t) 8 _ x
  · exact fun x => sState_piece x9 x10 x14 x16 (cdsF x15 t) 7 _ x
  · exact fun x => sState_piece x9 x10 x14 x16 (cdsF x15 t) 6 _ x
  · exact fun x => sState_piece x9 x10 x14 x16 (cdsF x15 t) 5 _ x
  · exact fun x => sState_piece x9 x10 x14 x16 (cdsF x15 t) 4 _ x
  · exact fun x => sState_piece x9 x10 x14 x16 (cdsF x15 t) 3 _ x
  · exact fun x => sState_piece x9 x10 x14 x16 (cdsF x15 t) 2 _ x
  · exact fun x => sState_piece x9 x10 x14 x16 (cdsF x15 t) 1 _ x
  · exact fun x => sState_piece x9 x10 x14 x16 (cdsF x15 t) 0 _ x

end Cert.Retention

end
-- ==== Proof.SampleArray.lean ====
module

public import proofs.«01_k».proof.Proof.Blocks
public import proofs.«01_k».proof.Proof.Sample
public import Idealize.ShloMosaic.Lib.Pipeline.ValueKit.Partial

@[expose] public section

/-! The sample's two arrays after the run: every sequence's four rows and its own state. -/

set_option maxRecDepth 16384

noncomputable section

namespace Cert.Retention

open Idealize.ShloMosaic Idealize.ShloMosaic.TcCoe Idealize.ShloMosaic.Tactic Cert.KernelIdeal Cert.KernelIdeal.Gen

/-! ## A sum over the 64 rows of sixteen sequences, all but one of them nothing -/

theorem sum_seq (n : ℕ) (hn : n < 16) (f : Fin 64 → EReal) :
    ∑ x : Fin 64, (if x.val / 4 = n then f x else 0) = ∑ i : Fin 4, f ⟨n * 4 + i.val, by omega⟩ := by
  have h := Fintype.sum_equiv (finProdFinEquiv (m := 16) (n := 4)).symm (fun x : Fin 64 => if x.val / 4 = n then f x else 0)
    (fun p => if p.1.val = n then f ⟨p.1.val * 4 + p.2.val, by omega⟩ else 0) (fun x => by
      have hx : ((finProdFinEquiv (m := 16) (n := 4)).symm x).1.val = x.val / 4 := rfl
      have hy : ((finProdFinEquiv (m := 16) (n := 4)).symm x).2.val = x.val % 4 := rfl
      simp only [hx, hy]
      have e : (⟨x.val / 4 * 4 + x.val % 4, by omega⟩ : Fin 64) = x := Fin.ext (by show x.val / 4 * 4 + x.val % 4 = x.val; omega)
      rw [e])
  rw [h, Fintype.sum_prod_type, Finset.sum_eq_single (⟨n, hn⟩ : Fin 16)]
  · simp
  · intro b _ hb
    refine Finset.sum_eq_zero fun i _ => if_neg fun hh => hb (Fin.ext hh)
  · intro h; exact absurd (Finset.mem_univ _) h

/-! ## A sequence's rows in the arrays -/

/-- Feature `d` of head `h` of row `j` of sequence `n`, in the queries or keys. -/
def sk (X : S512x1024.Idx → EReal) (n h j : ℕ) (d : Fin 256) : EReal :=
  X (ix2 (⟨(n * 4 + j) % 512, Nat.mod_lt _ (by decide)⟩ : Fin 512) (⟨(h * 256 + d.val) % 1024, Nat.mod_lt _ (by decide)⟩ : Fin 1024))
/-- Feature `e` of head `h` of row `j` of sequence `n`, in the values. -/
def sv (X : S512x2048.Idx → EReal) (n h j : ℕ) (e : Fin 512) : EReal :=
  X (ix2 (⟨(n * 4 + j) % 512, Nat.mod_lt _ (by decide)⟩ : Fin 512) (⟨(h * 512 + e.val) % 2048, Nat.mod_lt _ (by decide)⟩ : Fin 2048))
/-- Entry `(d, e)` of head `h` of sequence `n`, in the second layer's states. -/
def s0 (X : S2x128x4x256x512.Idx → EReal) (n h : ℕ) (d : Fin 256) (e : Fin 512) : EReal :=
  X (ix5 1 (⟨n % 128, Nat.mod_lt _ (by decide)⟩ : Fin 128) (⟨h % 4, Nat.mod_lt _ (by decide)⟩ : Fin 4) d e)

/-- Row `j` of head `h` of sequence `n` before the norm. -/
def sO (Q K : S512x1024.Idx → EReal) (V' : S512x2048.Idx → EReal) (S : S2x128x4x256x512.Idx → EReal) (n h j : ℕ) (e : Fin 512) : EReal :=
  (∑ i : Fin 4, ((∑ d : Fin 256, sk Q n h j d * sk K n h i.val d) * ((mask h j i.val : ℝ) : EReal)) * sv V' n h i.val e)
    + (∑ d : Fin 256, sk Q n h j d * s0 S n h d e) * ((dec h ((j : ℝ) + 1) : ℝ) : EReal)

/-- Entry `(d, e)` of head `h` of sequence `n`'s state after its four rows. -/
def sSt (K : S512x1024.Idx → EReal) (V' : S512x2048.Idx → EReal) (S : S2x128x4x256x512.Idx → EReal) (n h : ℕ) (d : Fin 256) (e : Fin 512) : EReal :=
  s0 S n h d e * ((dec h 4 : ℝ) : EReal)
    + ∑ i : Fin 4, (sk K n h i.val d * ((dec h (3 - (i.val : ℝ)) : ℝ) : EReal)) * sv V' n h i.val e

/-! ## One point -/

section Point
variable (b h : ℕ) (Q K : S512x1024.Idx → EReal) (V' : S512x2048.Idx → EReal) (S : S2x128x4x256x512.Idx → EReal) (g : Fin 512 → EReal)
  (x8 x9 : Vec Ideal S64x256 .bf16) (x10 : Vec Ideal S64x512 .bf16) (x11 : Vec Ideal S1x1x1x512 .f32) (x12 : Vec Ideal S1x64x64 .f32)
  (x13 x14 : Vec Ideal S1x64x1 .f32) (x16 : Vec Ideal S1x16x1x256x512 .f32)
  (hq : ∀ (a : Fin 64) d, x8 (ix2 a d) = sk Q (b * 16 + a.val / 4) h (a.val % 4) d)
  (hk : ∀ (a : Fin 64) d, x9 (ix2 a d) = sk K (b * 16 + a.val / 4) h (a.val % 4) d)
  (hv : ∀ (a : Fin 64) e, x10 (ix2 a e) = sv V' (b * 16 + a.val / 4) h (a.val % 4) e)
  (hg : ∀ e, x11 (ix4 0 0 0 e) = g e)
  (hdm : ∀ a b : Fin 64, x12 (ix3 0 a b) = ((if a.val / 4 = b.val / 4 then mask h (a.val % 4) (b.val % 4) else 0 : ℝ) : EReal))
  (hqd : ∀ a : Fin 64, x13 (ix3 0 a 0) = ((dec h (((a.val % 4 : ℕ) : ℝ) + 1) : ℝ) : EReal))
  (hkd : ∀ a : Fin 64, x14 (ix3 0 a 0) = ((dec h (3 - ((a.val % 4 : ℕ) : ℝ)) : ℝ) : EReal))
  (hs : ∀ n, n < 16 → ∀ d e, sBlk x16 n (ix5 0 0 0 d e) = s0 S (b * 16 + n) h d e)

include hq hk hv hg hdm hqd hs in
theorem sPoint_out (a : Fin 64) (e : Fin 512) :
    sOutBlk x8 x9 x10 x11 x12 x13 x16 (ix2 a e) = nrm (sO Q K V' S (b * 16 + a.val / 4) h (a.val % 4)) g e := by
  have ha : a.val < 64 := a.isLt
  unfold sOutBlk
  rw [sNorm_apply]
  refine congrArg₂ (fun o g => nrm o g e) (funext fun e => ?_) (funext fun e => hg e)
  rw [sIntra_apply, pickAll_apply x8 _ a e 16 (le_refl _) (by omega), hqd]
  unfold sO
  refine congrArg₂ (fun x y => x + y * _) ?_ (Finset.sum_congr rfl fun d _ => ?_)
  · have key := sum_seq (a.val / 4) (by omega) (fun x : Fin 64 =>
      ((∑ d : Fin 256, x8 (ix2 a d) * x9 (ix2 x d)) * ((mask h (a.val % 4) (x.val % 4) : ℝ) : EReal)) * x10 (ix2 x e))
    refine (Finset.sum_congr rfl fun x _ => ?_).trans (key.trans (Finset.sum_congr rfl fun i _ => ?_))
    · rw [hdm]
      by_cases hx : x.val / 4 = a.val / 4
      · rw [if_pos hx.symm, if_pos hx]
      · rw [if_neg (fun hh => hx hh.symm), if_neg hx, EReal.coe_zero, mul_zero, zero_mul]
    · have hi : i.val < 4 := i.isLt
      have f1 : (a.val / 4 * 4 + i.val) / 4 = a.val / 4 := by omega
      have f2 : (a.val / 4 * 4 + i.val) % 4 = i.val := by omega
      simp only [hq, hk, hv, f1, f2]
  · rw [hq, hs _ (by omega)]

include hk hv hkd hs in
theorem sPoint_state (cd : EReal) (hcd : cd = ((dec h 4 : ℝ) : EReal)) (n : Fin 16) (d : Fin 256) (e : Fin 512) :
    sStateBlk x9 x10 x14 x16 cd (ix5 0 n 0 d e) = sSt K V' S (b * 16 + n.val) h d e := by
  have hn : n.val < 16 := n.isLt
  refine (updV_apply n.val hn x10 (k0_pay2 x9 x14) cd (sBlk x16 n.val) d e).trans ?_
  rw [hs _ hn, hcd]
  unfold sSt
  refine congrArg (fun z : EReal => s0 S (b * 16 + n.val) h d e * ((dec h 4 : ℝ) : EReal) + z) ?_
  have key := sum_seq n.val hn (fun x : Fin 64 => k0_pay2 x9 x14 (ix2 x d) * x10 (ix2 x e))
  refine (Finset.sum_congr rfl fun x _ => ?_).trans (key.trans (Finset.sum_congr rfl fun i _ => ?_))
  · by_cases hx : x.val / 4 = n.val
    · rw [if_pos hx, if_pos hx]
    · rw [if_neg hx, if_neg hx, zero_mul]
  · have hi : i.val < 4 := i.isLt
    have f1 : (n.val * 4 + i.val) / 4 = n.val := by omega
    have f2 : (n.val * 4 + i.val) % 4 = i.val := by omega
    simp only [kdec_apply, hk, hv, hkd, f1, f2]

end Point

variable (m : (ℓ : Loc nD τ sig) → Buf (Elt Ideal) ℓ) (c : Dev nD)

/-- The queries, keys, values and old states of the sample, as launched. -/
abbrev bQ : S512x1024.Idx → EReal := m ((c : Thread nD τ).loc main_arg3)
abbrev bK : S512x1024.Idx → EReal := m ((c : Thread nD τ).loc main_arg4)
abbrev bV : S512x2048.Idx → EReal := m ((c : Thread nD τ).loc main_arg5)
abbrev bS : S2x128x4x256x512.Idx → EReal := m ((c : Thread nD τ).loc main_arg7)
/-- The norm's scale of head `h`. -/
def bG (h : ℕ) (e : Fin 512) : EReal :=
  m ((c : Thread nD τ).loc main_arg6) (ix3 1 (⟨h % 4, Nat.mod_lt _ (by decide)⟩ : Fin 4) e)

theorem sq_at (t : Fin cfg0.N) (a : Fin 64) (d : Fin 256) :
    iblk m c 8 t (ix2 a d) = sk (bQ m c) (t.val / 4 * 16 + a.val / 4) (t.val % 4) (a.val % 4) d := by
  have hN : t.val < 32 := t.isLt
  rw [iblk_8]; unfold sk; blk_ext []
theorem sk_at (t : Fin cfg0.N) (a : Fin 64) (d : Fin 256) :
    iblk m c 9 t (ix2 a d) = sk (bK m c) (t.val / 4 * 16 + a.val / 4) (t.val % 4) (a.val % 4) d := by
  have hN : t.val < 32 := t.isLt
  rw [iblk_9]; unfold sk; blk_ext []
theorem sv_at (t : Fin cfg0.N) (a : Fin 64) (e : Fin 512) :
    iblk m c 10 t (ix2 a e) = sv (bV m c) (t.val / 4 * 16 + a.val / 4) (t.val % 4) (a.val % 4) e := by
  have hN : t.val < 32 := t.isLt
  rw [iblk_10]; unfold sv; blk_ext []
theorem sg_at (t : Fin cfg0.N) (e : Fin 512) : iblk m c 11 t (ix4 0 0 0 e) = bG m c (t.val % 4) e := by
  rw [iblk_11, V_gn]; rfl
theorem sdm_at (t : Fin cfg0.N) (a b : Fin 64) : iblk m c 12 t (ix3 0 a b)
    = ((if a.val / 4 = b.val / 4 then mask (t.val % 4) (a.val % 4) (b.val % 4) else 0 : ℝ) : EReal) := by
  rw [iblk_12, V_dms]; simp only [Nat.mod_mod]
theorem sqd_at (t : Fin cfg0.N) (a : Fin 64) : iblk m c 13 t (ix3 0 a 0) = ((dec (t.val % 4) (((a.val % 4 : ℕ) : ℝ) + 1) : ℝ) : EReal) := by
  rw [iblk_13, V_qds]; simp only [Nat.mod_mod]
theorem skd_at (t : Fin cfg0.N) (a : Fin 64) : iblk m c 14 t (ix3 0 a 0) = ((dec (t.val % 4) (3 - ((a.val % 4 : ℕ) : ℝ)) : ℝ) : EReal) := by
  rw [iblk_14, V_kds]; simp only [Nat.mod_mod]
theorem scd_at (t : Fin cfg0.N) : cdsF (iblk m c 15 t) t = ((dec (t.val % 4) 4 : ℝ) : EReal) := by
  unfold cdsF; rw [iblk_15, V_cds]
theorem ss_at (t : Fin cfg0.N) (n : ℕ) (hn : n < 16) (d : Fin 256) (e : Fin 512) :
    sBlk (iblk m c 16 t) n (ix5 0 0 0 d e) = s0 (bS m c) (t.val / 4 * 16 + n) (t.val % 4) d e := by
  have hN : t.val < 32 := t.isLt
  show iblk m c 16 t (ix5 0 (⟨n % 16, Nat.mod_lt _ (by decide)⟩ : Fin 16) 0 d e) = _
  rw [iblk_16]; unfold s0; blk_ext []

theorem sOut_point (t : Fin cfg0.N) (a : Fin 64) (e : Fin 512) :
    (outsAt0 m c t.val t.isLt).2.2.1 (ix2 a e)
      = nrm (sO (bQ m c) (bK m c) (bV m c) (bS m c) (t.val / 4 * 16 + a.val / 4) (t.val % 4) (a.val % 4)) (bG m c (t.val % 4)) e := by
  have key := sPoint_out (t.val / 4) (t.val % 4) (bQ m c) (bK m c) (bV m c) (bS m c) (bG m c (t.val % 4)) _ _ _ _ _ _ _
    (sq_at m c t) (sk_at m c t) (sv_at m c t) (sg_at m c t) (sdm_at m c t) (sqd_at m c t) (ss_at m c t) a e
  by_cases h0 : t.val % 2 = 0
  · simp only [outsAt0_A m c t h0]
    exact (out19_A c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) t h0 (ix2 a e)).trans key
  · simp only [outsAt0_B m c t h0]
    exact (out19_B c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) t h0 _ (ix2 a e)).trans key

theorem sState_point (t : Fin cfg0.N) (n : Fin 16) (d : Fin 256) (e : Fin 512) :
    (outsAt0 m c t.val t.isLt).2.2.2 (ix5 0 n 0 d e)
      = sSt (bK m c) (bV m c) (bS m c) (t.val / 4 * 16 + n.val) (t.val % 4) d e := by
  have key := sPoint_state (t.val / 4) (t.val % 4) (bK m c) (bV m c) (bS m c) _ _ _ _
    (sk_at m c t) (sv_at m c t) (skd_at m c t) (ss_at m c t) (cdsF (iblk m c 15 t) t) (scd_at m c t) n d e
  by_cases h0 : t.val % 2 = 0
  · simp only [outsAt0_A m c t h0]
    exact (out20_A c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) t h0 (ix5 0 n 0 d e)).trans key
  · simp only [outsAt0_B m c t h0]
    exact (out20_B c (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) t h0 _ (ix5 0 n 0 d e)).trans key

/-! ## The arrays -/

/-- The sample's normed output at row `R`, column `C`. -/
def sOutAt (R C : ℕ) : EReal :=
  nrm (sO (bQ m c) (bK m c) (bV m c) (bS m c) (R / 4) (C / 512) (R % 4)) (bG m c (C / 512)) (⟨C % 512, Nat.mod_lt _ (by decide)⟩ : Fin 512)

/-- The sample's normed output. -/
def sOutArr : S512x2048.Idx → EReal := fun i => sOutAt m c (i 0).val (i 1).val

/-- The sample's states after its rows: the second layer's new, the first's as given. -/
def sStateArr : S2x128x4x256x512.Idx → EReal := fun i =>
  if (i 0).val = 1 then sSt (bK m c) (bV m c) (bS m c) (i 1).val (i 2).val (i 3) (i 4) else m ((c : Thread nD τ).loc main_arg9) i

theorem arr19 : (dats m 0 c).arrAt 19 cfg0.N = sOutArr m c := by
  refine (dats m 0 c).arrAt_eq_of_covers 19 _ (by decide +kernel) fun t hf y => ?_
  have hN : t.val < 32 := t.isLt
  have h0 : (y 0).val < 64 := (y 0).isLt
  have h1 : (y 1).val < 512 := (y 1).isLt
  have e0 : ((((cfg0.win 19).blk t).view.emb y) 0).val = t.val / 4 * 64 + (y 0).val := by
    blk_ext [idx_19 t]
  have e1 : ((((cfg0.win 19).blk t).view.emb y) 1).val = t.val % 4 * 512 + (y 1).val := by
    blk_ext [idx_19 t]
  unfold sOutArr
  rw [e0, e1]
  have hy : y = ix2 (y 0) (y 1) := by funext a; match a with | 0 => rfl | 1 => rfl
  blk_simp
  rw [after0_19]
  refine (congrArg _ hy).trans ((sOut_point m c t (y 0) (y 1)).trans ?_)
  unfold sOutAt
  have f0 : (t.val / 4 * 64 + (y 0).val) / 4 = t.val / 4 * 16 + (y 0).val / 4 := by omega
  have f1 : (t.val / 4 * 64 + (y 0).val) % 4 = (y 0).val % 4 := by omega
  have f2 : (t.val % 4 * 512 + (y 1).val) / 512 = t.val % 4 := by omega
  have f3 : (t.val % 4 * 512 + (y 1).val) % 512 = (y 1).val := by omega
  rw [f0, f1, f2]
  exact congrArg _ (Fin.ext f3.symm)

theorem arr20 : (dats m 0 c).arrAt 20 cfg0.N = sStateArr m c := by
  have key := (dats m 0 c).arrAt_eq_of_coversWhere (P := fun i : S2x128x4x256x512.Idx => (i 0).val = 1) 20
    (fun i => sSt (bK m c) (bV m c) (bS m c) (i 1).val (i 2).val (i 3) (i 4)) (fun β => β 0 = 1) (by decide +kernel)
    (fun t hf y => by
      have hN : t.val < 32 := t.isLt
      have e1 : ((((cfg0.win 20).blk t).view.emb y) 1).val = t.val / 4 * 16 + (y 1).val := by
        blk_ext [idx_20 t]
      have e2 : ((((cfg0.win 20).blk t).view.emb y) 2).val = t.val % 4 := by
        have : (y 2).val < 1 := (y 2).isLt
        blk_ext [idx_20 t]
      have e3 : (((cfg0.win 20).blk t).view.emb y) 3 = y 3 := by
        apply Fin.ext
        blk_ext [idx_20 t]
      have e4 : (((cfg0.win 20).blk t).view.emb y) 4 = y 4 := by
        apply Fin.ext
        blk_ext [idx_20 t]
      have hy : y = ix5 0 (y 1) 0 (y 3) (y 4) := by
        funext a
        match a with
        | 0 => exact Fin.ext (by have : (y 0).val < 1 := (y 0).isLt; show (y 0).val = 0; omega)
        | 1 => rfl
        | 2 => exact Fin.ext (by have : (y 2).val < 1 := (y 2).isLt; show (y 2).val = 0; omega)
        | 3 => rfl
        | 4 => rfl
      rw [e1, e2, e3, e4]
      blk_simp
      rw [after0_20]
      exact (congrArg _ hy).trans (sState_point m c t (y 1) (y 3) (y 4)))
    (fun j => by
      blk_simp [Pipeline.Window.cell_apply]
      have : (j 0).val / 1 = (j 0).val := Nat.div_one _
      omega)
  rw [key]
  funext i
  unfold sStateArr
  by_cases h : (i 0).val = 1
  · rw [if_pos h, if_pos h]
  · rw [if_neg h, if_neg h, A_eq]
    show V m c main_v102_3 i = _
    entry_read
    rfl

end Cert.Retention

end
-- ==== Proof.RefSample.lean ====
module

public import proofs.«01_k».proof.Proof.RefPrompt
public import proofs.«01_k».proof.Proof.SampleArray

@[expose] public section

/-! The reference on the sample: every result at an index. -/

set_option maxRecDepth 16384

noncomputable section

namespace Cert.Retention

open Idealize.ShloMosaic Idealize.ShloMosaic.TcCoe Idealize.ShloMosaic.StableHlo Cert.ReferenceIdeal Cert.ReferenceIdeal.Gen Cert.ReferenceIdeal.Read

theorem s11 (x3 : (⟨S512x1024, .bf16⟩ : BufTy).Contents (Elt Ideal)) (i : S128x4x4x256.Idx) :
    val_main_v93 (F := Ideal) x3 i = sk x3 (i 0).val (i 1).val (i 2).val (i 3) := by
  have h0 : (i 0).val < 128 := (i 0).isLt
  have h1 : (i 1).val < 4 := (i 1).isLt
  have h2 : (i 2).val < 4 := (i 2).isLt
  have h3 : (i 3).val < 256 := (i 3).isLt
  rw [val_main_v93_apply, val_main_v92_apply, val_main_v91_apply]
  unfold sk
  refine congrArg x3 (funext fun a => Fin.ext ?_)
  match a with
  | ⟨0, _⟩ =>
    show ((((i 0).val * 4 + (i 2).val) * 4 + (i 1).val) * 256 + (i 3).val) / 1024 = ((i 0).val * 4 + (i 2).val) % 512
    omega
  | ⟨1, _⟩ =>
    show ((((i 0).val * 4 + (i 2).val) * 4 + (i 1).val) * 256 + (i 3).val) % 1024 = ((i 1).val * 256 + (i 3).val) % 1024
    omega

theorem s14 (x4 : (⟨S512x1024, .bf16⟩ : BufTy).Contents (Elt Ideal)) (i : S128x4x4x256.Idx) :
    val_main_v96 (F := Ideal) x4 i = sk x4 (i 0).val (i 1).val (i 2).val (i 3) := by
  have h0 : (i 0).val < 128 := (i 0).isLt
  have h1 : (i 1).val < 4 := (i 1).isLt
  have h2 : (i 2).val < 4 := (i 2).isLt
  have h3 : (i 3).val < 256 := (i 3).isLt
  rw [val_main_v96_apply, val_main_v95_apply, val_main_v94_apply]
  unfold sk
  refine congrArg x4 (funext fun a => Fin.ext ?_)
  match a with
  | ⟨0, _⟩ =>
    show ((((i 0).val * 4 + (i 2).val) * 4 + (i 1).val) * 256 + (i 3).val) / 1024 = ((i 0).val * 4 + (i 2).val) % 512
    omega
  | ⟨1, _⟩ =>
    show ((((i 0).val * 4 + (i 2).val) * 4 + (i 1).val) * 256 + (i 3).val) % 1024 = ((i 1).val * 256 + (i 3).val) % 1024
    omega

theorem s17 (x5 : (⟨S512x2048, .bf16⟩ : BufTy).Contents (Elt Ideal)) (i : S128x4x4x512.Idx) :
    val_main_v99 (F := Ideal) x5 i = sv x5 (i 0).val (i 1).val (i 2).val (i 3) := by
  have h0 : (i 0).val < 128 := (i 0).isLt
  have h1 : (i 1).val < 4 := (i 1).isLt
  have h2 : (i 2).val < 4 := (i 2).isLt
  have h3 : (i 3).val < 512 := (i 3).isLt
  rw [val_main_v99_apply, val_main_v98_apply, val_main_v97_apply]
  unfold sv
  refine congrArg x5 (funext fun a => Fin.ext ?_)
  match a with
  | ⟨0, _⟩ =>
    show ((((i 0).val * 4 + (i 2).val) * 4 + (i 1).val) * 512 + (i 3).val) / 2048 = ((i 0).val * 4 + (i 2).val) % 512
    omega
  | ⟨1, _⟩ =>
    show ((((i 0).val * 4 + (i 2).val) * 4 + (i 1).val) * 512 + (i 3).val) % 2048 = ((i 1).val * 512 + (i 3).val) % 2048
    omega

/-- The masked decay between two rows. -/
theorem s33 (i : S4x4x4.Idx) :
    val_main_v115 (F := Ideal) i = ((mask (i 0).val (i 1).val (i 2).val : ℝ) : EReal) := by
  have h0 : (i 0).val < 4 := (i 0).isLt
  have h1 : (i 1).val < 4 := (i 1).isLt
  have h2 : (i 2).val < 4 := (i 2).isLt
  simp only [val_main_v115_apply, val_main_call1_v1_apply, val_main_v109_apply, val_main_v107_apply, val_main_v105_apply, val_main_v103_apply, val_main_v104_apply, val_main_v101_apply, val_main_v102_apply,
    val_main_v108_apply, val_main_cst_11_apply, val_main_v114_apply, val_main_v113_apply, val_main_v111_apply, val_main_v110_apply, val_main_v112_apply, val_main_v106_apply, r7, val_main_call1_v2_apply, val_main_call1_v0_apply, val_main_cst_12_apply]
  change (Scalar.select (FloatOps.cmpf (F := Ideal) (φ := .f32) .oge (FloatOps.subf (F := Ideal) (φ := .f32) (FloatOps.sitofp (F := Ideal) .f32 (BitVec.ofNat 32 (i 1).val) : EReal) (FloatOps.sitofp (F := Ideal) .f32 (BitVec.ofNat 32 (i 2).val) : EReal))
    (FloatOps.ofBits .f32 0x00000000#32)) (FloatOps.hostUnary (F := Ideal) (φ := .f32) .exp (FloatOps.mulf (F := Ideal) (φ := .f32)
      (FloatOps.subf (F := Ideal) (φ := .f32) (FloatOps.sitofp (F := Ideal) .f32 (BitVec.ofNat 32 (i 1).val) : EReal) (FloatOps.sitofp (F := Ideal) .f32 (BitVec.ofNat 32 (i 2).val) : EReal)) ((lg (i 0).val : ℝ) : EReal))) (FloatOps.ofBits (F := Ideal) .f32 0x00000000#32) : EReal) = _
  rw [sitofp_nat _ (by omega), sitofp_nat _ (by omega), sub_coe, decay_word, f32_0]
  exact mask_word _ _ _

/-- The decay of a query. -/
theorem s41 (i : S4x4.Idx) : val_main_v123 (F := Ideal) i = ((dec (i 0).val (((i 1).val : ℝ) + 1) : ℝ) : EReal) := by
  have h0 : (i 0).val < 4 := (i 0).isLt
  have h1 : (i 1).val < 4 := (i 1).isLt
  simp only [val_main_v123_apply, val_main_v122_apply, val_main_v120_apply, val_main_v118_apply, val_main_v116_apply, val_main_v117_apply, val_main_cst_13_apply, val_main_v121_apply, val_main_v119_apply, r7]
  change (FloatOps.hostUnary (F := Ideal) (φ := .f32) .exp (FloatOps.mulf (F := Ideal) (φ := .f32)
    (FloatOps.addf (F := Ideal) (φ := .f32) (FloatOps.sitofp (F := Ideal) .f32 (BitVec.ofNat 32 (i 1).val) : EReal) (FloatOps.ofBits .f32 0x3F800000#32)) ((lg (i 0).val : ℝ) : EReal)) : EReal) = _
  rw [sitofp_nat _ (by omega), f32_1, add_coe, decay_word]

/-- The decay of a key to the end of its sequence. -/
theorem s49 (i : S4x4.Idx) : val_main_v131 (F := Ideal) i = ((dec (i 0).val (3 - ((i 1).val : ℝ)) : ℝ) : EReal) := by
  have h0 : (i 0).val < 4 := (i 0).isLt
  have h1 : (i 1).val < 4 := (i 1).isLt
  simp only [val_main_v131_apply, val_main_v130_apply, val_main_v128_apply, val_main_v126_apply, val_main_v124_apply, val_main_v125_apply, val_main_cst_14_apply, val_main_v129_apply, val_main_v127_apply, r7]
  change (FloatOps.hostUnary (F := Ideal) (φ := .f32) .exp (FloatOps.mulf (F := Ideal) (φ := .f32)
    (FloatOps.subf (F := Ideal) (φ := .f32) (FloatOps.ofBits .f32 0x40400000#32) (FloatOps.sitofp (F := Ideal) .f32 (BitVec.ofNat 32 (i 1).val) : EReal)) ((lg (i 0).val : ℝ) : EReal)) : EReal) = _
  rw [sitofp_nat _ (by omega), f32_3, sub_coe, decay_word]

/-- The decay over a whole sequence. -/
theorem s52 (i : S4.Idx) : val_main_v134 (F := Ideal) i = ((dec (i 0).val 4 : ℝ) : EReal) := by
  simp only [val_main_v134_apply, val_main_v133_apply, val_main_v132_apply, val_main_cst_15_apply, r7, f32_4, decay_word]

/-- The scores of a row against the rows of its sequence. -/
theorem s53 (x3 : (⟨S512x1024, .bf16⟩ : BufTy).Contents (Elt Ideal)) (x4 : (⟨S512x1024, .bf16⟩ : BufTy).Contents (Elt Ideal)) (i : S128x4x4x4.Idx) : val_main_v135 (F := Ideal) x3 x4 i
    = ∑ d : Fin 256, sk x3 (i 0).val (i 1).val (i 2).val d * sk x4 (i 0).val (i 1).val (i 3).val d := by
  rw [val_main_v135_apply]
  refine Finset.sum_congr rfl fun d _ => ?_
  rw [s11, s14]
  rfl

/-- The second layer's state of a sequence. -/
theorem s90 (x7 : (⟨S2x128x4x256x512, .f32⟩ : BufTy).Contents (Elt Ideal)) (i : S128x4x256x512.Idx) : val_main_v90 (F := Ideal) x7 i = s0 x7 (i 0).val (i 1).val (i 2) (i 3) := by
  have h0 : (i 0).val < 128 := (i 0).isLt
  have h1 : (i 1).val < 4 := (i 1).isLt
  have h2 : (i 2).val < 256 := (i 2).isLt
  have h3 : (i 3).val < 512 := (i 3).isLt
  rw [val_main_v90_apply, val_main_v89_apply]
  unfold s0
  refine congrArg x7 (funext fun a => Fin.ext ?_)
  match a with
  | ⟨0, _⟩ => rfl
  | ⟨1, _⟩ =>
    show ((((i 0).val * 4 + (i 1).val) * 256 + (i 2).val) * 512 + (i 3).val) / 524288 % 128 = (i 0).val % 128
    omega
  | ⟨2, _⟩ =>
    show ((((i 0).val * 4 + (i 1).val) * 256 + (i 2).val) * 512 + (i 3).val) / 131072 % 4 = (i 1).val % 4
    omega
  | ⟨3, _⟩ =>
    show ((((i 0).val * 4 + (i 1).val) * 256 + (i 2).val) * 512 + (i 3).val) / 512 % 256 = (i 2).val
    omega
  | ⟨4, _⟩ =>
    show ((((i 0).val * 4 + (i 1).val) * 256 + (i 2).val) * 512 + (i 3).val) % 512 = (i 3).val
    omega

/-- An output row before the norm. -/
theorem s62 (x3 : (⟨S512x1024, .bf16⟩ : BufTy).Contents (Elt Ideal)) (x4 : (⟨S512x1024, .bf16⟩ : BufTy).Contents (Elt Ideal)) (x5 : (⟨S512x2048, .bf16⟩ : BufTy).Contents (Elt Ideal)) (x7 : (⟨S2x128x4x256x512, .f32⟩ : BufTy).Contents (Elt Ideal)) (i : S128x4x4x512.Idx) : val_main_v144 (F := Ideal) x3 x4 x5 x7 i
    = sO x3 x4 x5 x7 (i 0).val (i 1).val (i 2).val (i 3) := by
  rw [val_main_v144_apply]
  rw [val_main_v143_apply, val_main_v142_apply, val_main_v141_apply, s41, val_main_v140_apply]
  unfold sO
  refine congrArg₂ (fun x y : EReal => x + y * _) ?_ ?_
  · rw [val_main_v139_apply]
    refine Finset.sum_congr rfl fun s _ => ?_
    rw [val_main_v138_apply, s53, val_main_v137_apply, val_main_v136_apply, s33, s17]
    rfl
  · refine Finset.sum_congr rfl fun d _ => ?_
    rw [s11, s90]
    rfl

/-- A sequence's state after its last row. -/
theorem s70 (x4 : (⟨S512x1024, .bf16⟩ : BufTy).Contents (Elt Ideal)) (x5 : (⟨S512x2048, .bf16⟩ : BufTy).Contents (Elt Ideal)) (x7 : (⟨S2x128x4x256x512, .f32⟩ : BufTy).Contents (Elt Ideal)) (i : S128x4x256x512.Idx) : val_main_v152 (F := Ideal) x4 x5 x7 i
    = sSt x4 x5 x7 (i 0).val (i 1).val (i 2) (i 3) := by
  rw [val_main_v152_apply, val_main_v147_apply]

  unfold sSt
  refine congrArg₂ (fun x y : EReal => x + y) ?_ ?_
  · rw [s90, val_main_v146_apply, val_main_v145_apply, s52]
    rfl
  · rw [val_main_v151_apply]
    refine Finset.sum_congr rfl fun s _ => ?_
    rw [val_main_v150_apply, s14, val_main_v149_apply, val_main_v148_apply, s49, s17]
    rfl

/-- The norm's scale. -/
theorem s72 (x6 : (⟨S2x4x512, .f32⟩ : BufTy).Contents (Elt Ideal)) (i : S4x512.Idx) : val_main_v154 (F := Ideal) x6 i = gain x6 (i 0).val (i 1) := by
  have h0 : (i 0).val < 4 := (i 0).isLt
  have h1 : (i 1).val < 512 := (i 1).isLt
  rw [val_main_v154_apply, val_main_v153_apply]
  unfold gain
  refine congrArg x6 (funext fun a => Fin.ext ?_)
  match a with
  | ⟨0, _⟩ => rfl
  | ⟨1, _⟩ =>
    show ((i 0).val * 512 + (i 1).val) / 512 % 4 = (i 0).val % 4
    omega
  | ⟨2, _⟩ =>
    show ((i 0).val * 512 + (i 1).val) % 512 = (i 1).val
    omega

/-- An output row. -/
theorem s85 (x3 : (⟨S512x1024, .bf16⟩ : BufTy).Contents (Elt Ideal)) (x4 : (⟨S512x1024, .bf16⟩ : BufTy).Contents (Elt Ideal)) (x5 : (⟨S512x2048, .bf16⟩ : BufTy).Contents (Elt Ideal)) (x6 : (⟨S2x4x512, .f32⟩ : BufTy).Contents (Elt Ideal)) (x7 : (⟨S2x128x4x256x512, .f32⟩ : BufTy).Contents (Elt Ideal)) (i : S128x4x4x512.Idx) : val_main_v167 (F := Ideal) x3 x4 x5 x6 x7 i
    = nrm (sO x3 x4 x5 x7 (i 0).val (i 1).val (i 2).val) (gain x6 (i 1).val) (i 3) := by
  simp only [val_main_v167_apply, val_main_v164_apply, val_main_v166_apply, val_main_v165_apply, s72, val_main_v163_apply, val_main_v162_apply, val_main_v161_apply, val_main_v159_apply, val_main_v157_apply, val_main_v156_apply, val_main_v155_apply,
    s62, val_main_v158_apply, val_main_v160_apply, val_main_cst_16_apply, val_main_cst_17_apply, val_main_cst_18_apply]
  unfold nrm
  refine congrArg₂ (fun x y : EReal => x * y) (congrArg₂ (fun x y : EReal => x * y) rfl ?_) rfl
  refine congrArg (fun x : EReal => Ideal.rsqrt (Ideal.div x _ + _)) ?_
  rw [f32_0]
  exact zero_add _

theorem s88 (x3 : (⟨S512x1024, .bf16⟩ : BufTy).Contents (Elt Ideal)) (x4 : (⟨S512x1024, .bf16⟩ : BufTy).Contents (Elt Ideal)) (x5 : (⟨S512x2048, .bf16⟩ : BufTy).Contents (Elt Ideal)) (x6 : (⟨S2x4x512, .f32⟩ : BufTy).Contents (Elt Ideal)) (x7 : (⟨S2x128x4x256x512, .f32⟩ : BufTy).Contents (Elt Ideal)) (i : S512x2048.Idx) : val_main_v170 (F := Ideal) x3 x4 x5 x6 x7 i
    = nrm (sO x3 x4 x5 x7 ((i 0).val / 4) ((i 1).val / 512) ((i 0).val % 4)) (gain x6 ((i 1).val / 512))
      (⟨(i 1).val % 512, Nat.mod_lt _ (by decide)⟩ : Fin 512) := by
  have h0 : (i 0).val < 512 := (i 0).isLt
  have h1 : (i 1).val < 2048 := (i 1).isLt
  rw [val_main_v170_apply, val_main_v169_apply, val_main_v168_apply, s85]
  have e0 : ((i 0).val * 2048 + (i 1).val) / 8192 = (i 0).val / 4 := by omega
  have e1 : ((i 0).val * 2048 + (i 1).val) / 512 % 4 = (i 1).val / 512 := by omega
  have e2 : ((i 0).val * 2048 + (i 1).val) / 2048 % 4 = (i 0).val % 4 := by omega
  have e3 : ((i 0).val * 2048 + (i 1).val) % 512 = (i 1).val % 512 := by omega
  change nrm (sO x3 x4 x5 x7 (((i 0).val * 2048 + (i 1).val) / 8192) (((i 0).val * 2048 + (i 1).val) / 512 % 4)
    (((i 0).val * 2048 + (i 1).val) / 2048 % 4)) (gain x6 (((i 0).val * 2048 + (i 1).val) / 512 % 4)) _ = _
  rw [e0, e1, e2]
  exact congrArg _ (Fin.ext e3)

theorem s180 (x4 : (⟨S512x1024, .bf16⟩ : BufTy).Contents (Elt Ideal)) (x5 : (⟨S512x2048, .bf16⟩ : BufTy).Contents (Elt Ideal)) (x7 : (⟨S2x128x4x256x512, .f32⟩ : BufTy).Contents (Elt Ideal)) (x9 : (⟨S2x128x4x256x512, .f32⟩ : BufTy).Contents (Elt Ideal)) (i : S2x128x4x256x512.Idx) : val_main_v180 (F := Ideal) x4 x5 x7 x9 i
    = if (i 0).val = 1 then sSt x4 x5 x7 (i 1).val (i 2).val (i 3) (i 4) else x9 i := by
  have h0 : (i 0).val < 2 := (i 0).isLt
  have h1 : (i 1).val < 128 := (i 1).isLt
  have h2 : (i 2).val < 4 := (i 2).isLt
  have h3 : (i 3).val < 256 := (i 3).isLt
  have h4 : (i 4).val < 512 := (i 4).isLt
  unfold val_main_v180
  by_cases h : (i 0).val = 1
  · rw [if_pos h]
    refine (concatenate_pair_apply_right (0 : Fin 5) (val_main_v178 (F := Ideal) x9) (val_main_v179 (F := Ideal) x4 x5 x7) _ i rfl rfl
      (ix5 (0 : Fin 1) (i 1) (i 2) (i 3) (i 4)) (fun b hb => ?_) ?_).trans ?_
    · match b with
      | ⟨0, _⟩ => exact absurd rfl hb
      | ⟨1, _⟩ => rfl
      | ⟨2, _⟩ => rfl
      | ⟨3, _⟩ => rfl
      | ⟨4, _⟩ => rfl
    · show 0 + 1 = (i 0).val
      omega
    · rw [val_main_v179_apply, s70]
      rfl
  · rw [if_neg h]
    refine (concatenate_pair_apply_left (0 : Fin 5) (val_main_v178 (F := Ideal) x9) (val_main_v179 (F := Ideal) x4 x5 x7) _ i rfl
      (ix5 (0 : Fin 1) (i 1) (i 2) (i 3) (i 4)) (fun b => ?_)).trans ?_
    · match b with
      | ⟨0, _⟩ =>
        show 0 = (i 0).val
        omega
      | ⟨1, _⟩ => rfl
      | ⟨2, _⟩ => rfl
      | ⟨3, _⟩ => rfl
      | ⟨4, _⟩ => rfl
    · rw [val_main_v178_apply, val_main_v177_apply, val_main_v176_apply]
      refine congrArg x9 (funext fun a => Fin.ext ?_)
      match a with
      | ⟨0, _⟩ =>
        show 0 = (i 0).val
        omega
      | ⟨1, _⟩ =>
        show ((((i 1).val * 4 + (i 2).val) * 256 + (i 3).val) * 512 + (i 4).val) / 524288 % 128 = (i 1).val
        omega
      | ⟨2, _⟩ =>
        show ((((i 1).val * 4 + (i 2).val) * 256 + (i 3).val) * 512 + (i 4).val) / 131072 % 4 = (i 2).val
        omega
      | ⟨3, _⟩ =>
        show ((((i 1).val * 4 + (i 2).val) * 256 + (i 3).val) * 512 + (i 4).val) / 512 % 256 = (i 3).val
        omega
      | ⟨4, _⟩ =>
        show ((((i 1).val * 4 + (i 2).val) * 256 + (i 3).val) * 512 + (i 4).val) % 512 = (i 4).val
        omega

end Cert.Retention

end
-- ==== Proof.PromptArray.lean ====
module

public import proofs.«01_k».proof.Proof.Prompt
public import Idealize.ShloMosaic.Lib.Pipeline.ValueKit.Partial

@[expose] public section

/-! The prompt's two arrays after the run. -/

set_option maxRecDepth 16384

noncomputable section

namespace Cert.Retention

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The prompt's normed output at row `R`, column `C`. -/
def outAt (R C : ℕ) : EReal :=
  nrm (oG (aQ m c) (aK m c) (aV m c) (R / 2048) (C / 512) (R % 2048)) (gG m c (C / 512))
    (⟨C % 512, Nat.mod_lt _ (by decide)⟩ : Fin 512)

/-- The prompt's normed output. -/
def outArr : S16384x2048.Idx → EReal := fun i => outAt m c (i 0).val (i 1).val

/-- The prompt's state after its last row: the second layer's new, the first's as given. -/
def stateArr : S2x8x4x256x512.Idx → EReal := fun i =>
  if (i 0).val = 1 then stG (aK m c) (aV m c) (i 1).val (i 2).val (i 3) (i 4) 8 else m ((c : Thread nD τ).loc main_arg8) i

theorem arr17 : (dats m 0 c).arrAt 17 cfg0.N = outArr m c := by
  refine (dats m 0 c).arrAt_eq_of_covers 17 _ (by decide +kernel) fun t hf y => ?_
  have hN : t.val < 32 := t.isLt
  have h0 : (y 0).val < 1024 := (y 0).isLt
  have h1 : (y 1).val < 1024 := (y 1).isLt
  have e0 : ((((cfg0.win 17).blk t).view.emb y) 0).val = (t.val / 4 * 2 + t.val % 2) * 1024 + (y 0).val := by
    blk_ext [idx_17 t]
  have e1 : ((((cfg0.win 17).blk t).view.emb y) 1).val = (t.val / 2 % 2) * 1024 + (y 1).val := by
    blk_ext [idx_17 t]
  unfold outArr
  rw [e0, e1]
  blk_simp
  rw [after0_17]
  refine (out_point m c t y).trans ?_
  unfold outAt hdOf
  have f0 : ((t.val / 4 * 2 + t.val % 2) * 1024 + (y 0).val) / 2048 = t.val / 4 := by omega
  have f1 : ((t.val / 4 * 2 + t.val % 2) * 1024 + (y 0).val) % 2048 = t.val % 2 * 1024 + (y 0).val := by omega
  have f2 : (t.val / 2 % 2 * 1024 + (y 1).val) / 512 = t.val / 2 % 2 * 2 + (y 1).val / 512 := by omega
  have f3 : (t.val / 2 % 2 * 1024 + (y 1).val) % 512 = (y 1).val % 512 := by omega
  rw [f0, f1, f2]
  exact congrArg _ (Fin.ext f3.symm)

theorem flush18 : ∀ t : Fin cfg0.N, (cfg0.win 18).flush t = true → ¬ t.val % 2 = 0 := by decide +kernel

theorem arr18 : (dats m 0 c).arrAt 18 cfg0.N = stateArr m c := by
  have key := (dats m 0 c).arrAt_eq_of_coversWhere (P := fun i : S2x8x4x256x512.Idx => (i 0).val = 1) 18
    (fun i => stG (aK m c) (aV m c) (i 1).val (i 2).val (i 3) (i 4) 8) (fun β => β 0 = 1) (by decide +kernel)
    (fun t hf y => by
      have hN : t.val < 32 := t.isLt
      have e1 : ((((cfg0.win 18).blk t).view.emb y) 1).val = t.val / 4 := by
        have : (y 1).val < 1 := (y 1).isLt
        blk_ext [idx_18 t]
      have e2 : ((((cfg0.win 18).blk t).view.emb y) 2).val = hdOf t (y 2).val := by
        unfold hdOf
        blk_ext [idx_18 t]
      have e3 : (((cfg0.win 18).blk t).view.emb y) 3 = y 3 := by
        apply Fin.ext
        blk_ext [idx_18 t]
      have e4 : (((cfg0.win 18).blk t).view.emb y) 4 = y 4 := by
        apply Fin.ext
        blk_ext [idx_18 t]
      have hy : y = ix5 0 0 (y 2) (y 3) (y 4) := by
        funext a
        match a with
        | 0 => exact Fin.ext (by have : (y 0).val < 1 := (y 0).isLt; show (y 0).val = 0; omega)
        | 1 => exact Fin.ext (by have : (y 1).val < 1 := (y 1).isLt; show (y 1).val = 0; omega)
        | 2 => rfl
        | 3 => rfl
        | 4 => rfl
      rw [e1, e2, e3, e4]
      blk_simp
      rw [after0_18]
      exact (congrArg _ hy).trans (state_second m c t (flush18 t hf) (y 2) (y 3) (y 4)))
    (fun j => by
      blk_simp [Pipeline.Window.cell_apply]
      have : (j 0).val / 1 = (j 0).val := Nat.div_one _
      omega)
  rw [key]
  funext i
  unfold stateArr
  by_cases h : (i 0).val = 1
  · rw [if_pos h, if_pos h]
  · rw [if_neg h, if_neg h, A_eq]
    show V m c main_v102_1 i = _
    entry_read
    first | rfl | (pointwise)

end Cert.Retention

end
-- ==== Proof.Equal.lean ====
module

public import proofs.«01_k».proof.Proof.RefSample
public import proofs.«01_k».proof.Proof.PromptArray
public import proofs.«01_k».proof.Pre_prompt_finite

@[expose] public section

/-! The kernel's arrays are the reference's: chunk by chunk or the whole sequence at once, of finite queries, keys and
values the same. -/

set_option maxRecDepth 16384

noncomputable section

namespace Cert.Retention

open Idealize.ShloMosaic Idealize.ShloMosaic.TcCoe

/-! ## What the precondition says -/

/-- Every entry is a real number. -/
def AllReal {s : Shape} (X : s.Idx → EReal) : Prop := ∀ i, ∃ r : ℝ, X i = (r : EReal)

theorem inf_word : (FloatOps.ofBits (F := Ideal) .f32 0x7F800000#32 : EReal) = ⊤ := by
  simp [Ideal.ofBits, Ideal.ieee]

theorem real_of_lt (x : EReal)
    (h : FloatOps.cmpf (F := Ideal) (φ := .f32) .olt (FloatOps.hostAbsf (F := Ideal) (φ := .f32) x) (FloatOps.ofBits .f32 0x7F800000#32) = 1#1) :
    ∃ r : ℝ, x = (r : EReal) := by
  rw [inf_word] at h
  induction x with
  | bot => exact absurd h (by simp [FloatOps.cmpf, FloatOps.hostAbsf, Ideal.cmp])
  | coe r => exact ⟨r, rfl⟩
  | top => exact absurd h (by simp [FloatOps.cmpf, FloatOps.hostAbsf, Ideal.cmp])

/-! ## The prompt -/

theorem gk_real (X : (⟨2, ![16384, 1024]⟩ : Shape).Idx → EReal) (hX : AllReal X) (b h : ℕ) :
    ∃ f : ℕ → Fin 256 → ℝ, ∀ s d, gk X b h s d = ((f s d : ℝ) : EReal) :=
  ⟨fun s d => (hX _).choose, fun s d => (hX _).choose_spec⟩
theorem gv_real (X : (⟨2, ![16384, 2048]⟩ : Shape).Idx → EReal) (hX : AllReal X) (b h : ℕ) :
    ∃ f : ℕ → Fin 512 → ℝ, ∀ s e, gv X b h s e = ((f s e : ℝ) : EReal) :=
  ⟨fun s e => (hX _).choose, fun s e => (hX _).choose_spec⟩

variable (Q K : (⟨2, ![16384, 1024]⟩ : Shape).Idx → EReal) (V' : (⟨2, ![16384, 2048]⟩ : Shape).Idx → EReal)

/-- The state carried over the eight chunks is the whole sequence's. -/
theorem state_same (hK : AllReal K) (hV : AllReal V') (b h : ℕ) (d : Fin 256) (e : Fin 512) : stG K V' b h d e 8 = wS K V' b h d e := by
  obtain ⟨k, hk⟩ := gk_real K hK b h
  obtain ⟨v, hv⟩ := gv_real V' hV b h
  unfold stG wS
  simp only [hk, hv]
  exact state_eq h (fun s => k s d) (fun s => v s e)

/-- A row from its own chunk and the carried state is the row from the whole sequence. -/
theorem out_same (hQ : AllReal Q) (hK : AllReal K) (hV : AllReal V') (b h s : ℕ) (hs : s < 2048) (e : Fin 512) :
    oG Q K V' b h s e = wO Q K V' b h s e := by
  obtain ⟨q, hq⟩ := gk_real Q hQ b h
  obtain ⟨k, hk⟩ := gk_real K hK b h
  obtain ⟨v, hv⟩ := gv_real V' hV b h
  unfold oG wO stG
  simp only [hq, hk, hv]
  have key := out_eq h (q s) k (fun s => v s e) (s / 256) (s % 256) (by omega) (by omega)
  rw [show s / 256 * 256 + s % 256 = s by omega] at key
  exact key

/-! ## The four results -/

section Results
open Cert.KernelIdeal Cert.KernelIdeal.Gen Cert.ReferenceIdeal.Read

variable (m : (ℓ : Loc nD τ sig) → Buf (Elt Ideal) ℓ) (c : Dev nD)

theorem result_out (hQ : AllReal (aQ m c)) (hK : AllReal (aK m c)) (hV : AllReal (aV m c)) :
    val_main_v88 (F := Ideal) (aQ m c) (aK m c) (aV m c) (aG m c) = outArr m c := by
  funext i
  rw [r88]
  unfold outArr outAt
  refine congrArg₂ (fun o g => nrm o g _) (funext fun e => ?_) rfl
  exact (out_same _ _ _ hQ hK hV _ _ _ (Nat.mod_lt _ (by decide)) e).symm

theorem result_state (hK : AllReal (aK m c)) (hV : AllReal (aV m c)) :
    val_main_v175 (F := Ideal) (aK m c) (aV m c) (m ((c : Thread nD τ).loc main_arg8)) = stateArr m c := by
  funext i
  rw [r175]
  unfold stateArr
  refine ite_congr rfl (fun _ => ?_) fun _ => rfl
  exact (state_same _ _ hK hV _ _ _ _).symm

theorem result_sample_out :
    val_main_v170 (F := Ideal) (bQ m c) (bK m c) (bV m c) (m ((c : Thread nD τ).loc main_arg6)) (bS m c) = sOutArr m c := by
  funext i
  rw [s88]
  rfl

theorem result_sample_state :
    val_main_v180 (F := Ideal) (bK m c) (bV m c) (bS m c) (m ((c : Thread nD τ).loc main_arg9)) = sStateArr m c := by
  funext i
  rw [s180]
  rfl

end Results

end Cert.Retention

end
-- ==== Proof.Net.lean ====
module

public import proofs.«01_k».proof.Proof.Words
public import Idealize.ShloMosaic.Lib.Pipeline.ValueKit
public import Idealize.ShloMosaic.Lib.Pipeline.ReadBack

@[expose] public section

/-! The half-step network of one token, as functions of its row: the norm, the gated hidden units, and the step. Both
    programs are shown to compute these, and the two forms of the gate's sigmoid are shown equal. -/

noncomputable section

namespace Cert.Net

open Idealize.ShloMosaic

/-- Entry `j` of the norm of the row `x` with gains `g`. -/
def rms (x g : Fin 1024 → EReal) (j : Fin 1024) : EReal :=
  x j * Ideal.rsqrt (Ideal.div (∑ i, x i * x i) (Ideal.ofBits FTy.f32 0x44800000#32) + Ideal.ofBits FTy.f32 0x358637BD#32) * g j

/-- `x` times its sigmoid. -/
def silu (x : EReal) : EReal := x * Ideal.logistic x

/-- Hidden unit `c` of a normed row: column `c` of the up-projection gates column `2816 + c`. -/
def hid (n : Fin 1024 → EReal) (W : Fin 1024 → Fin 5632 → EReal) (c : Fin 2816) : EReal :=
  silu (∑ j, n j * W j (⟨c.val, by omega⟩ : Fin 5632)) * ∑ j, n j * W j (⟨2816 + c.val, by omega⟩ : Fin 5632)

/-- Entry `j` of a row after the half step. -/
def step (x g : Fin 1024 → EReal) (W : Fin 1024 → Fin 5632 → EReal) (D : Fin 2816 → Fin 1024 → EReal) (j : Fin 1024) : EReal :=
  x j + Ideal.ofBits FTy.f32 0x3F000000#32 * ∑ c, hid (rms x g) W c * D c j

/-- A row with its mixer's output `o` projected onto it. -/
def mixed {n : ℕ} (x : Fin 1024 → EReal) (o : Fin n → EReal) (W : Fin n → Fin 1024 → EReal) (j : Fin 1024) : EReal := x j + ∑ k, o k * W k j

/-- One half step's gains, up-projection and down-projection, in the arrays of all of them. -/
def gainOf (G : (⟨3, ![4, 3, 1024]⟩ : Shape).Idx → EReal) (l : Fin 4) (k : Fin 3) (j : Fin 1024) : EReal := G (ix3 l k j)
def upOf (U : (⟨4, ![4, 2, 1024, 5632]⟩ : Shape).Idx → EReal) (l : Fin 4) (k : Fin 2) (j : Fin 1024) (h : Fin 5632) : EReal := U (ix4 l k j h)
def downOf (D : (⟨4, ![4, 2, 2816, 1024]⟩ : Shape).Idx → EReal) (l : Fin 4) (k : Fin 2) (h : Fin 2816) (j : Fin 1024) : EReal := D (ix4 l k h j)

/-- Layer `l`'s output projection of a mixer, and the final gains. -/
def outOf {n : ℕ} (W : (⟨3, ![2, n, 1024]⟩ : Shape).Idx → EReal) (l : Fin 2) (k : Fin n) (j : Fin 1024) : EReal := W (ix3 l k j)
def lastOf (G : (⟨1, ![1024]⟩ : Shape).Idx → EReal) (j : Fin 1024) : EReal := G (ix1 j)

/-- A power of two whose exponent was scaled by `-1 / log 2` is the exponential of the negative. -/
theorem exp2_scaled (x : EReal) : Ideal.exp2 (x * ((-((Real.log 2)⁻¹) : ℝ) : EReal)) = Ideal.exp (-x) := by
  have hl : 0 < Real.log 2 := Real.log_pos (by norm_num)
  have hn : (-((Real.log 2)⁻¹) : ℝ) < 0 := by have := inv_pos.mpr hl; linarith
  induction x with
  | bot => rw [EReal.bot_mul_coe_of_neg hn]; rfl
  | top => rw [EReal.top_mul_coe_of_neg hn]; rfl
  | coe r =>
    rw [← EReal.coe_mul, ← EReal.coe_neg, Ideal.exp2_coe, Ideal.exp_coe]
    congr 1
    show (2 : ℝ) ^ (r * -(Real.log 2)⁻¹) = Real.exp (-r)
    rw [Real.rpow_def_of_pos (by norm_num)]
    congr 1
    field_simp

/-- The kernel's gate: the sigmoid as a reciprocal, with the exponential as a power of two. -/
theorem silu_word (x : EReal) :
    x * Ideal.div (Ideal.ofBits FTy.f32 0x3F800000#32)
      (Ideal.ofBits FTy.f32 0x3F800000#32 + Ideal.exp2 (x * ((-((Real.log 2)⁻¹) : ℝ) : EReal))) = silu x := by
  rw [exp2_scaled, show Ideal.ofBits FTy.f32 0x3F800000#32 = 1 from Retention.f32_1]
  rfl

/-- Row and column of an entry of a matrix stored row after row. -/
theorem mat_row {p q : ℕ} (j : Fin p) (k : Fin q) : (j.val * q + k.val) / q % p = j.val := by
  have := k.isLt
  rw [Nat.add_comm, Nat.add_mul_div_right _ _ (by omega), Nat.div_eq_of_lt this, Nat.zero_add, Nat.mod_eq_of_lt j.isLt]
theorem mat_col {p q : ℕ} (j : Fin p) (k : Fin q) : (j.val * q + k.val) % q = k.val := by
  rw [Nat.add_comm, Nat.add_mul_mod_self_right, Nat.mod_eq_of_lt k.isLt]

/-- A scratch buffer that its stores cover, read back whole: the array that every store agrees with. -/
theorem read_back {Val : EltTy → Type} [∀ e, Nonempty (Val e)] {sig : RefSig} {κ : Kind} {sp : Space} {S : Shape} {e : EltTy}
    (v : View sig κ sp S e) (G : S.Idx → Val e) (L : List (View.Piece Val S e)) {off : Fin S.rank → ℕ} (inb : ∀ a, off a + S.size a ≤ S.size a)
    (hL : ∀ p ∈ L, ∀ x : p.1.shape.Idx, p.2 x = G (p.1.emb x)) (hc : ∀ y, ∃ p ∈ L, y ∈ p.1.set) :
    v.readCov L (Rect.unit off S.size inb).toLoadRect = G := by
  rw [View.readCov_eq_canon']
  funext x
  have hx : (Rect.unit off S.size inb).toLoadRect.idx x = x :=
    funext fun a => Fin.ext (show off a + 1 * (x a).val = (x a).val by have := inb a; omega)
  show View.canon L ((Rect.unit off S.size inb).toLoadRect.idx x) = G x
  rw [hx]
  exact View.canon_apply_of_pieces G L hL x (hc x)

/-- Rows up to `n` and the `k` rows from `n` on are all the rows. -/
theorem rows_cover {Val : EltTy → Type} {e : EltTy} (R C n k : ℕ) (h1 : ∀ a, (![0, 0] : Fin 2 → ℕ) a + (![n, C] : Fin 2 → ℕ) a ≤ (⟨2, ![R, C]⟩ : Shape).size a)
    (h2 : ∀ a, (![n, 0] : Fin 2 → ℕ) a + (![k, C] : Fin 2 → ℕ) a ≤ (⟨2, ![R, C]⟩ : Shape).size a)
    (p : (Rect.unit (s := ⟨2, ![R, C]⟩) ![0, 0] ![n, C] h1).shape.Idx → Val e) (q : (Rect.unit (s := ⟨2, ![R, C]⟩) ![n, 0] ![k, C] h2).shape.Idx → Val e)
    (hR : R = n + k) (y : (⟨2, ![R, C]⟩ : Shape).Idx) :
    ∃ pc ∈ ([⟨Rect.unit ![n, 0] ![k, C] h2, q⟩, ⟨Rect.unit ![0, 0] ![n, C] h1, p⟩] : List (View.Piece Val ⟨2, ![R, C]⟩ e)), y ∈ pc.1.set := by
  have hy0 : (y 0).val < R := (y 0).isLt
  have hy1 : (y 1).val < C := (y 1).isLt
  by_cases h : (y 0).val < n
  · refine ⟨_, List.mem_cons_of_mem _ List.mem_cons_self, (LoadRect.mem_set _).mpr fun a => ?_⟩
    match a with
    | 0 => exact ⟨(y 0).val, h, show (y 0).val = 0 + 1 * (y 0).val by omega⟩
    | 1 => exact ⟨(y 1).val, hy1, show (y 1).val = 0 + 1 * (y 1).val by omega⟩
  · refine ⟨_, List.mem_cons_self, (LoadRect.mem_set _).mpr fun a => ?_⟩
    match a with
    | 0 => exact ⟨(y 0).val - n, show (y 0).val - n < k by omega, show (y 0).val = n + 1 * ((y 0).val - n) by omega⟩
    | 1 => exact ⟨(y 1).val, hy1, show (y 1).val = 0 + 1 * (y 1).val by omega⟩

end Cert.Net

end
-- ==== Proof.FfnPoint.lean ====
module

public import proofs.«01_k».proof.Proof.Net
public import proofs.«01_k».proof.Proof.Gen.FfnIdeal.Frame
public import Idealize.ShloMosaic.Lib.Pipeline.ValueKit
public import Idealize.ShloMosaic.Lib.Pipeline.ReadBack

@[expose] public section

/-! What one grid point of the half step leaves in its blocks: the norms of its prompt and sample rows, one above the
    other, the hidden units in eleven groups of 256 columns, and every row after its half step. -/

set_option maxRecDepth 16384

noncomputable section

namespace Cert.Net.Plain

open Idealize.ShloMosaic Idealize.ShloMosaic.TcCoe Idealize.ShloMosaic.Tactic Cert.FfnIdeal Cert.FfnIdeal.Gen

theorem neg_log2e : Named.named (F := Ideal) Cert.FfnIdeal.κ "neg_log2e" (φ := .f32) 0xBFB8AA3B#32 = ((-((Real.log 2)⁻¹) : ℝ) : EReal) :=
  IdealRules.named_const.ideal_named_scalar _ _ _ _ rfl

variable (c : Dev nD) (x0 : Vec Ideal S1024x1024 .f32) (x1 : Vec Ideal S32x1024 .f32) (x2 : Vec Ideal S1x1x1x1024 .f32)
  (x3 : Vec Ideal S1x1x1024x5632 .bf16) (x4 : Vec Ideal S1x1x2816x1024 .bf16)

/-- The gains, the up-projection and the down-projection, by their coordinates. -/
def gain (j : Fin 1024) : EReal := x2 (ix4 0 0 0 j)
def wUp (j : Fin 1024) (k : Fin 5632) : EReal := x3 (ix4 0 0 j k)
def wDown (k : Fin 2816) (j : Fin 1024) : EReal := x4 (ix4 0 0 k j)

theorem norm_prompt (a j : Fin 1024) : k0_pay1 x0 x2 (ix2 a j) = rms (fun i => x0 (ix2 a i)) (gain x2) j := by
  unfold k0_pay1 rms gain; pointwise
theorem norm_sample (a : Fin 32) (j : Fin 1024) : k0_pay3 (k0_pay2 x1 x2) (ix2 a j) = rms (fun i => x1 (ix2 a i)) (gain x2) j := by
  unfold k0_pay3 k0_pay2 rms gain; pointwise

theorem group_apply (xn : Vec Ideal S1056x1024 .bf16) (wa wb : Vec Ideal S1x1x1024x256 .bf16) (r : Fin 1056) (k : Fin 256) :
    k0_pay4 xn wa wb (ix2 r k)
      = silu (∑ j : Fin 1024, xn (ix2 r j) * wa (ix4 0 0 j k)) * ∑ j : Fin 1024, xn (ix2 r j) * wb (ix4 0 0 j k) := by
  unfold k0_pay4; rw [← silu_word]; pointwise [neg_log2e]; rfl
theorem out_prompt (h : Vec Ideal S1056x2816 .bf16) (a j : Fin 1024) :
    k0_pay25 x0 h x4 (ix2 a j)
      = x0 (ix2 a j) + Ideal.ofBits FTy.f32 0x3F000000#32 * ∑ k : Fin 2816, h (ix2 (⟨a.val, by omega⟩ : Fin 1056) k) * wDown x4 k j := by
  unfold k0_pay25 k0_pay24 wDown; pointwise
theorem out_sample (h : Vec Ideal S1056x2816 .bf16) (a : Fin 32) (j : Fin 1024) :
    k0_pay26 x1 h x4 (ix2 a j)
      = x1 (ix2 a j) + Ideal.ofBits FTy.f32 0x3F000000#32 * ∑ k : Fin 2816, h (ix2 (⟨1024 + a.val, by omega⟩ : Fin 1056) k) * wDown x4 k j := by
  unfold k0_pay26 k0_pay24 wDown; pointwise

/-! ## The stages as the kernel names them -/

section Stages
variable (xn : Vec Ideal S1056x1024 .bf16) (wa wb : Vec Ideal S1x1x1024x256 .bf16)

theorem stage_1 : k0_pay8 (k0_pay5 xn wa) (k0_pay6 xn wb) (k0_pay7 xn wa) = k0_pay4 xn wa wb := rfl
theorem stage_2 : k0_pay9 xn wa wb = k0_pay4 xn wa wb := rfl
theorem stage_3 : k0_pay11 xn (k0_pay10 xn wa) wb = k0_pay4 xn wa wb := rfl
theorem stage_4 : k0_pay12 xn wa wb = k0_pay4 xn wa wb := rfl
theorem stage_5 : k0_pay13 xn wa wb = k0_pay4 xn wa wb := rfl
theorem stage_6 : k0_pay17 (k0_pay14 xn wa) (k0_pay15 xn wb) (k0_pay16 xn wa) (FloatOps.ofBits (F := Ideal) FTy.f32 0x3F800000#32) = k0_pay4 xn wa wb := rfl
theorem stage_7 : k0_pay18 xn wa wb = k0_pay4 xn wa wb := rfl
theorem stage_8 : k0_pay21 xn (k0_pay19 xn wa) (k0_pay20 wb) = k0_pay4 xn wa wb := rfl
theorem stage_9 : k0_pay22 xn wa wb = k0_pay4 xn wa wb := rfl
theorem stage_10 : k0_pay23 xn wa wb = k0_pay4 xn wa wb := rfl

end Stages

/-! ## What the scratch buffers hold -/

/-- Row `r` of a point: its prompt rows, then its sample rows. -/
def rowAt (r : ℕ) (j : Fin 1024) : EReal :=
  if h : r < 1024 then x0 (ix2 (⟨r, h⟩ : Fin 1024) j) else x1 (ix2 (⟨(r - 1024) % 32, Nat.mod_lt _ (by decide)⟩ : Fin 32) j)

/-- The normed rows. -/
def normBlk : Vec Ideal S1056x1024 .bf16 := fun y => rms (rowAt x0 x1 (y 0).val) (gain x2) (y 1)
/-- The hidden units. -/
def hidBlk : Vec Ideal S1056x2816 .bf16 := fun y => hid (rms (rowAt x0 x1 (y 0).val) (gain x2)) (wUp x3) (y 1)

theorem rowAt_prompt (a : Fin 1024) : rowAt x0 x1 a.val = fun i => x0 (ix2 a i) := by
  funext i; unfold rowAt; rw [dif_pos a.isLt]
theorem rowAt_sample (a : Fin 32) : rowAt x0 x1 (1024 + a.val) = fun i => x1 (ix2 a i) := by
  funext i; unfold rowAt; rw [dif_neg (by omega)]
  exact congrArg (fun r : Fin 32 => x1 (ix2 r i)) (Fin.ext (by show (1024 + a.val - 1024) % 32 = a.val; omega))

theorem norm_read {s : RefSig} (v : View s .tc .vmem S1056x1024 .bf16) :
    v.readCov (Val := Elt Ideal) [⟨Rect.unit ![1024, 0] ![32, 1024] inb_S1056x1024_S32x1024_1024_0, k0_pay3 (k0_pay2 x1 x2)⟩,
        ⟨Rect.unit ![0, 0] ![1024, 1024] inb_S1056x1024_S1024x1024_0_0, k0_pay1 x0 x2⟩]
      (Rect.unit ![0, 0] ![1056, 1024] inb_S1056x1024_S1056x1024_0_0).toLoadRect = normBlk x0 x1 x2 := by
  refine read_back v (normBlk x0 x1 x2) _ inb_S1056x1024_S1056x1024_0_0 ?_ fun y => ?_
  swap
  · exact rows_cover _ _ 1024 32 inb_S1056x1024_S1024x1024_0_0 inb_S1056x1024_S32x1024_1024_0 _ _ (by decide) y
  simp only [List.forall_mem_cons]
  refine ⟨fun z => ?_, fun z => ?_, fun p hp => absurd hp List.not_mem_nil⟩
  · obtain ⟨a, j, rfl⟩ : ∃ (a : Fin 32) (j : Fin 1024), z = ix2 a j := ⟨_, _, eq_ix2 z⟩
    refine (norm_sample x1 x2 a j).trans ?_
    rw [← rowAt_sample x0 x1]
    exact congrArg₂ (fun (r : ℕ) (i : Fin 1024) => rms (rowAt x0 x1 r) (gain x2) i)
      (show 1024 + a.val = 1024 + 1 * a.val by omega) (Fin.ext (show j.val = 0 + 1 * j.val by omega))
  · obtain ⟨a, j, rfl⟩ : ∃ a j : Fin 1024, z = ix2 a j := ⟨_, _, eq_ix2 z⟩
    refine (norm_prompt x0 x2 a j).trans ?_
    rw [← rowAt_prompt x0 x1]
    exact congrArg₂ (fun (r : ℕ) (i : Fin 1024) => rms (rowAt x0 x1 r) (gain x2) i)
      (show a.val = 0 + 1 * a.val by omega) (Fin.ext (show j.val = 0 + 1 * j.val by omega))

theorem up_inb (o : ℕ) (ho : o + 256 ≤ 5632) : ∀ a, (![0, 0, 0, o] : Fin 4 → ℕ) a + (![1, 1, 1024, 256] : Fin 4 → ℕ) a ≤ S1x1x1024x5632.size a
  | 0 => (by decide : 0 + 1 ≤ 1)
  | 1 => (by decide : 0 + 1 ≤ 1)
  | 2 => (by decide : 0 + 1024 ≤ 1024)
  | 3 => ho

/-- 256 columns of the up-projection, from column `o`. -/
theorem ld_up (o : ℕ) (ho : o + 256 ≤ 5632) (hb) (j : Fin 1024) (k : Fin 256) :
    View.ld x3 (Rect.unit (s := S1x1x1024x5632) ![0, 0, 0, o] ![1, 1, 1024, 256] hb) (ix4 0 0 j k) = wUp x3 j ⟨o + k.val, by omega⟩ := by
  refine congrArg x3 (funext fun a => Fin.ext ?_)
  match a with
  | 0 => rfl
  | 1 => rfl
  | 2 => show 0 + 1 * j.val = j.val; omega
  | 3 => show o + 1 * k.val = o + k.val; omega

theorem hid_piece (n : ℕ) (hn : n < 11) (ha hb hh) (z : S1056x256.Idx) :
    k0_pay4 (normBlk x0 x1 x2)
        (View.ld x3 (Rect.unit (s := S1x1x1024x5632) ![0, 0, 0, n * 256] ![1, 1, 1024, 256] ha))
        (View.ld x3 (Rect.unit (s := S1x1x1024x5632) ![0, 0, 0, 2816 + n * 256] ![1, 1, 1024, 256] hb)) z
      = hidBlk x0 x1 x2 x3 ((Rect.unit (s := S1056x2816) ![0, n * 256] ![1056, 256] hh).emb z) := by
  obtain ⟨r, k, rfl⟩ : ∃ (r : Fin 1056) (k : Fin 256), z = ix2 r k := ⟨_, _, eq_ix2 z⟩
  refine (group_apply _ _ _ r k).trans ?_
  simp only [ld_up x3 (n * 256) (by omega), ld_up x3 (2816 + n * 256) (by omega)]
  have hr : (Rect.unit (s := S1056x2816) ![0, n * 256] ![1056, 256] hh).emb (ix2 r k) = ix2 r (⟨n * 256 + k.val, by omega⟩ : Fin 2816) := by
    funext a
    match a with
    | 0 => exact Fin.ext (show 0 + 1 * r.val = r.val by omega)
    | 1 => exact Fin.ext (show n * 256 + 1 * k.val = n * 256 + k.val by omega)
  rw [hr]
  unfold hidBlk hid
  refine congrArg₂ (fun a b : EReal => silu a * b) rfl (Finset.sum_congr rfl fun j _ => ?_)
  exact congrArg (fun i : Fin 5632 => rms (rowAt x0 x1 r.val) (gain x2) j * wUp x3 j i)
    (Fin.ext (show 2816 + n * 256 + k.val = 2816 + (n * 256 + k.val) by omega))

theorem hid_inb (n : ℕ) (hn : n < 11) : ∀ a, (![0, n * 256] : Fin 2 → ℕ) a + (![1056, 256] : Fin 2 → ℕ) a ≤ S1056x2816.size a
  | 0 => (by decide : 0 + 1056 ≤ 1056)
  | 1 => show n * 256 + 256 ≤ 2816 by omega

/-- One group of hidden units, as the point stores it. -/
def group (n : ℕ) (hn : n < 11) : View.Piece (Elt Ideal) S1056x2816 .bf16 :=
  ⟨Rect.unit ![0, n * 256] ![1056, 256] (hid_inb n hn),
    k0_pay4 (normBlk x0 x1 x2)
      (View.ld x3 (Rect.unit (s := S1x1x1024x5632) ![0, 0, 0, n * 256] ![1, 1, 1024, 256] (up_inb _ (by omega))))
      (View.ld x3 (Rect.unit (s := S1x1x1024x5632) ![0, 0, 0, 2816 + n * 256] ![1, 1, 1024, 256] (up_inb _ (by omega))))⟩

theorem hid_read (v : View sig .tc .vmem S1056x2816 .bf16) :
    v.readCov (Val := Elt Ideal) [group x0 x1 x2 x3 10 (by decide), group x0 x1 x2 x3 9 (by decide), group x0 x1 x2 x3 8 (by decide),
        group x0 x1 x2 x3 7 (by decide), group x0 x1 x2 x3 6 (by decide), group x0 x1 x2 x3 5 (by decide), group x0 x1 x2 x3 4 (by decide),
        group x0 x1 x2 x3 3 (by decide), group x0 x1 x2 x3 2 (by decide), group x0 x1 x2 x3 1 (by decide), group x0 x1 x2 x3 0 (by decide)]
      (Rect.unit ![0, 0] ![1056, 2816] inb_S1056x2816_S1056x2816_0_0).toLoadRect = hidBlk x0 x1 x2 x3 := by
  refine read_back v (hidBlk x0 x1 x2 x3) _ inb_S1056x2816_S1056x2816_0_0 ?_ fun y => View.cover_of_tiledL _ (![1056, 256] : Fin 2 → ℕ) (by rfl) y
  have h : ∀ n hn, ∀ x, (group x0 x1 x2 x3 n hn).2 x = hidBlk x0 x1 x2 x3 ((group x0 x1 x2 x3 n hn).1.emb x) :=
    fun n hn x => hid_piece x0 x1 x2 x3 n hn _ _ (hid_inb n hn) x
  simp only [List.forall_mem_cons]
  exact ⟨h _ _, h _ _, h _ _, h _ _, h _ _, h _ _, h _ _, h _ _, h _ _, h _ _, h _ _, fun p hp => absurd hp List.not_mem_nil⟩

/-! ## The output blocks -/

theorem point_prompt (t : Fin cfg0.N) (a j : Fin 1024) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) x0 x1 x2 x3 x4 (ix2 a j)
      = step (fun i => x0 (ix2 a i)) (gain x2) (wUp x3) (wDown x4) j := by
  frame_open
  simp (disch := decide) only [↓ View.readCov_skip, ↓ View.readCov_cons_toLoadRect, ↓ View.readCov_fill, stage_1, stage_2, stage_3, stage_4, stage_5, stage_6, stage_7, stage_8, stage_9, stage_10, norm_read]
  frame_out
  refine (congrArg (fun h => k0_pay25 x0 h x4 (ix2 a j)) (hid_read x0 x1 x2 x3 _)).trans ?_
  refine (out_prompt x0 x4 _ a j).trans ?_
  rw [← rowAt_prompt x0 x1 a]
  exact congrArg (fun z : EReal => z + _) (congrFun (rowAt_prompt x0 x1 a) j).symm

theorem point_sample (t : Fin cfg0.N) (a : Fin 32) (j : Fin 1024) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) x0 x1 x2 x3 x4 (ix2 a j)
      = step (fun i => x1 (ix2 a i)) (gain x2) (wUp x3) (wDown x4) j := by
  frame_open
  simp (disch := decide) only [↓ View.readCov_skip, ↓ View.readCov_cons_toLoadRect, ↓ View.readCov_fill, stage_1, stage_2, stage_3, stage_4, stage_5, stage_6, stage_7, stage_8, stage_9, stage_10, norm_read]
  frame_out
  refine (congrArg (fun h => k0_pay26 x1 h x4 (ix2 a j)) (hid_read x0 x1 x2 x3 _)).trans ?_
  refine (out_sample x1 x4 _ a j).trans ?_
  rw [← rowAt_sample x0 x1 a]
  exact congrArg (fun z : EReal => z + _) (congrFun (rowAt_sample x0 x1 a) j).symm

end Cert.Net.Plain

end
-- ==== Proof.FfnArray.lean ====
module

public import proofs.«01_k».proof.Proof.FfnPoint
public import proofs.«01_k».proof.Proof.Gen.FfnIdeal.Value
public import Idealize.ShloMosaic.Lib.Pipeline.ValueKit.Partial
public import Idealize.ShloMosaic.Lib.StableHlo.ReadAt

@[expose] public section

/-! The half step's two arrays after the run. -/

set_option maxRecDepth 16384

noncomputable section

namespace Cert.Net.Plain

open Idealize.ShloMosaic Idealize.ShloMosaic.TcCoe Idealize.ShloMosaic.Tactic Cert.FfnIdeal Cert.FfnIdeal.Gen

variable (m : (ℓ : Loc nD τ sig) → Buf (Elt Ideal) ℓ) (c : Dev nD)

/-- The arguments, as launched. -/
abbrev aXp : S16384x1024.Idx → EReal := m ((c : Thread nD τ).loc main_arg0)
abbrev aXs : S512x1024.Idx → EReal := m ((c : Thread nD τ).loc main_arg1)
abbrev aGain : S4x3x1024.Idx → EReal := m ((c : Thread nD τ).loc main_arg2)
abbrev aUp : S4x2x1024x5632.Idx → EReal := m ((c : Thread nD τ).loc main_arg3)
abbrev aDown : S4x2x2816x1024.Idx → EReal := m ((c : Thread nD τ).loc main_arg4)

theorem idx_0 (t : Fin cfg0.N) : win0_0.index t = ![t.val, 0] := by revert t; decide +kernel
theorem idx_1 (t : Fin cfg0.N) : win0_1.index t = ![t.val, 0] := by revert t; decide +kernel
theorem idx_2 (t : Fin cfg0.N) : win0_2.index t = ![0, 0, 0, 0] := by revert t; decide +kernel
theorem idx_3 (t : Fin cfg0.N) : win0_3.index t = ![0, 0, 0, 0] := by revert t; decide +kernel
theorem idx_4 (t : Fin cfg0.N) : win0_4.index t = ![0, 0, 0, 0] := by revert t; decide +kernel
theorem idx_5 (t : Fin cfg0.N) : win0_5.index t = ![t.val, 0] := by revert t; decide +kernel
theorem idx_6 (t : Fin cfg0.N) : win0_6.index t = ![t.val, 0] := by revert t; decide +kernel

theorem iblk_0 (t : Fin cfg0.N) (a b : Fin 1024) :
    iblk m c 0 t (ix2 a b) = aXp m c (ix2 (⟨t.val * 1024 + a.val, by have hN : t.val < 16 := t.isLt; omega⟩ : Fin 16384) b) := by
  have hN : t.val < 16 := t.isLt
  blk_ext [iblk, V_main_arg0, idx_0 t]
theorem iblk_1 (t : Fin cfg0.N) (a : Fin 32) (b : Fin 1024) :
    iblk m c 1 t (ix2 a b) = aXs m c (ix2 (⟨t.val * 32 + a.val, by have hN : t.val < 16 := t.isLt; omega⟩ : Fin 512) b) := by
  have hN : t.val < 16 := t.isLt
  blk_ext [iblk, V_main_arg1, idx_1 t]
theorem gain_blk (t : Fin cfg0.N) : gain (iblk m c 2 t) = gainOf (aGain m c) 0 0 := by
  have e : ∀ j, iblk m c 2 t (ix4 0 0 0 j) = V m c main_v2 (ix4 0 0 0 j) := fun j => by blk_ext [iblk, idx_2 t]
  funext j
  refine (e j).trans ?_
  unfold V
  after_reads_at
  unfold gainOf
  pointwise
theorem up_blk (t : Fin cfg0.N) : wUp (iblk m c 3 t) = upOf (aUp m c) 0 0 := by
  have e : ∀ j k, iblk m c 3 t (ix4 0 0 j k) = V m c main_v0 (ix4 0 0 j k) := fun j k => by blk_ext [iblk, idx_3 t]
  funext j k
  refine (e j k).trans ?_
  unfold V
  after_reads_at
  rfl
theorem down_blk (t : Fin cfg0.N) : wDown (iblk m c 4 t) = downOf (aDown m c) 0 0 := by
  have e : ∀ j k, iblk m c 4 t (ix4 0 0 j k) = V m c main_v1 (ix4 0 0 j k) := fun j k => by blk_ext [iblk, idx_4 t]
  funext j k
  refine (e j k).trans ?_
  unfold V
  after_reads_at
  rfl

/-- The rows of `X` after their half step. -/
def stepArr {n : ℕ} (X : (⟨2, ![n, 1024]⟩ : Shape).Idx → EReal) (i : (⟨2, ![n, 1024]⟩ : Shape).Idx) : EReal :=
  step (fun e => X (ix2 (i 0) e)) (gainOf (aGain m c) 0 0) (upOf (aUp m c) 0 0) (downOf (aDown m c) 0 0) (i 1)

theorem arr5 : (dats m 0 c).arrAt 5 cfg0.N = stepArr m c (aXp m c) := by
  refine (dats m 0 c).arrAt_eq_of_covers 5 _ (by decide +kernel) fun t hf y => ?_
  have hN : t.val < 16 := t.isLt
  obtain ⟨a, j, rfl⟩ : ∃ a j : Fin 1024, y = ix2 a j := ⟨_, _, eq_ix2 y⟩
  have e : ((cfg0.win 5).blk t).view.emb (ix2 a j) = ix2 (⟨t.val * 1024 + a.val, by omega⟩ : Fin 16384) j := by
    blk_ext [idx_5 t]
  rw [e]
  blk_simp
  rw [after0_5]
  simp only [outsAt0]
  refine (point_prompt c _ _ _ _ _ t a j).trans ?_
  rw [gain_blk, up_blk, down_blk]
  simp only [iblk_0]
  rfl

theorem arr6 : (dats m 0 c).arrAt 6 cfg0.N = stepArr m c (aXs m c) := by
  refine (dats m 0 c).arrAt_eq_of_covers 6 _ (by decide +kernel) fun t hf y => ?_
  have hN : t.val < 16 := t.isLt
  obtain ⟨a, j, rfl⟩ : ∃ (a : Fin 32) (j : Fin 1024), y = ix2 a j := ⟨_, _, eq_ix2 y⟩
  have e : ((cfg0.win 6).blk t).view.emb (ix2 a j) = ix2 (⟨t.val * 32 + a.val, by omega⟩ : Fin 512) j := by
    blk_ext [idx_6 t]
  rw [e]
  blk_simp
  rw [after0_6]
  simp only [outsAt0]
  refine (point_sample c _ _ _ _ _ t a j).trans ?_
  rw [gain_blk, up_blk, down_blk]
  simp only [iblk_1]
  rfl

end Cert.Net.Plain

end
-- ==== Proof.FfnRef.lean ====
module

public import proofs.«01_k».proof.Proof.Net
public import proofs.«01_k».proof.Proof.Gen.FfnRefIdeal.Read
public import Idealize.ShloMosaic.Lib.Pointwise

@[expose] public section

/-! The half step's reference, read row by row. -/

set_option maxRecDepth 16384

noncomputable section

namespace Cert.Net.PlainRef

open Idealize.ShloMosaic Idealize.ShloMosaic.TcCoe Idealize.ShloMosaic.Tactic Cert.FfnRefIdeal Cert.FfnRefIdeal.Gen Cert.FfnRefIdeal.Read

variable (x0 : (⟨2, ![16384, 1024]⟩ : Shape).Idx → EReal) (x1 : (⟨2, ![512, 1024]⟩ : Shape).Idx → EReal) (x2 : (⟨3, ![4, 3, 1024]⟩ : Shape).Idx → EReal)
  (x3 : (⟨4, ![4, 2, 1024, 5632]⟩ : Shape).Idx → EReal) (x4 : (⟨4, ![4, 2, 2816, 1024]⟩ : Shape).Idx → EReal)

/-! ## The prompt -/

theorem n14 (a : Fin 16384) (j : Fin 1024) : val_main_v14 (F := Ideal) x0 x2 (ix2 a j) = rms (fun e => x0 (ix2 a e)) (gainOf x2 0 0) j := by
  have e1 : ∀ x, idx_main_v3 (idx_main_v4 (idx_main_v10 (ix2 a j))) x = ix2 a x := fun x => funext fun b => match b with | 0 => rfl | 1 => rfl
  have e2 : idx_main_v0 (idx_main_v1 (idx_main_v12 (idx_main_v13 (ix2 a j)))) = ix3 0 0 j :=
    funext fun b => match b with | 0 => rfl | 1 => rfl | 2 => Fin.ext (Nat.mod_eq_of_lt j.isLt)
  simp only [val_main_v14_apply, val_main_v11_apply, val_main_v10_apply, val_main_v9_apply, val_main_v8_apply, val_main_v6_apply, val_main_v4_apply,
    val_main_v3_apply, val_main_v2_apply, val_main_v5_apply, val_main_v7_apply, val_main_v13_apply, val_main_v12_apply, val_main_v1_apply, val_main_v0_apply,
    val_main_cst_apply, val_main_cst_0_apply, val_main_cst_1_apply, Retention.f32_0, EReal.coe_zero, zero_add, e1, e2]
  rfl

theorem u19 (a : Fin 16384) (k : Fin 5632) :
    val_main_v19 (F := Ideal) x0 x2 x3 (ix2 a k) = ∑ j, rms (fun e => x0 (ix2 a e)) (gainOf x2 0 0) j * upOf x3 0 0 j k := by
  rw [val_main_v19_apply]
  refine Finset.sum_congr rfl fun j _ => congrArg₂ (fun y z : EReal => y * z) ?_ ?_
  · refine Eq.trans (congrArg _ ?_) (n14 x0 x2 a j)
    exact funext fun b => match b with | 0 => rfl | 1 => rfl
  · rw [val_main_v16_apply, val_main_v15_apply]
    refine congrArg x3 (funext fun b => Fin.ext ?_)
    match b with
    | 0 => rfl
    | 1 => rfl
    | 2 => exact mat_row j k
    | 3 => exact mat_col j k

theorem h23 (a : Fin 16384) (k : Fin 2816) :
    val_main_v23 (F := Ideal) x0 x2 x3 (ix2 a k) = hid (rms (fun e => x0 (ix2 a e)) (gainOf x2 0 0)) (upOf x3 0 0) k := by
  have e20 : idx_main_v20 (ix2 a k) = ix2 a (⟨k.val, by omega⟩ : Fin 5632) := funext fun b => match b with | 0 => rfl | 1 => rfl
  have e21 : idx_main_v21 (ix2 a k) = ix2 a (⟨2816 + k.val, by omega⟩ : Fin 5632) := funext fun b => match b with | 0 => rfl | 1 => rfl
  simp only [val_main_v23_apply, val_main_v22_apply, val_main_v20_apply, val_main_v21_apply, val_main_call0_v5_apply, val_main_call0_v4_apply, val_main_call0_v3_apply,
    val_main_call0_v2_apply, val_main_call0_v1_apply, val_main_call0_v0_apply, val_main_call0_cst_apply, val_main_call0_cst_0_apply, val_main_v20_apply, e20, e21, u19, Retention.f32_1]
  rfl

theorem r27 (a : Fin 16384) (j : Fin 1024) :
    val_main_v27 (F := Ideal) x0 x2 x3 x4 (ix2 a j) = step (fun e => x0 (ix2 a e)) (gainOf x2 0 0) (upOf x3 0 0) (downOf x4 0 0) j := by
  simp only [val_main_v27_apply, val_main_v26_apply, val_main_v25_apply, val_main_cst_2_apply, val_main_v24_apply]
  refine congrArg (fun z : EReal => x0 (ix2 a j) + Ideal.ofBits FTy.f32 0x3F000000#32 * z) (Finset.sum_congr rfl fun k _ => congrArg₂ (fun y z : EReal => y * z) ?_ ?_)
  · refine Eq.trans (congrArg _ ?_) (h23 x0 x2 x3 a k)
    exact funext fun b => match b with | 0 => rfl | 1 => rfl
  · rw [val_main_v18_apply, val_main_v17_apply]
    refine congrArg x4 (funext fun b => Fin.ext ?_)
    match b with
    | 0 => rfl
    | 1 => rfl
    | 2 => exact mat_row k j
    | 3 => exact mat_col k j

/-! ## The sample -/

theorem n42 (a : Fin 512) (j : Fin 1024) : val_main_v42 (F := Ideal) x1 x2 (ix2 a j) = rms (fun e => x1 (ix2 a e)) (gainOf x2 0 0) j := by
  have e1 : ∀ x, idx_main_v31 (idx_main_v32 (idx_main_v38 (ix2 a j))) x = ix2 a x := fun x => funext fun b => match b with | 0 => rfl | 1 => rfl
  have e2 : idx_main_v28 (idx_main_v29 (idx_main_v40 (idx_main_v41 (ix2 a j)))) = ix3 0 0 j :=
    funext fun b => match b with | 0 => rfl | 1 => rfl | 2 => Fin.ext (Nat.mod_eq_of_lt j.isLt)
  simp only [val_main_v42_apply, val_main_v39_apply, val_main_v38_apply, val_main_v37_apply, val_main_v36_apply, val_main_v34_apply, val_main_v32_apply,
    val_main_v31_apply, val_main_v30_apply, val_main_v33_apply, val_main_v35_apply, val_main_v41_apply, val_main_v40_apply, val_main_v29_apply, val_main_v28_apply,
    val_main_cst_3_apply, val_main_cst_4_apply, val_main_cst_5_apply, Retention.f32_0, EReal.coe_zero, zero_add, e1, e2]
  rfl

theorem u47 (a : Fin 512) (k : Fin 5632) :
    val_main_v47 (F := Ideal) x1 x2 x3 (ix2 a k) = ∑ j, rms (fun e => x1 (ix2 a e)) (gainOf x2 0 0) j * upOf x3 0 0 j k := by
  rw [val_main_v47_apply]
  refine Finset.sum_congr rfl fun j _ => congrArg₂ (fun y z : EReal => y * z) ?_ ?_
  · refine Eq.trans (congrArg _ ?_) (n42 x1 x2 a j)
    exact funext fun b => match b with | 0 => rfl | 1 => rfl
  · rw [val_main_v44_apply, val_main_v43_apply]
    refine congrArg x3 (funext fun b => Fin.ext ?_)
    match b with
    | 0 => rfl
    | 1 => rfl
    | 2 => exact mat_row j k
    | 3 => exact mat_col j k

theorem h51 (a : Fin 512) (k : Fin 2816) :
    val_main_v51 (F := Ideal) x1 x2 x3 (ix2 a k) = hid (rms (fun e => x1 (ix2 a e)) (gainOf x2 0 0)) (upOf x3 0 0) k := by
  have e48 : idx_main_v48 (ix2 a k) = ix2 a (⟨k.val, by omega⟩ : Fin 5632) := funext fun b => match b with | 0 => rfl | 1 => rfl
  have e49 : idx_main_v49 (ix2 a k) = ix2 a (⟨2816 + k.val, by omega⟩ : Fin 5632) := funext fun b => match b with | 0 => rfl | 1 => rfl
  simp only [val_main_v51_apply, val_main_v50_apply, val_main_v48_apply, val_main_v49_apply, val_main_call1_v5_apply, val_main_call1_v4_apply, val_main_call1_v3_apply,
    val_main_call1_v2_apply, val_main_call1_v1_apply, val_main_call1_v0_apply, val_main_call1_cst_apply, val_main_call1_cst_0_apply, val_main_v48_apply, e48, e49, u47, Retention.f32_1]
  rfl

theorem r55 (a : Fin 512) (j : Fin 1024) :
    val_main_v55 (F := Ideal) x1 x2 x3 x4 (ix2 a j) = step (fun e => x1 (ix2 a e)) (gainOf x2 0 0) (upOf x3 0 0) (downOf x4 0 0) j := by
  simp only [val_main_v55_apply, val_main_v54_apply, val_main_v53_apply, val_main_cst_6_apply, val_main_v52_apply]
  refine congrArg (fun z : EReal => x1 (ix2 a j) + Ideal.ofBits FTy.f32 0x3F000000#32 * z) (Finset.sum_congr rfl fun k _ => congrArg₂ (fun y z : EReal => y * z) ?_ ?_)
  · refine Eq.trans (congrArg _ ?_) (h51 x1 x2 x3 a k)
    exact funext fun b => match b with | 0 => rfl | 1 => rfl
  · rw [val_main_v46_apply, val_main_v45_apply]
    refine congrArg x4 (funext fun b => Fin.ext ?_)
    match b with
    | 0 => rfl
    | 1 => rfl
    | 2 => exact mat_row k j
    | 3 => exact mat_col k j

end Cert.Net.PlainRef

end
-- ==== Proof.FfnEqual.lean ====
module

public import proofs.«01_k».proof.Defs
public import proofs.«01_k».proof.Proof.FfnArray
public import proofs.«01_k».proof.Proof.FfnRef
public import proofs.«01_k».proof.Proof.Gen.FfnRefIdeal.Run
public import Idealize.ShloMosaic.Lib.Quiescent
public import Idealize.ShloMosaic.Lib.Claim

@[expose] public section

/-! The half step: the kernel's two arrays are the reference's, and the reference runs. -/

set_option maxRecDepth 16384

noncomputable section

namespace Cert.Net.Plain

open Idealize.ShloMosaic Idealize.ShloMosaic.StableHlo Idealize.ShloMosaic.TcCoe Idealize.SL.Sem

/-- The half step's reference runs, leaves its arguments, and declares no semaphore. -/
theorem frame_ref : Cert.quiescent_FfnRefIdeal := fun m g _ =>
  (θ_run (Cert.FfnRefIdeal.defs (F := Ideal)) _ _).mono
    (fun r h => ⟨fun c => (h c).2.2, Idealize.ShloMosaic.sem_eq_zero_of_no_sems (by decide) r.2⟩)
    (Cert.FfnRefIdeal.Value.run (F := Ideal) m g)

theorem preserves : Cert.preserves_Ffn_FfnIdeal := IdealRules.named_const.statement _ _ _ _ _ rfl

theorem equal : Cert.algebraic_FfnIdeal_FfnRefIdeal := by
  intro m g m' g' _ hargs
  refine ⟨fun c => stepArr m c (aXp m c), fun c => stepArr m c (aXs m c), ?_, ?_⟩
  · refine (θ_run (Cert.FfnIdeal.defs (F := Ideal)) _ _).mono (fun r h c => ?_) (Cert.FfnIdeal.Value.run_blocks (F := Ideal) m g)
    obtain ⟨h0, h1, hrest⟩ := h c
    exact ⟨h0.trans (arr5 m c), h1.trans (arr6 m c), hrest⟩
  · refine (θ_run (Cert.FfnRefIdeal.defs (F := Ideal)) _ _).mono (fun r h c => ?_) (Cert.FfnRefIdeal.Value.run (F := Ideal) m' g')
    obtain ⟨a0, a1, a2, a3, a4⟩ := hargs c
    obtain ⟨h0, h1, hrest⟩ := h c
    refine ⟨?_, ?_, hrest⟩
    · refine (h0.trans (Cert.FfnRefIdeal.Read.val_main_v27_eq m' c)).trans ?_
      rw [a0, a2, a3, a4]
      funext i
      exact (congrArg _ (eq_ix2 i)).trans (PlainRef.r27 (aXp m c) (aGain m c) (aUp m c) (aDown m c) (i 0) (i 1))
    · refine (h1.trans (Cert.FfnRefIdeal.Read.val_main_v55_eq _ _ _ _)).trans ?_
      rw [a1, a2, a3, a4]
      funext i
      exact (congrArg _ (eq_ix2 i)).trans (PlainRef.r55 (aXs m c) (aGain m c) (aUp m c) (aDown m c) (i 0) (i 1))

end Cert.Net.Plain

end
-- ==== Proof.Half.lean ====
module

public import proofs.«01_k».proof.Proof.Net
public import proofs.«01_k».proof.Proof.Gen.TailIdeal.Frame
public import Idealize.ShloMosaic.Lib.Pipeline.ValueKit
public import Idealize.ShloMosaic.Lib.Pipeline.ReadBack

@[expose] public section

/-! The half step that follows a mixer, at a grid point of 512 prompt rows and 16 sample rows: the scratch buffers of the norms and
    of the hidden units. The two programs that take this half step share it. -/

set_option maxRecDepth 16384

noncomputable section

namespace Cert.Net.Half

open Idealize.ShloMosaic Idealize.ShloMosaic.TcCoe Idealize.ShloMosaic.Tactic Cert.TailIdeal Cert.TailIdeal.Gen

theorem neg_log2e : Named.named (F := Ideal) Cert.TailIdeal.κ "neg_log2e" (φ := .f32) 0xBFB8AA3B#32 = ((-((Real.log 2)⁻¹) : ℝ) : EReal) :=
  IdealRules.named_const.ideal_named_scalar _ _ _ _ rfl

variable (yp : Fin 512 → Fin 1024 → EReal) (ys : Fin 16 → Fin 1024 → EReal) (g : Fin 1024 → EReal)
  (xn : Vec Ideal S528x1024 .bf16) (u : Vec Ideal S1x1x1024x5632 .bf16) (d : Vec Ideal S1x1x2816x1024 .bf16)

/-- The gains, the up-projection and the down-projection, by their coordinates. -/
def gain (x : Vec Ideal S1x1x1x1024 .f32) (j : Fin 1024) : EReal := x (ix4 0 0 0 j)
def wUp (j : Fin 1024) (k : Fin 5632) : EReal := u (ix4 0 0 j k)
def wDown (k : Fin 2816) (j : Fin 1024) : EReal := d (ix4 0 0 k j)

/-! ## The norms -/

/-- Row `r` of a point: its prompt rows, then its sample rows. -/
def rowAt (r : ℕ) : Fin 1024 → EReal :=
  if h : r < 512 then yp ⟨r, h⟩ else ys ⟨(r - 512) % 16, Nat.mod_lt _ (by decide)⟩

theorem rowAt_prompt (a : Fin 512) : rowAt yp ys a.val = yp a := by unfold rowAt; rw [dif_pos a.isLt]
theorem rowAt_sample (a : Fin 16) : rowAt yp ys (512 + a.val) = ys a := by
  unfold rowAt; rw [dif_neg (by omega)]
  exact congrArg ys (Fin.ext (by show (512 + a.val - 512) % 16 = a.val; omega))

/-- The normed rows. -/
def normBlk : Vec Ideal S528x1024 .bf16 := fun y => rms (rowAt yp ys (y 0).val) g (y 1)

theorem norm_read (p : Vec Ideal S512x1024 .bf16) (q : Vec Ideal S16x1024 .bf16)
    (hp : ∀ (a : Fin 512) (j : Fin 1024), p (ix2 a j) = rms (yp a) g j) (hq : ∀ (a : Fin 16) (j : Fin 1024), q (ix2 a j) = rms (ys a) g j)
    {s : RefSig} (v : View s .tc .vmem S528x1024 .bf16) :
    v.readCov (Val := Elt Ideal) [⟨Rect.unit ![512, 0] ![16, 1024] inb_S528x1024_S16x1024_512_0, q⟩,
        ⟨Rect.unit ![0, 0] ![512, 1024] inb_S528x1024_S512x1024_0_0, p⟩]
      (Rect.unit ![0, 0] ![528, 1024] inb_S528x1024_S528x1024_0_0).toLoadRect = normBlk yp ys g := by
  refine read_back v (normBlk yp ys g) _ inb_S528x1024_S528x1024_0_0 ?_ fun y => ?_
  swap
  · exact rows_cover _ _ 512 16 inb_S528x1024_S512x1024_0_0 inb_S528x1024_S16x1024_512_0 _ _ (by decide) y
  simp only [List.forall_mem_cons]
  refine ⟨fun z => ?_, fun z => ?_, fun p hp => absurd hp List.not_mem_nil⟩
  · obtain ⟨a, j, rfl⟩ : ∃ (a : Fin 16) (j : Fin 1024), z = ix2 a j := ⟨_, _, eq_ix2 z⟩
    refine (hq a j).trans ?_
    rw [← rowAt_sample yp ys]
    exact congrArg₂ (fun (r : ℕ) (i : Fin 1024) => rms (rowAt yp ys r) g i)
      (show 512 + a.val = 512 + 1 * a.val by omega) (Fin.ext (show j.val = 0 + 1 * j.val by omega))
  · obtain ⟨a, j, rfl⟩ : ∃ (a : Fin 512) (j : Fin 1024), z = ix2 a j := ⟨_, _, eq_ix2 z⟩
    refine (hp a j).trans ?_
    rw [← rowAt_prompt yp ys]
    exact congrArg₂ (fun (r : ℕ) (i : Fin 1024) => rms (rowAt yp ys r) g i)
      (show a.val = 0 + 1 * a.val by omega) (Fin.ext (show j.val = 0 + 1 * j.val by omega))

/-! ## The hidden units -/

/-- The hidden units of the normed rows `xn`. -/
def hidBlk : Vec Ideal S528x2816 .bf16 := fun y => hid (fun j => xn (ix2 (y 0) j)) (wUp u) (y 1)

theorem group_apply (wa wb : Vec Ideal S1x1x1024x256 .bf16) (r : Fin 528) (k : Fin 256) :
    k0_pay7 xn wa wb (ix2 r k)
      = silu (∑ j : Fin 1024, xn (ix2 r j) * wa (ix4 0 0 j k)) * ∑ j : Fin 1024, xn (ix2 r j) * wb (ix4 0 0 j k) := by
  unfold k0_pay7; rw [← silu_word]; pointwise [neg_log2e]; rfl

theorem up_inb (o : ℕ) (ho : o + 256 ≤ 5632) : ∀ a, (![0, 0, 0, o] : Fin 4 → ℕ) a + (![1, 1, 1024, 256] : Fin 4 → ℕ) a ≤ S1x1x1024x5632.size a
  | 0 => (by decide : 0 + 1 ≤ 1)
  | 1 => (by decide : 0 + 1 ≤ 1)
  | 2 => (by decide : 0 + 1024 ≤ 1024)
  | 3 => ho

/-- 256 columns of the up-projection, from column `o`. -/
theorem ld_up (o : ℕ) (ho : o + 256 ≤ 5632) (hb) (j : Fin 1024) (k : Fin 256) :
    View.ld u (Rect.unit (s := S1x1x1024x5632) ![0, 0, 0, o] ![1, 1, 1024, 256] hb) (ix4 0 0 j k) = wUp u j ⟨o + k.val, by omega⟩ := by
  refine congrArg u (funext fun a => Fin.ext ?_)
  match a with
  | 0 => rfl
  | 1 => rfl
  | 2 => show 0 + 1 * j.val = j.val; omega
  | 3 => show o + 1 * k.val = o + k.val; omega

theorem hid_inb (n : ℕ) (hn : n < 11) : ∀ a, (![0, n * 256] : Fin 2 → ℕ) a + (![528, 256] : Fin 2 → ℕ) a ≤ S528x2816.size a
  | 0 => (by decide : 0 + 528 ≤ 528)
  | 1 => show n * 256 + 256 ≤ 2816 by omega

/-- One group of hidden units, as the point stores it. -/
def group (n : ℕ) (hn : n < 11) : View.Piece (Elt Ideal) S528x2816 .bf16 :=
  ⟨Rect.unit ![0, n * 256] ![528, 256] (hid_inb n hn),
    k0_pay7 xn
      (View.ld u (Rect.unit (s := S1x1x1024x5632) ![0, 0, 0, n * 256] ![1, 1, 1024, 256] (up_inb _ (by omega))))
      (View.ld u (Rect.unit (s := S1x1x1024x5632) ![0, 0, 0, 2816 + n * 256] ![1, 1, 1024, 256] (up_inb _ (by omega))))⟩

theorem group_hid (n : ℕ) (hn : n < 11) (z : (group xn u n hn).1.shape.Idx) : (group xn u n hn).2 z = hidBlk xn u ((group xn u n hn).1.emb z) := by
  obtain ⟨r, k, rfl⟩ : ∃ (r : Fin 528) (k : Fin 256), z = ix2 r k := ⟨_, _, eq_ix2 z⟩
  refine (group_apply _ _ _ r k).trans ?_
  simp only [ld_up u (n * 256) (by omega), ld_up u (2816 + n * 256) (by omega)]
  have hr : (group xn u n hn).1.emb (ix2 r k) = ix2 r (⟨n * 256 + k.val, by omega⟩ : Fin 2816) := by
    funext a
    match a with
    | 0 => exact Fin.ext (show 0 + 1 * r.val = r.val by omega)
    | 1 => exact Fin.ext (show n * 256 + 1 * k.val = n * 256 + k.val by omega)
  rw [hr]
  unfold hidBlk hid
  refine congrArg₂ (fun a b : EReal => silu a * b) rfl (Finset.sum_congr rfl fun j _ => ?_)
  exact congrArg (fun i : Fin 5632 => xn (ix2 r j) * wUp u j i)
    (Fin.ext (show 2816 + n * 256 + k.val = 2816 + (n * 256 + k.val) by omega))

theorem hid_read {s : RefSig} (v : View s .tc .vmem S528x2816 .bf16) :
    v.readCov (Val := Elt Ideal) [group xn u 10 (by decide), group xn u 9 (by decide), group xn u 8 (by decide),
        group xn u 7 (by decide), group xn u 6 (by decide), group xn u 5 (by decide), group xn u 4 (by decide),
        group xn u 3 (by decide), group xn u 2 (by decide), group xn u 1 (by decide), group xn u 0 (by decide)]
      (Rect.unit ![0, 0] ![528, 2816] inb_S528x2816_S528x2816_0_0).toLoadRect = hidBlk xn u := by
  refine read_back v (hidBlk xn u) _ inb_S528x2816_S528x2816_0_0 ?_ fun y => View.cover_of_tiledL _ (![528, 256] : Fin 2 → ℕ) (by rfl) y
  simp only [List.forall_mem_cons]
  exact ⟨group_hid xn u _ _, group_hid xn u _ _, group_hid xn u _ _, group_hid xn u _ _, group_hid xn u _ _, group_hid xn u _ _,
    group_hid xn u _ _, group_hid xn u _ _, group_hid xn u _ _, group_hid xn u _ _, group_hid xn u _ _, fun p hp => absurd hp List.not_mem_nil⟩

/-! ## The rows after the half step -/

/-- The prompt rows, with the down-projection of the hidden units, are the rows after the half step. -/
theorem step_prompt (a : Fin 512) (j : Fin 1024) :
    yp a j + Ideal.ofBits FTy.f32 0x3F000000#32 * ∑ k : Fin 2816, hidBlk (normBlk yp ys g) u (ix2 (⟨a.val, by omega⟩ : Fin 528) k) * wDown d k j
      = step (yp a) g (wUp u) (wDown d) j := by
  rw [← rowAt_prompt yp ys a]; rfl
theorem step_sample (a : Fin 16) (j : Fin 1024) :
    ys a j + Ideal.ofBits FTy.f32 0x3F000000#32 * ∑ k : Fin 2816, hidBlk (normBlk yp ys g) u (ix2 (⟨512 + a.val, by omega⟩ : Fin 528) k) * wDown d k j
      = step (ys a) g (wUp u) (wDown d) j := by
  rw [← rowAt_sample yp ys a]; rfl

end Cert.Net.Half

end
-- ==== Proof.TailPoint.lean ====
module

public import proofs.«01_k».proof.Proof.Half

@[expose] public section

/-! What one grid point of the trunk's end leaves in its blocks: every row with its mixer's projection added, after its half step
    and the final norm. -/

set_option maxRecDepth 16384

noncomputable section

namespace Cert.Net.Tail

open Idealize.ShloMosaic Idealize.ShloMosaic.TcCoe Idealize.ShloMosaic.Tactic Cert.TailIdeal Cert.TailIdeal.Gen Cert.Net.Half

variable (c : Dev nD) (x0 : Vec Ideal S512x1024 .f32) (x1 : Vec Ideal S16x1024 .f32) (x2 : Vec Ideal S512x1024 .bf16) (x3 : Vec Ideal S16x1024 .bf16)
  (x4 : Vec Ideal S1x1024x1024 .bf16) (x5 : Vec Ideal S1x1x1x1024 .f32) (x6 : Vec Ideal S1x1x1024x5632 .bf16) (x7 : Vec Ideal S1x1x2816x1024 .bf16)
  (x8 : Vec Ideal S1x1024 .f32)

/-- The output projection and the final gains, by their coordinates. -/
def wOut (k j : Fin 1024) : EReal := x4 (ix3 0 k j)
def last (j : Fin 1024) : EReal := x8 (ix2 0 j)

/-- The rows with their mixers' projections. -/
def yp (a : Fin 512) : Fin 1024 → EReal := mixed (fun i => x0 (ix2 a i)) (fun k => x2 (ix2 a k)) (wOut x4)
def ys (a : Fin 16) : Fin 1024 → EReal := mixed (fun i => x1 (ix2 a i)) (fun k => x3 (ix2 a k)) (wOut x4)

theorem row_prompt (a : Fin 512) (j : Fin 1024) :
    k0_pay1 x2 x0 x4 (ix2 a j) = yp x0 x2 x4 a j := by
  unfold k0_pay1 yp mixed wOut; pointwise
theorem row_sample (a : Fin 16) (j : Fin 1024) :
    k0_pay2 x3 x1 x4 (ix2 a j) = ys x1 x3 x4 a j := by
  unfold k0_pay2 ys mixed wOut; pointwise

theorem norm_prompt (a : Fin 512) (j : Fin 1024) :
    k0_pay3 x2 x0 x4 x5 (ix2 a j) = rms (fun i => k0_pay1 x2 x0 x4 (ix2 a i)) (gain x5) j := by
  unfold k0_pay3; generalize k0_pay1 x2 x0 x4 = y; unfold rms gain; pointwise
theorem norm_sample (y : Vec Ideal S16x1024 .f32) (a : Fin 16) (j : Fin 1024) :
    k0_pay4 y x5 (ix2 a j) = rms (fun i => y (ix2 a i)) (gain x5) j := by
  unfold k0_pay4 rms gain; pointwise

theorem norm_blk (v : View sig .tc .vmem S528x1024 .bf16) :
    v.readCov (Val := Elt Ideal) [⟨Rect.unit ![512, 0] ![16, 1024] inb_S528x1024_S16x1024_512_0, k0_pay4 (k0_pay2 x3 x1 x4) x5⟩,
        ⟨Rect.unit ![0, 0] ![512, 1024] inb_S528x1024_S512x1024_0_0, k0_pay3 x2 x0 x4 x5⟩]
      (Rect.unit ![0, 0] ![528, 1024] inb_S528x1024_S528x1024_0_0).toLoadRect = normBlk (yp x0 x2 x4) (ys x1 x3 x4) (gain x5) := by
  refine norm_read _ _ _ _ _ (fun a j => ?_) (fun a j => ?_) v
  · refine (norm_prompt x0 x2 x4 x5 a j).trans ?_
    simp only [row_prompt]
  · refine (norm_sample x5 _ a j).trans ?_
    simp only [row_sample]

theorem out_prompt (y : Vec Ideal S512x1024 .f32) (h : Vec Ideal S528x2816 .bf16) (a : Fin 512) (j : Fin 1024) :
    k0_pay27 y h x7 x8 (ix2 a j)
      = rms (fun i => y (ix2 a i) + Ideal.ofBits FTy.f32 0x3F000000#32 * ∑ k : Fin 2816, h (ix2 (⟨a.val, by omega⟩ : Fin 528) k) * wDown x7 k i) (last x8) j := by
  unfold k0_pay27 k0_pay26 rms wDown last; pointwise
theorem out_sample (y : Vec Ideal S16x1024 .f32) (h : Vec Ideal S528x2816 .bf16) (a : Fin 16) (j : Fin 1024) :
    k0_pay28 y h x7 x8 (ix2 a j)
      = rms (fun i => y (ix2 a i) + Ideal.ofBits FTy.f32 0x3F000000#32 * ∑ k : Fin 2816, h (ix2 (⟨512 + a.val, by omega⟩ : Fin 528) k) * wDown x7 k i) (last x8) j := by
  unfold k0_pay28 k0_pay26 rms wDown last; pointwise

/-! ## The stages as the kernel names them -/

section Stages
variable (xn : Vec Ideal S528x1024 .bf16) (wa wb : Vec Ideal S1x1x1024x256 .bf16)

theorem stage_0 : k0_pay6 (k0_pay5 xn wa wb) = k0_pay7 xn wa wb := rfl
theorem stage_2 : k0_pay12 (k0_pay8 xn wa) (k0_pay9 xn wb) (k0_pay10 xn wa) (k0_pay11) = k0_pay7 xn wa wb := rfl
theorem stage_3 : k0_pay13 xn wa wb = k0_pay7 xn wa wb := rfl
theorem stage_4 : k0_pay15 xn (k0_pay14 xn wa) wb = k0_pay7 xn wa wb := rfl
theorem stage_5 : k0_pay16 xn wa wb = k0_pay7 xn wa wb := rfl
theorem stage_6 : k0_pay17 xn wa wb = k0_pay7 xn wa wb := rfl
theorem stage_7 : k0_pay20 (k0_pay18 xn wb) (k0_pay19 xn wa) = k0_pay7 xn wa wb := rfl
theorem stage_8 : k0_pay21 xn wa wb = k0_pay7 xn wa wb := rfl
theorem stage_9 : k0_pay24 (k0_pay22 xn wa) (k0_pay23 xn wb) (Named.named (F := Ideal) Cert.TailIdeal.κ "neg_log2e" (φ := .f32) 0xBFB8AA3B#32) = k0_pay7 xn wa wb := rfl
theorem stage_10 : k0_pay25 xn wa wb = k0_pay7 xn wa wb := rfl

end Stages

/-! ## The output blocks -/

theorem point_prompt (t : Fin cfg0.N) (a : Fin 512) (j : Fin 1024) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t)
      scM0_0 (Memref.isWhole_whole _) scM0_1 (Memref.isWhole_whole _) x0 x1 x2 x3 x4 x5 x6 x7 x8 (ix2 a j)
      = rms (step (yp x0 x2 x4 a) (gain x5) (wUp x6) (wDown x7)) (last x8) j := by
  frame_open
  simp (disch := decide) only [↓ View.readCov_skip, ↓ View.readCov_cons_toLoadRect, ↓ View.readCov_fill, stage_0, stage_2, stage_3, stage_4, stage_5, stage_6, stage_7, stage_8, stage_9, stage_10, norm_blk]
  frame_out
  refine (congrArg (fun h => k0_pay27 (k0_pay1 x2 x0 x4) h x7 x8 (ix2 a j)) (hid_read (normBlk (yp x0 x2 x4) (ys x1 x3 x4) (gain x5)) x6 _)).trans ?_
  refine (out_prompt x7 x8 _ _ a j).trans ?_
  simp only [row_prompt]
  exact congrArg (fun y => rms y (last x8) j) (funext fun i => step_prompt (yp x0 x2 x4) (ys x1 x3 x4) (gain x5) x6 x7 a i)

theorem point_sample (t : Fin cfg0.N) (a : Fin 16) (j : Fin 1024) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t)
      scM0_0 (Memref.isWhole_whole _) scM0_1 (Memref.isWhole_whole _) x0 x1 x2 x3 x4 x5 x6 x7 x8 (ix2 a j)
      = rms (step (ys x1 x3 x4 a) (gain x5) (wUp x6) (wDown x7)) (last x8) j := by
  frame_open
  simp (disch := decide) only [↓ View.readCov_skip, ↓ View.readCov_cons_toLoadRect, ↓ View.readCov_fill, stage_0, stage_2, stage_3, stage_4, stage_5, stage_6, stage_7, stage_8, stage_9, stage_10, norm_blk]
  frame_out
  refine (congrArg (fun h => k0_pay28 (k0_pay2 x3 x1 x4) h x7 x8 (ix2 a j)) (hid_read (normBlk (yp x0 x2 x4) (ys x1 x3 x4) (gain x5)) x6 _)).trans ?_
  refine (out_sample x7 x8 _ _ a j).trans ?_
  simp only [row_sample]
  exact congrArg (fun y => rms y (last x8) j) (funext fun i => step_sample (yp x0 x2 x4) (ys x1 x3 x4) (gain x5) x6 x7 a i)

end Cert.Net.Tail

end
-- ==== Proof.TailArray.lean ====
module

public import proofs.«01_k».proof.Proof.TailPoint
public import proofs.«01_k».proof.Proof.Gen.TailIdeal.Value
public import Idealize.ShloMosaic.Lib.Pipeline.ValueKit.Partial
public import Idealize.ShloMosaic.Lib.StableHlo.ReadAt

@[expose] public section

/-! The two arrays of the trunk's end after the run. -/

set_option maxRecDepth 16384

noncomputable section

namespace Cert.Net.Tail

open Idealize.ShloMosaic Idealize.ShloMosaic.TcCoe Idealize.ShloMosaic.Tactic Cert.TailIdeal Cert.TailIdeal.Gen Cert.Net.Half

variable (m : (ℓ : Loc nD τ sig) → Buf (Elt Ideal) ℓ) (c : Dev nD)

/-- The arguments, as launched. -/
abbrev aXp : S16384x1024.Idx → EReal := m ((c : Thread nD τ).loc main_arg0)
abbrev aXs : S512x1024.Idx → EReal := m ((c : Thread nD τ).loc main_arg1)
abbrev aOp : S16384x1024.Idx → EReal := m ((c : Thread nD τ).loc main_arg2)
abbrev aOs : S512x1024.Idx → EReal := m ((c : Thread nD τ).loc main_arg3)
abbrev aOut : S2x1024x1024.Idx → EReal := m ((c : Thread nD τ).loc main_arg4)
abbrev aGain : S4x3x1024.Idx → EReal := m ((c : Thread nD τ).loc main_arg5)
abbrev aUp : S4x2x1024x5632.Idx → EReal := m ((c : Thread nD τ).loc main_arg6)
abbrev aDown : S4x2x2816x1024.Idx → EReal := m ((c : Thread nD τ).loc main_arg7)
abbrev aLast : S1024.Idx → EReal := m ((c : Thread nD τ).loc main_arg8)

theorem idx_0 (t : Fin cfg0.N) : win0_0.index t = ![t.val, 0] := by revert t; decide +kernel
theorem idx_1 (t : Fin cfg0.N) : win0_1.index t = ![t.val, 0] := by revert t; decide +kernel
theorem idx_2 (t : Fin cfg0.N) : win0_2.index t = ![t.val, 0] := by revert t; decide +kernel
theorem idx_3 (t : Fin cfg0.N) : win0_3.index t = ![t.val, 0] := by revert t; decide +kernel
theorem idx_4 (t : Fin cfg0.N) : win0_4.index t = ![1, 0, 0] := by revert t; decide +kernel
theorem idx_5 (t : Fin cfg0.N) : win0_5.index t = ![3, 2, 0, 0] := by revert t; decide +kernel
theorem idx_6 (t : Fin cfg0.N) : win0_6.index t = ![3, 1, 0, 0] := by revert t; decide +kernel
theorem idx_7 (t : Fin cfg0.N) : win0_7.index t = ![3, 1, 0, 0] := by revert t; decide +kernel
theorem idx_8 (t : Fin cfg0.N) : win0_8.index t = ![0, 0] := by revert t; decide +kernel
theorem idx_9 (t : Fin cfg0.N) : win0_9.index t = ![t.val, 0] := by revert t; decide +kernel
theorem idx_10 (t : Fin cfg0.N) : win0_10.index t = ![t.val, 0] := by revert t; decide +kernel

theorem iblk_0 (t : Fin cfg0.N) (a : Fin 512) (b : Fin 1024) :
    iblk m c 0 t (ix2 a b) = aXp m c (ix2 (⟨t.val * 512 + a.val, by have hN : t.val < 32 := t.isLt; omega⟩ : Fin 16384) b) := by
  have hN : t.val < 32 := t.isLt
  blk_ext [iblk, V_main_arg0, idx_0 t]
theorem iblk_1 (t : Fin cfg0.N) (a : Fin 16) (b : Fin 1024) :
    iblk m c 1 t (ix2 a b) = aXs m c (ix2 (⟨t.val * 16 + a.val, by have hN : t.val < 32 := t.isLt; omega⟩ : Fin 512) b) := by
  have hN : t.val < 32 := t.isLt
  blk_ext [iblk, V_main_arg1, idx_1 t]
theorem iblk_2 (t : Fin cfg0.N) (a : Fin 512) (b : Fin 1024) :
    iblk m c 2 t (ix2 a b) = aOp m c (ix2 (⟨t.val * 512 + a.val, by have hN : t.val < 32 := t.isLt; omega⟩ : Fin 16384) b) := by
  have hN : t.val < 32 := t.isLt
  blk_ext [iblk, V_main_arg2, idx_2 t]
theorem iblk_3 (t : Fin cfg0.N) (a : Fin 16) (b : Fin 1024) :
    iblk m c 3 t (ix2 a b) = aOs m c (ix2 (⟨t.val * 16 + a.val, by have hN : t.val < 32 := t.isLt; omega⟩ : Fin 512) b) := by
  have hN : t.val < 32 := t.isLt
  blk_ext [iblk, V_main_arg3, idx_3 t]
theorem out_blk (t : Fin cfg0.N) : wOut (iblk m c 4 t) = outOf (aOut m c) 1 := by
  have e : ∀ k j, iblk m c 4 t (ix3 0 k j) = V m c main_v2 (ix3 1 k j) := fun k j => by blk_ext [iblk, idx_4 t]
  funext k j
  refine (e k j).trans ?_
  unfold V
  after_reads_at
  rfl
theorem gain_blk (t : Fin cfg0.N) : gain (iblk m c 5 t) = gainOf (aGain m c) 3 2 := by
  have e : ∀ j, iblk m c 5 t (ix4 0 0 0 j) = V m c main_v3 (ix4 3 2 0 j) := fun j => by blk_ext [iblk, idx_5 t]
  funext j
  refine (e j).trans ?_
  unfold V
  after_reads_at
  unfold gainOf
  pointwise
theorem up_blk (t : Fin cfg0.N) : wUp (iblk m c 6 t) = upOf (aUp m c) 3 1 := by
  have e : ∀ j k, iblk m c 6 t (ix4 0 0 j k) = V m c main_v0 (ix4 3 1 j k) := fun j k => by blk_ext [iblk, idx_6 t]
  funext j k
  refine (e j k).trans ?_
  unfold V
  after_reads_at
  rfl
theorem down_blk (t : Fin cfg0.N) : wDown (iblk m c 7 t) = downOf (aDown m c) 3 1 := by
  have e : ∀ j k, iblk m c 7 t (ix4 0 0 j k) = V m c main_v1 (ix4 3 1 j k) := fun j k => by blk_ext [iblk, idx_7 t]
  funext j k
  refine (e j k).trans ?_
  unfold V
  after_reads_at
  rfl
theorem last_blk (t : Fin cfg0.N) : last (iblk m c 8 t) = lastOf (aLast m c) := by
  have e : ∀ j, iblk m c 8 t (ix2 0 j) = V m c main_v4 (ix2 0 j) := fun j => by blk_ext [iblk, idx_8 t]
  funext j
  refine (e j).trans ?_
  unfold V
  after_reads_at
  unfold lastOf
  pointwise

/-- The rows of `X`, with the mixer's outputs `O`, at the end of the trunk. -/
def endArr {n : ℕ} (X O : (⟨2, ![n, 1024]⟩ : Shape).Idx → EReal) (i : (⟨2, ![n, 1024]⟩ : Shape).Idx) : EReal :=
  rms (step (mixed (fun e => X (ix2 (i 0) e)) (fun k => O (ix2 (i 0) k)) (outOf (aOut m c) 1))
    (gainOf (aGain m c) 3 2) (upOf (aUp m c) 3 1) (downOf (aDown m c) 3 1)) (lastOf (aLast m c)) (i 1)

theorem arr9 : (dats m 0 c).arrAt 9 cfg0.N = endArr m c (aXp m c) (aOp m c) := by
  refine (dats m 0 c).arrAt_eq_of_covers 9 _ (by decide +kernel) fun t hf y => ?_
  have hN : t.val < 32 := t.isLt
  obtain ⟨a, j, rfl⟩ : ∃ (a : Fin 512) (j : Fin 1024), y = ix2 a j := ⟨_, _, eq_ix2 y⟩
  have e : ((cfg0.win 9).blk t).view.emb (ix2 a j) = ix2 (⟨t.val * 512 + a.val, by omega⟩ : Fin 16384) j := by
    blk_ext [idx_9 t]
  rw [e]
  blk_simp
  rw [after0_9]
  simp only [outsAt0]
  refine (point_prompt c _ _ _ _ _ _ _ _ _ t a j).trans ?_
  unfold yp
  rw [out_blk, gain_blk, up_blk, down_blk, last_blk]
  simp only [iblk_0, iblk_2]
  rfl

theorem arr10 : (dats m 0 c).arrAt 10 cfg0.N = endArr m c (aXs m c) (aOs m c) := by
  refine (dats m 0 c).arrAt_eq_of_covers 10 _ (by decide +kernel) fun t hf y => ?_
  have hN : t.val < 32 := t.isLt
  obtain ⟨a, j, rfl⟩ : ∃ (a : Fin 16) (j : Fin 1024), y = ix2 a j := ⟨_, _, eq_ix2 y⟩
  have e : ((cfg0.win 10).blk t).view.emb (ix2 a j) = ix2 (⟨t.val * 16 + a.val, by omega⟩ : Fin 512) j := by
    blk_ext [idx_10 t]
  rw [e]
  blk_simp
  rw [after0_10]
  simp only [outsAt0]
  refine (point_sample c _ _ _ _ _ _ _ _ _ t a j).trans ?_
  unfold ys
  rw [out_blk, gain_blk, up_blk, down_blk, last_blk]
  simp only [iblk_1, iblk_3]
  rfl

end Cert.Net.Tail

end
-- ==== Proof.TailRef.lean ====
module

public import proofs.«01_k».proof.Proof.Net
public import proofs.«01_k».proof.Proof.Gen.TailRefIdeal.Read
public import Idealize.ShloMosaic.Lib.Pointwise

@[expose] public section

/-! The reference of the trunk's end, read row by row. -/

set_option maxRecDepth 16384

noncomputable section

namespace Cert.Net.TailRef

open Idealize.ShloMosaic Idealize.ShloMosaic.TcCoe Idealize.ShloMosaic.Tactic Cert.TailRefIdeal Cert.TailRefIdeal.Gen Cert.TailRefIdeal.Read

variable (x0 : (⟨2, ![16384, 1024]⟩ : Shape).Idx → EReal) (x1 : (⟨2, ![512, 1024]⟩ : Shape).Idx → EReal)
  (x2 : (⟨2, ![16384, 1024]⟩ : Shape).Idx → EReal) (x3 : (⟨2, ![512, 1024]⟩ : Shape).Idx → EReal) (x4 : (⟨3, ![2, 1024, 1024]⟩ : Shape).Idx → EReal)
  (x5 : (⟨3, ![4, 3, 1024]⟩ : Shape).Idx → EReal) (x6 : (⟨4, ![4, 2, 1024, 5632]⟩ : Shape).Idx → EReal) (x7 : (⟨4, ![4, 2, 2816, 1024]⟩ : Shape).Idx → EReal)
  (x8 : (⟨1, ![1024]⟩ : Shape).Idx → EReal)

/-! ## The prompt -/

/-- A row with its mixer's projection. -/
def yp (a : Fin 16384) : Fin 1024 → EReal := mixed (fun e => x0 (ix2 a e)) (fun k => x2 (ix2 a k)) (outOf x4 1)

theorem m4 (a : Fin 16384) (j : Fin 1024) : val_main_v4 (F := Ideal) x0 x2 x4 (ix2 a j) = yp x0 x2 x4 a j := by
  rw [val_main_v4_apply, val_main_v3_apply]
  refine congrArg (fun z : EReal => x0 (ix2 a j) + z) (Finset.sum_congr rfl fun k _ => congrArg₂ (fun y z : EReal => y * z) ?_ ?_)
  · rw [val_main_v0_apply]
    exact congrArg x2 (funext fun b => match b with | 0 => rfl | 1 => rfl)
  · rw [val_main_v2_apply, val_main_v1_apply]
    refine congrArg x4 (funext fun b => Fin.ext ?_)
    match b with
    | 0 => rfl
    | 1 => exact mat_row k j
    | 2 => exact mat_col k j

theorem n19 (a : Fin 16384) (j : Fin 1024) : val_main_v19 (F := Ideal) x0 x2 x4 x5 (ix2 a j) = rms (yp x0 x2 x4 a) (gainOf x5 3 2) j := by
  have e1 : ∀ x, idx_main_v8 (idx_main_v9 (idx_main_v15 (ix2 a j))) x = ix2 a x := fun x => funext fun b => match b with | 0 => rfl | 1 => rfl
  have e2 : idx_main_v5 (idx_main_v6 (idx_main_v17 (idx_main_v18 (ix2 a j)))) = ix3 3 2 j :=
    funext fun b => match b with | 0 => rfl | 1 => rfl | 2 => Fin.ext (Nat.mod_eq_of_lt j.isLt)
  simp only [val_main_v19_apply, val_main_v16_apply, val_main_v15_apply, val_main_v14_apply, val_main_v13_apply, val_main_v11_apply, val_main_v9_apply,
    val_main_v8_apply, val_main_v7_apply, val_main_v10_apply, val_main_v12_apply, val_main_v18_apply, val_main_v17_apply, val_main_v6_apply, val_main_v5_apply,
    val_main_cst_apply, val_main_cst_0_apply, val_main_cst_1_apply, Retention.f32_0, EReal.coe_zero, zero_add, e1, e2, m4]
  rfl

theorem u24 (a : Fin 16384) (k : Fin 5632) :
    val_main_v24 (F := Ideal) x0 x2 x4 x5 x6 (ix2 a k) = ∑ j, rms (yp x0 x2 x4 a) (gainOf x5 3 2) j * upOf x6 3 1 j k := by
  rw [val_main_v24_apply]
  refine Finset.sum_congr rfl fun j _ => congrArg₂ (fun y z : EReal => y * z) ?_ ?_
  · refine Eq.trans (congrArg _ ?_) (n19 x0 x2 x4 x5 a j)
    exact funext fun b => match b with | 0 => rfl | 1 => rfl
  · rw [val_main_v21_apply, val_main_v20_apply]
    refine congrArg x6 (funext fun b => Fin.ext ?_)
    match b with
    | 0 => rfl
    | 1 => rfl
    | 2 => exact mat_row j k
    | 3 => exact mat_col j k

theorem h28 (a : Fin 16384) (k : Fin 2816) :
    val_main_v28 (F := Ideal) x0 x2 x4 x5 x6 (ix2 a k) = hid (rms (yp x0 x2 x4 a) (gainOf x5 3 2)) (upOf x6 3 1) k := by
  have e1 : idx_main_v25 (ix2 a k) = ix2 a (⟨k.val, by omega⟩ : Fin 5632) := funext fun b => match b with | 0 => rfl | 1 => rfl
  have e2 : idx_main_v26 (ix2 a k) = ix2 a (⟨2816 + k.val, by omega⟩ : Fin 5632) := funext fun b => match b with | 0 => rfl | 1 => rfl
  simp only [val_main_v28_apply, val_main_v27_apply, val_main_v26_apply, val_main_v25_apply, val_main_call0_v5_apply, val_main_call0_v4_apply, val_main_call0_v3_apply,
    val_main_call0_v2_apply, val_main_call0_v1_apply, val_main_call0_v0_apply, val_main_call0_cst_apply, val_main_call0_cst_0_apply, e1, e2, u24, Retention.f32_1]
  rfl

theorem s32 (a : Fin 16384) (j : Fin 1024) :
    val_main_v32 (F := Ideal) x0 x2 x4 x5 x6 x7 (ix2 a j) = step (yp x0 x2 x4 a) (gainOf x5 3 2) (upOf x6 3 1) (downOf x7 3 1) j := by
  simp only [val_main_v32_apply, val_main_v31_apply, val_main_v30_apply, val_main_cst_2_apply, val_main_v29_apply, m4]
  refine congrArg (fun z : EReal => yp x0 x2 x4 a j + Ideal.ofBits FTy.f32 0x3F000000#32 * z) (Finset.sum_congr rfl fun k _ => congrArg₂ (fun y z : EReal => y * z) ?_ ?_)
  · refine Eq.trans (congrArg _ ?_) (h28 x0 x2 x4 x5 x6 a k)
    exact funext fun b => match b with | 0 => rfl | 1 => rfl
  · rw [val_main_v23_apply, val_main_v22_apply]
    refine congrArg x7 (funext fun b => Fin.ext ?_)
    match b with
    | 0 => rfl
    | 1 => rfl
    | 2 => exact mat_row k j
    | 3 => exact mat_col k j

theorem r45 (a : Fin 16384) (j : Fin 1024) :
    val_main_v45 (F := Ideal) x0 x2 x4 x5 x6 x7 x8 (ix2 a j)
      = rms (step (yp x0 x2 x4 a) (gainOf x5 3 2) (upOf x6 3 1) (downOf x7 3 1)) (lastOf x8) j := by
  have e1 : ∀ x, idx_main_v34 (idx_main_v35 (idx_main_v41 (ix2 a j))) x = ix2 a x := fun x => funext fun b => match b with | 0 => rfl | 1 => rfl
  have e2 : idx_main_v43 (idx_main_v44 (ix2 a j)) = ix1 j := funext fun b => match b with | 0 => rfl
  simp only [val_main_v45_apply, val_main_v42_apply, val_main_v41_apply, val_main_v40_apply, val_main_v39_apply, val_main_v37_apply, val_main_v35_apply,
    val_main_v34_apply, val_main_v33_apply, val_main_v36_apply, val_main_v38_apply, val_main_v44_apply, val_main_v43_apply,
    val_main_cst_3_apply, val_main_cst_4_apply, val_main_cst_5_apply, Retention.f32_0, EReal.coe_zero, zero_add, e1, e2, s32]
  rfl

/-! ## The sample -/

/-- A row with its mixer's projection. -/
def ys (a : Fin 512) : Fin 1024 → EReal := mixed (fun e => x1 (ix2 a e)) (fun k => x3 (ix2 a k)) (outOf x4 1)

theorem m50 (a : Fin 512) (j : Fin 1024) : val_main_v50 (F := Ideal) x1 x3 x4 (ix2 a j) = ys x1 x3 x4 a j := by
  rw [val_main_v50_apply, val_main_v49_apply]
  refine congrArg (fun z : EReal => x1 (ix2 a j) + z) (Finset.sum_congr rfl fun k _ => congrArg₂ (fun y z : EReal => y * z) ?_ ?_)
  · rw [val_main_v46_apply]
    exact congrArg x3 (funext fun b => match b with | 0 => rfl | 1 => rfl)
  · rw [val_main_v48_apply, val_main_v47_apply]
    refine congrArg x4 (funext fun b => Fin.ext ?_)
    match b with
    | 0 => rfl
    | 1 => exact mat_row k j
    | 2 => exact mat_col k j

theorem n65 (a : Fin 512) (j : Fin 1024) : val_main_v65 (F := Ideal) x1 x3 x4 x5 (ix2 a j) = rms (ys x1 x3 x4 a) (gainOf x5 3 2) j := by
  have e1 : ∀ x, idx_main_v54 (idx_main_v55 (idx_main_v61 (ix2 a j))) x = ix2 a x := fun x => funext fun b => match b with | 0 => rfl | 1 => rfl
  have e2 : idx_main_v51 (idx_main_v52 (idx_main_v63 (idx_main_v64 (ix2 a j)))) = ix3 3 2 j :=
    funext fun b => match b with | 0 => rfl | 1 => rfl | 2 => Fin.ext (Nat.mod_eq_of_lt j.isLt)
  simp only [val_main_v65_apply, val_main_v62_apply, val_main_v61_apply, val_main_v60_apply, val_main_v59_apply, val_main_v57_apply, val_main_v55_apply,
    val_main_v54_apply, val_main_v53_apply, val_main_v56_apply, val_main_v58_apply, val_main_v64_apply, val_main_v63_apply, val_main_v52_apply, val_main_v51_apply,
    val_main_cst_6_apply, val_main_cst_7_apply, val_main_cst_8_apply, Retention.f32_0, EReal.coe_zero, zero_add, e1, e2, m50]
  rfl

theorem u70 (a : Fin 512) (k : Fin 5632) :
    val_main_v70 (F := Ideal) x1 x3 x4 x5 x6 (ix2 a k) = ∑ j, rms (ys x1 x3 x4 a) (gainOf x5 3 2) j * upOf x6 3 1 j k := by
  rw [val_main_v70_apply]
  refine Finset.sum_congr rfl fun j _ => congrArg₂ (fun y z : EReal => y * z) ?_ ?_
  · refine Eq.trans (congrArg _ ?_) (n65 x1 x3 x4 x5 a j)
    exact funext fun b => match b with | 0 => rfl | 1 => rfl
  · rw [val_main_v67_apply, val_main_v66_apply]
    refine congrArg x6 (funext fun b => Fin.ext ?_)
    match b with
    | 0 => rfl
    | 1 => rfl
    | 2 => exact mat_row j k
    | 3 => exact mat_col j k

theorem h74 (a : Fin 512) (k : Fin 2816) :
    val_main_v74 (F := Ideal) x1 x3 x4 x5 x6 (ix2 a k) = hid (rms (ys x1 x3 x4 a) (gainOf x5 3 2)) (upOf x6 3 1) k := by
  have e1 : idx_main_v71 (ix2 a k) = ix2 a (⟨k.val, by omega⟩ : Fin 5632) := funext fun b => match b with | 0 => rfl | 1 => rfl
  have e2 : idx_main_v72 (ix2 a k) = ix2 a (⟨2816 + k.val, by omega⟩ : Fin 5632) := funext fun b => match b with | 0 => rfl | 1 => rfl
  simp only [val_main_v74_apply, val_main_v73_apply, val_main_v72_apply, val_main_v71_apply, val_main_call1_v5_apply, val_main_call1_v4_apply, val_main_call1_v3_apply,
    val_main_call1_v2_apply, val_main_call1_v1_apply, val_main_call1_v0_apply, val_main_call1_cst_apply, val_main_call1_cst_0_apply, e1, e2, u70, Retention.f32_1]
  rfl

theorem s78 (a : Fin 512) (j : Fin 1024) :
    val_main_v78 (F := Ideal) x1 x3 x4 x5 x6 x7 (ix2 a j) = step (ys x1 x3 x4 a) (gainOf x5 3 2) (upOf x6 3 1) (downOf x7 3 1) j := by
  simp only [val_main_v78_apply, val_main_v77_apply, val_main_v76_apply, val_main_cst_9_apply, val_main_v75_apply, m50]
  refine congrArg (fun z : EReal => ys x1 x3 x4 a j + Ideal.ofBits FTy.f32 0x3F000000#32 * z) (Finset.sum_congr rfl fun k _ => congrArg₂ (fun y z : EReal => y * z) ?_ ?_)
  · refine Eq.trans (congrArg _ ?_) (h74 x1 x3 x4 x5 x6 a k)
    exact funext fun b => match b with | 0 => rfl | 1 => rfl
  · rw [val_main_v69_apply, val_main_v68_apply]
    refine congrArg x7 (funext fun b => Fin.ext ?_)
    match b with
    | 0 => rfl
    | 1 => rfl
    | 2 => exact mat_row k j
    | 3 => exact mat_col k j

theorem r91 (a : Fin 512) (j : Fin 1024) :
    val_main_v91 (F := Ideal) x1 x3 x4 x5 x6 x7 x8 (ix2 a j)
      = rms (step (ys x1 x3 x4 a) (gainOf x5 3 2) (upOf x6 3 1) (downOf x7 3 1)) (lastOf x8) j := by
  have e1 : ∀ x, idx_main_v80 (idx_main_v81 (idx_main_v87 (ix2 a j))) x = ix2 a x := fun x => funext fun b => match b with | 0 => rfl | 1 => rfl
  have e2 : idx_main_v89 (idx_main_v90 (ix2 a j)) = ix1 j := funext fun b => match b with | 0 => rfl
  simp only [val_main_v91_apply, val_main_v88_apply, val_main_v87_apply, val_main_v86_apply, val_main_v85_apply, val_main_v83_apply, val_main_v81_apply,
    val_main_v80_apply, val_main_v79_apply, val_main_v82_apply, val_main_v84_apply, val_main_v90_apply, val_main_v89_apply,
    val_main_cst_10_apply, val_main_cst_11_apply, val_main_cst_12_apply, Retention.f32_0, EReal.coe_zero, zero_add, e1, e2, s78]
  rfl

end Cert.Net.TailRef

end
-- ==== Proof.TailEqual.lean ====
module

public import proofs.«01_k».proof.Defs
public import proofs.«01_k».proof.Proof.TailArray
public import proofs.«01_k».proof.Proof.TailRef
public import proofs.«01_k».proof.Proof.Gen.TailRefIdeal.Run
public import Idealize.ShloMosaic.Lib.Quiescent
public import Idealize.ShloMosaic.Lib.Claim

@[expose] public section

/-! The trunk's end: the kernel's two arrays are the reference's, and the reference runs. -/

set_option maxRecDepth 16384

noncomputable section

namespace Cert.Net.Tail

open Idealize.ShloMosaic Idealize.ShloMosaic.StableHlo Idealize.ShloMosaic.TcCoe Idealize.SL.Sem

/-- The reference runs, leaves its arguments, and declares no semaphore. -/
theorem frame_ref : Cert.quiescent_TailRefIdeal := fun m g _ =>
  (θ_run (Cert.TailRefIdeal.defs (F := Ideal)) _ _).mono
    (fun r h => ⟨fun c => (h c).2.2, Idealize.ShloMosaic.sem_eq_zero_of_no_sems (by decide) r.2⟩)
    (Cert.TailRefIdeal.Value.run (F := Ideal) m g)

theorem preserves : Cert.preserves_Tail_TailIdeal := IdealRules.named_const.statement _ _ _ _ _ rfl

theorem equal : Cert.algebraic_TailIdeal_TailRefIdeal := by
  intro m g m' g' _ hargs
  refine ⟨fun c => endArr m c (aXp m c) (aOp m c), fun c => endArr m c (aXs m c) (aOs m c), ?_, ?_⟩
  · refine (θ_run (Cert.TailIdeal.defs (F := Ideal)) _ _).mono (fun r h c => ?_) (Cert.TailIdeal.Value.run_blocks (F := Ideal) m g)
    obtain ⟨h0, h1, hrest⟩ := h c
    exact ⟨h0.trans (arr9 m c), h1.trans (arr10 m c), hrest⟩
  · refine (θ_run (Cert.TailRefIdeal.defs (F := Ideal)) _ _).mono (fun r h c => ?_) (Cert.TailRefIdeal.Value.run (F := Ideal) m' g')
    obtain ⟨a0, a1, a2, a3, a4, a5, a6, a7, a8⟩ := hargs c
    obtain ⟨h0, h1, hrest⟩ := h c
    refine ⟨?_, ?_, hrest⟩
    · refine (h0.trans (Cert.TailRefIdeal.Read.val_main_v45_eq m' c)).trans ?_
      rw [a0, a2, a4, a5, a6, a7, a8]
      funext i
      exact (congrArg _ (eq_ix2 i)).trans (TailRef.r45 (aXp m c) (aOp m c) (aOut m c) (aGain m c) (aUp m c) (aDown m c) (aLast m c) (i 0) (i 1))
    · refine (h1.trans (Cert.TailRefIdeal.Read.val_main_v91_eq m' c)).trans ?_
      rw [a1, a3, a4, a5, a6, a7, a8]
      funext i
      exact (congrArg _ (eq_ix2 i)).trans (TailRef.r91 (aXs m c) (aOs m c) (aOut m c) (aGain m c) (aUp m c) (aDown m c) (aLast m c) (i 0) (i 1))

end Cert.Net.Tail

end
-- ==== Proof.MixPoint.lean ====
module

public import proofs.«01_k».proof.Proof.Half
public import proofs.«01_k».proof.Proof.Gen.MixIdeal.Frame

@[expose] public section

/-! What one grid point of the end of a retention layer leaves in its blocks: every row with its gated mixer's projection added,
    after its half step. -/

set_option maxRecDepth 16384

noncomputable section

namespace Cert.Net.Gated

open Idealize.ShloMosaic Idealize.ShloMosaic.TcCoe Idealize.ShloMosaic.Tactic Cert.MixIdeal Cert.MixIdeal.Gen Cert.Net.Half

variable (c : Dev nD) (x0 : Vec Ideal S512x1024 .f32) (x1 : Vec Ideal S16x1024 .f32) (x2 : Vec Ideal S512x2048 .bf16) (x3 : Vec Ideal S16x2048 .bf16)
  (x4 : Vec Ideal S512x2048 .bf16) (x5 : Vec Ideal S16x2048 .bf16) (x6 : Vec Ideal S1x2048x1024 .bf16) (x7 : Vec Ideal S1x1x1x1024 .f32)
  (x8 : Vec Ideal S1x1x1024x5632 .bf16) (x9 : Vec Ideal S1x1x2816x1024 .bf16)

/-- The output projection, by its coordinates. -/
def wOut (k : Fin 2048) (j : Fin 1024) : EReal := x6 (ix3 0 k j)

/-- The rows with their gated mixers' projections. -/
def yp (a : Fin 512) : Fin 1024 → EReal := mixed (fun i => x0 (ix2 a i)) (fun k => x2 (ix2 a k) * x4 (ix2 a k)) (wOut x6)
def ys (a : Fin 16) : Fin 1024 → EReal := mixed (fun i => x1 (ix2 a i)) (fun k => x3 (ix2 a k) * x5 (ix2 a k)) (wOut x6)

theorem row_prompt (a : Fin 512) (j : Fin 1024) : k0_pay4 x2 x4 x0 x6 (ix2 a j) = yp x0 x2 x4 x6 a j := by
  unfold k0_pay4 yp mixed wOut; pointwise
theorem row_sample (a : Fin 16) (j : Fin 1024) : k0_pay5 x3 x5 x1 x6 (ix2 a j) = ys x1 x3 x5 x6 a j := by
  unfold k0_pay5 ys mixed wOut; pointwise

theorem norm_prompt (a : Fin 512) (j : Fin 1024) :
    k0_pay7 (k0_pay6 x2 x4 x0 x6 x7) (ix2 a j) = rms (fun i => k0_pay4 x2 x4 x0 x6 (ix2 a i)) (gain x7) j := by
  unfold k0_pay7 k0_pay6; generalize k0_pay4 x2 x4 x0 x6 = y; unfold rms gain; pointwise
theorem norm_sample (y : Vec Ideal S16x1024 .f32) (a : Fin 16) (j : Fin 1024) :
    k0_pay8 y x7 (ix2 a j) = rms (fun i => y (ix2 a i)) (gain x7) j := by
  unfold k0_pay8 rms gain; pointwise

theorem norm_blk (v : View sig .tc .vmem S528x1024 .bf16) :
    v.readCov (Val := Elt Ideal) [⟨Rect.unit ![512, 0] ![16, 1024] inb_S528x1024_S16x1024_512_0, k0_pay8 (k0_pay5 x3 x5 x1 x6) x7⟩,
        ⟨Rect.unit ![0, 0] ![512, 1024] inb_S528x1024_S512x1024_0_0, k0_pay7 (k0_pay6 x2 x4 x0 x6 x7)⟩]
      (Rect.unit ![0, 0] ![528, 1024] inb_S528x1024_S528x1024_0_0).toLoadRect = normBlk (yp x0 x2 x4 x6) (ys x1 x3 x5 x6) (gain x7) := by
  refine norm_read _ _ _ _ _ (fun a j => ?_) (fun a j => ?_) v
  · refine (norm_prompt x0 x2 x4 x6 x7 a j).trans ?_
    simp only [row_prompt]
  · refine (norm_sample x7 _ a j).trans ?_
    simp only [row_sample]

theorem out_prompt (y : Vec Ideal S512x1024 .f32) (h : Vec Ideal S528x2816 .bf16) (a : Fin 512) (j : Fin 1024) :
    k0_pay2 y h x9 (ix2 a j)
      = y (ix2 a j) + Ideal.ofBits FTy.f32 0x3F000000#32 * ∑ k : Fin 2816, h (ix2 (⟨a.val, by omega⟩ : Fin 528) k) * wDown x9 k j := by
  unfold k0_pay2 k0_pay1 wDown; pointwise
theorem out_sample (y : Vec Ideal S16x1024 .f32) (h : Vec Ideal S528x2816 .bf16) (a : Fin 16) (j : Fin 1024) :
    k0_pay3 y h x9 (ix2 a j)
      = y (ix2 a j) + Ideal.ofBits FTy.f32 0x3F000000#32 * ∑ k : Fin 2816, h (ix2 (⟨512 + a.val, by omega⟩ : Fin 528) k) * wDown x9 k j := by
  unfold k0_pay3 k0_pay1 wDown; pointwise

/-! ## The stages as the kernel names them -/

section Stages
variable (xn : Vec Ideal S528x1024 .bf16) (wa wb : Vec Ideal S1x1x1024x256 .bf16)

theorem stage_0 : k0_pay12 (k0_pay9 xn wa) (k0_pay10 xn wb) (k0_pay11 xn wa) (FloatOps.ofBits (F := Ideal) FTy.f32 0x3F800000#32) = Cert.TailIdeal.Gen.k0_pay7 xn wa wb := rfl
theorem stage_1 : k0_pay13 xn wa wb = Cert.TailIdeal.Gen.k0_pay7 xn wa wb := rfl
theorem stage_2 : k0_pay16 xn (k0_pay14 xn wa) (k0_pay15 wb) = Cert.TailIdeal.Gen.k0_pay7 xn wa wb := rfl
theorem stage_3 : k0_pay17 xn wa wb = Cert.TailIdeal.Gen.k0_pay7 xn wa wb := rfl
theorem stage_4 : k0_pay18 xn wa wb = Cert.TailIdeal.Gen.k0_pay7 xn wa wb := rfl
theorem stage_5 : k0_pay20 (k0_pay19 xn wa wb) = Cert.TailIdeal.Gen.k0_pay7 xn wa wb := rfl
theorem stage_6 : k0_pay21 xn wa wb = Cert.TailIdeal.Gen.k0_pay7 xn wa wb := rfl
theorem stage_7 : k0_pay25 (k0_pay22 xn wa) (k0_pay23 xn wb) (k0_pay24 xn wa) = Cert.TailIdeal.Gen.k0_pay7 xn wa wb := rfl
theorem stage_8 : k0_pay26 xn wa wb = Cert.TailIdeal.Gen.k0_pay7 xn wa wb := rfl
theorem stage_9 : k0_pay28 xn (k0_pay27 xn wa) wb = Cert.TailIdeal.Gen.k0_pay7 xn wa wb := rfl
theorem stage_10 : k0_pay29 xn wa wb = Cert.TailIdeal.Gen.k0_pay7 xn wa wb := rfl

end Stages

/-! ## The output blocks -/

theorem point_prompt (t : Fin cfg0.N) (a : Fin 512) (j : Fin 1024) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t)
      scM0_0 (Memref.isWhole_whole _) scM0_1 (Memref.isWhole_whole _) x0 x1 x2 x3 x4 x5 x6 x7 x8 x9 (ix2 a j)
      = step (yp x0 x2 x4 x6 a) (gain x7) (wUp x8) (wDown x9) j := by
  frame_open
  simp (disch := decide) only [↓ View.readCov_skip, ↓ View.readCov_cons_toLoadRect, ↓ View.readCov_fill, stage_0, stage_1, stage_2, stage_3, stage_4, stage_5, stage_6, stage_7, stage_8, stage_9, stage_10, norm_blk]
  frame_out
  refine (congrArg (fun h => k0_pay2 (k0_pay4 x2 x4 x0 x6) h x9 (ix2 a j)) (hid_read (normBlk (yp x0 x2 x4 x6) (ys x1 x3 x5 x6) (gain x7)) x8 _)).trans ?_
  refine (out_prompt x9 _ _ a j).trans ?_
  rw [row_prompt]
  exact step_prompt (yp x0 x2 x4 x6) (ys x1 x3 x5 x6) (gain x7) x8 x9 a j

theorem point_sample (t : Fin cfg0.N) (a : Fin 16) (j : Fin 1024) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) (ms0_10 t) (hs0_10 t) (ms0_11 t) (hs0_11 t)
      scM0_0 (Memref.isWhole_whole _) scM0_1 (Memref.isWhole_whole _) x0 x1 x2 x3 x4 x5 x6 x7 x8 x9 (ix2 a j)
      = step (ys x1 x3 x5 x6 a) (gain x7) (wUp x8) (wDown x9) j := by
  frame_open
  simp (disch := decide) only [↓ View.readCov_skip, ↓ View.readCov_cons_toLoadRect, ↓ View.readCov_fill, stage_0, stage_1, stage_2, stage_3, stage_4, stage_5, stage_6, stage_7, stage_8, stage_9, stage_10, norm_blk]
  frame_out
  refine (congrArg (fun h => k0_pay3 (k0_pay5 x3 x5 x1 x6) h x9 (ix2 a j)) (hid_read (normBlk (yp x0 x2 x4 x6) (ys x1 x3 x5 x6) (gain x7)) x8 _)).trans ?_
  refine (out_sample x9 _ _ a j).trans ?_
  rw [row_sample]
  exact step_sample (yp x0 x2 x4 x6) (ys x1 x3 x5 x6) (gain x7) x8 x9 a j

end Cert.Net.Gated

end
-- ==== Proof.MixArray.lean ====
module

public import proofs.«01_k».proof.Proof.MixPoint
public import proofs.«01_k».proof.Proof.Gen.MixIdeal.Value
public import Idealize.ShloMosaic.Lib.Pipeline.ValueKit.Partial
public import Idealize.ShloMosaic.Lib.StableHlo.ReadAt

@[expose] public section

/-! The two arrays of a retention layer's end after the run. -/

set_option maxRecDepth 16384

noncomputable section

namespace Cert.Net.Gated

open Idealize.ShloMosaic Idealize.ShloMosaic.TcCoe Idealize.ShloMosaic.Tactic Cert.MixIdeal Cert.MixIdeal.Gen Cert.Net.Half

variable (m : (ℓ : Loc nD τ sig) → Buf (Elt Ideal) ℓ) (c : Dev nD)

/-- The arguments, as launched. -/
abbrev aXp : S16384x1024.Idx → EReal := m ((c : Thread nD τ).loc main_arg0)
abbrev aXs : S512x1024.Idx → EReal := m ((c : Thread nD τ).loc main_arg1)
abbrev aOp : S16384x2048.Idx → EReal := m ((c : Thread nD τ).loc main_arg2)
abbrev aOs : S512x2048.Idx → EReal := m ((c : Thread nD τ).loc main_arg3)
abbrev aGp : S16384x2048.Idx → EReal := m ((c : Thread nD τ).loc main_arg4)
abbrev aGs : S512x2048.Idx → EReal := m ((c : Thread nD τ).loc main_arg5)
abbrev aOut : S2x2048x1024.Idx → EReal := m ((c : Thread nD τ).loc main_arg6)
abbrev aGain : S4x3x1024.Idx → EReal := m ((c : Thread nD τ).loc main_arg7)
abbrev aUp : S4x2x1024x5632.Idx → EReal := m ((c : Thread nD τ).loc main_arg8)
abbrev aDown : S4x2x2816x1024.Idx → EReal := m ((c : Thread nD τ).loc main_arg9)

theorem idx_0 (t : Fin cfg0.N) : win0_0.index t = ![t.val, 0] := by revert t; decide +kernel
theorem idx_1 (t : Fin cfg0.N) : win0_1.index t = ![t.val, 0] := by revert t; decide +kernel
theorem idx_2 (t : Fin cfg0.N) : win0_2.index t = ![t.val, 0] := by revert t; decide +kernel
theorem idx_3 (t : Fin cfg0.N) : win0_3.index t = ![t.val, 0] := by revert t; decide +kernel
theorem idx_4 (t : Fin cfg0.N) : win0_4.index t = ![t.val, 0] := by revert t; decide +kernel
theorem idx_5 (t : Fin cfg0.N) : win0_5.index t = ![t.val, 0] := by revert t; decide +kernel
theorem idx_6 (t : Fin cfg0.N) : win0_6.index t = ![1, 0, 0] := by revert t; decide +kernel
theorem idx_7 (t : Fin cfg0.N) : win0_7.index t = ![2, 2, 0, 0] := by revert t; decide +kernel
theorem idx_8 (t : Fin cfg0.N) : win0_8.index t = ![2, 1, 0, 0] := by revert t; decide +kernel
theorem idx_9 (t : Fin cfg0.N) : win0_9.index t = ![2, 1, 0, 0] := by revert t; decide +kernel
theorem idx_10 (t : Fin cfg0.N) : win0_10.index t = ![t.val, 0] := by revert t; decide +kernel
theorem idx_11 (t : Fin cfg0.N) : win0_11.index t = ![t.val, 0] := by revert t; decide +kernel

theorem iblk_0 (t : Fin cfg0.N) (a : Fin 512) (b : Fin 1024) :
    iblk m c 0 t (ix2 a b) = aXp m c (ix2 (⟨t.val * 512 + a.val, by have hN : t.val < 32 := t.isLt; omega⟩ : Fin 16384) b) := by
  have hN : t.val < 32 := t.isLt
  blk_ext [iblk, V_main_arg0, idx_0 t]
theorem iblk_1 (t : Fin cfg0.N) (a : Fin 16) (b : Fin 1024) :
    iblk m c 1 t (ix2 a b) = aXs m c (ix2 (⟨t.val * 16 + a.val, by have hN : t.val < 32 := t.isLt; omega⟩ : Fin 512) b) := by
  have hN : t.val < 32 := t.isLt
  blk_ext [iblk, V_main_arg1, idx_1 t]
theorem iblk_2 (t : Fin cfg0.N) (a : Fin 512) (b : Fin 2048) :
    iblk m c 2 t (ix2 a b) = aOp m c (ix2 (⟨t.val * 512 + a.val, by have hN : t.val < 32 := t.isLt; omega⟩ : Fin 16384) b) := by
  have hN : t.val < 32 := t.isLt
  blk_ext [iblk, V_main_arg2, idx_2 t]
theorem iblk_3 (t : Fin cfg0.N) (a : Fin 16) (b : Fin 2048) :
    iblk m c 3 t (ix2 a b) = aOs m c (ix2 (⟨t.val * 16 + a.val, by have hN : t.val < 32 := t.isLt; omega⟩ : Fin 512) b) := by
  have hN : t.val < 32 := t.isLt
  blk_ext [iblk, V_main_arg3, idx_3 t]
theorem iblk_4 (t : Fin cfg0.N) (a : Fin 512) (b : Fin 2048) :
    iblk m c 4 t (ix2 a b) = aGp m c (ix2 (⟨t.val * 512 + a.val, by have hN : t.val < 32 := t.isLt; omega⟩ : Fin 16384) b) := by
  have hN : t.val < 32 := t.isLt
  blk_ext [iblk, V_main_arg4, idx_4 t]
theorem iblk_5 (t : Fin cfg0.N) (a : Fin 16) (b : Fin 2048) :
    iblk m c 5 t (ix2 a b) = aGs m c (ix2 (⟨t.val * 16 + a.val, by have hN : t.val < 32 := t.isLt; omega⟩ : Fin 512) b) := by
  have hN : t.val < 32 := t.isLt
  blk_ext [iblk, V_main_arg5, idx_5 t]
theorem out_blk (t : Fin cfg0.N) : wOut (iblk m c 6 t) = outOf (aOut m c) 1 := by
  have e : ∀ k j, iblk m c 6 t (ix3 0 k j) = V m c main_v2 (ix3 1 k j) := fun k j => by blk_ext [iblk, idx_6 t]
  funext k j
  refine (e k j).trans ?_
  unfold V
  after_reads_at
  rfl
theorem gain_blk (t : Fin cfg0.N) : gain (iblk m c 7 t) = gainOf (aGain m c) 2 2 := by
  have e : ∀ j, iblk m c 7 t (ix4 0 0 0 j) = V m c main_v3 (ix4 2 2 0 j) := fun j => by blk_ext [iblk, idx_7 t]
  funext j
  refine (e j).trans ?_
  unfold V
  after_reads_at
  unfold gainOf
  pointwise
theorem up_blk (t : Fin cfg0.N) : wUp (iblk m c 8 t) = upOf (aUp m c) 2 1 := by
  have e : ∀ j k, iblk m c 8 t (ix4 0 0 j k) = V m c main_v0 (ix4 2 1 j k) := fun j k => by blk_ext [iblk, idx_8 t]
  funext j k
  refine (e j k).trans ?_
  unfold V
  after_reads_at
  rfl
theorem down_blk (t : Fin cfg0.N) : wDown (iblk m c 9 t) = downOf (aDown m c) 2 1 := by
  have e : ∀ j k, iblk m c 9 t (ix4 0 0 j k) = V m c main_v1 (ix4 2 1 j k) := fun j k => by blk_ext [iblk, idx_9 t]
  funext j k
  refine (e j k).trans ?_
  unfold V
  after_reads_at
  rfl

/-- The rows of `X`, with the mixer's outputs `O` gated by `G`, at the end of the layer. -/
def endArr {n : ℕ} (X : (⟨2, ![n, 1024]⟩ : Shape).Idx → EReal) (O G : (⟨2, ![n, 2048]⟩ : Shape).Idx → EReal) (i : (⟨2, ![n, 1024]⟩ : Shape).Idx) : EReal :=
  step (mixed (fun e => X (ix2 (i 0) e)) (fun k => O (ix2 (i 0) k) * G (ix2 (i 0) k)) (outOf (aOut m c) 1))
    (gainOf (aGain m c) 2 2) (upOf (aUp m c) 2 1) (downOf (aDown m c) 2 1) (i 1)

theorem arr10 : (dats m 0 c).arrAt 10 cfg0.N = endArr m c (aXp m c) (aOp m c) (aGp m c) := by
  refine (dats m 0 c).arrAt_eq_of_covers 10 _ (by decide +kernel) fun t hf y => ?_
  have hN : t.val < 32 := t.isLt
  obtain ⟨a, j, rfl⟩ : ∃ (a : Fin 512) (j : Fin 1024), y = ix2 a j := ⟨_, _, eq_ix2 y⟩
  have e : ((cfg0.win 10).blk t).view.emb (ix2 a j) = ix2 (⟨t.val * 512 + a.val, by omega⟩ : Fin 16384) j := by
    blk_ext [idx_10 t]
  rw [e]
  blk_simp
  rw [after0_10]
  simp only [outsAt0]
  refine (point_prompt c _ _ _ _ _ _ _ _ _ _ t a j).trans ?_
  unfold yp
  rw [out_blk, gain_blk, up_blk, down_blk]
  simp only [iblk_0, iblk_2, iblk_4]
  rfl

theorem arr11 : (dats m 0 c).arrAt 11 cfg0.N = endArr m c (aXs m c) (aOs m c) (aGs m c) := by
  refine (dats m 0 c).arrAt_eq_of_covers 11 _ (by decide +kernel) fun t hf y => ?_
  have hN : t.val < 32 := t.isLt
  obtain ⟨a, j, rfl⟩ : ∃ (a : Fin 16) (j : Fin 1024), y = ix2 a j := ⟨_, _, eq_ix2 y⟩
  have e : ((cfg0.win 11).blk t).view.emb (ix2 a j) = ix2 (⟨t.val * 16 + a.val, by omega⟩ : Fin 512) j := by
    blk_ext [idx_11 t]
  rw [e]
  blk_simp
  rw [after0_11]
  simp only [outsAt0]
  refine (point_sample c _ _ _ _ _ _ _ _ _ _ t a j).trans ?_
  unfold ys
  rw [out_blk, gain_blk, up_blk, down_blk]
  simp only [iblk_1, iblk_3, iblk_5]
  rfl

end Cert.Net.Gated

end
-- ==== Proof.MixRef.lean ====
module

public import proofs.«01_k».proof.Proof.Net
public import proofs.«01_k».proof.Proof.Gen.MixRefIdeal.Read
public import Idealize.ShloMosaic.Lib.Pointwise

@[expose] public section

/-! The reference of a retention layer's end, read row by row. -/

set_option maxRecDepth 16384

noncomputable section

namespace Cert.Net.GatedRef

open Idealize.ShloMosaic Idealize.ShloMosaic.TcCoe Idealize.ShloMosaic.Tactic Cert.MixRefIdeal Cert.MixRefIdeal.Gen Cert.MixRefIdeal.Read

variable (x0 : (⟨2, ![16384, 1024]⟩ : Shape).Idx → EReal) (x1 : (⟨2, ![512, 1024]⟩ : Shape).Idx → EReal)
  (x2 : (⟨2, ![16384, 2048]⟩ : Shape).Idx → EReal) (x3 : (⟨2, ![512, 2048]⟩ : Shape).Idx → EReal)
  (x4 : (⟨2, ![16384, 2048]⟩ : Shape).Idx → EReal) (x5 : (⟨2, ![512, 2048]⟩ : Shape).Idx → EReal) (x6 : (⟨3, ![2, 2048, 1024]⟩ : Shape).Idx → EReal)
  (x7 : (⟨3, ![4, 3, 1024]⟩ : Shape).Idx → EReal) (x8 : (⟨4, ![4, 2, 1024, 5632]⟩ : Shape).Idx → EReal) (x9 : (⟨4, ![4, 2, 2816, 1024]⟩ : Shape).Idx → EReal)

/-! ## The prompt -/

/-- A row with its gated mixer's projection. -/
def yp (a : Fin 16384) : Fin 1024 → EReal := mixed (fun e => x0 (ix2 a e)) (fun k => x2 (ix2 a k) * x4 (ix2 a k)) (outOf x6 1)

theorem m6 (a : Fin 16384) (j : Fin 1024) : val_main_v6 (F := Ideal) x0 x2 x4 x6 (ix2 a j) = yp x0 x2 x4 x6 a j := by
  rw [val_main_v6_apply, val_main_v5_apply]
  refine congrArg (fun z : EReal => x0 (ix2 a j) + z) (Finset.sum_congr rfl fun k _ => congrArg₂ (fun y z : EReal => y * z) ?_ ?_)
  · have e : lidx_main_v5 (ix2 a j) k = ix2 a k := funext fun b => match b with | 0 => rfl | 1 => rfl
    rw [val_main_v2_apply, val_main_v0_apply, val_main_v1_apply, e]
    exact mul_comm _ _
  · rw [val_main_v4_apply, val_main_v3_apply]
    refine congrArg x6 (funext fun b => Fin.ext ?_)
    match b with
    | 0 => rfl
    | 1 => exact mat_row k j
    | 2 => exact mat_col k j

theorem n21 (a : Fin 16384) (j : Fin 1024) : val_main_v21 (F := Ideal) x0 x2 x4 x6 x7 (ix2 a j) = rms (yp x0 x2 x4 x6 a) (gainOf x7 2 2) j := by
  have e1 : ∀ x, idx_main_v10 (idx_main_v11 (idx_main_v17 (ix2 a j))) x = ix2 a x := fun x => funext fun b => match b with | 0 => rfl | 1 => rfl
  have e2 : idx_main_v7 (idx_main_v8 (idx_main_v19 (idx_main_v20 (ix2 a j)))) = ix3 2 2 j :=
    funext fun b => match b with | 0 => rfl | 1 => rfl | 2 => Fin.ext (Nat.mod_eq_of_lt j.isLt)
  simp only [val_main_v21_apply, val_main_v18_apply, val_main_v17_apply, val_main_v16_apply, val_main_v15_apply, val_main_v13_apply, val_main_v11_apply,
    val_main_v10_apply, val_main_v9_apply, val_main_v12_apply, val_main_v14_apply, val_main_v20_apply, val_main_v19_apply, val_main_v8_apply, val_main_v7_apply,
    val_main_cst_apply, val_main_cst_0_apply, val_main_cst_1_apply, Retention.f32_0, EReal.coe_zero, zero_add, e1, e2, m6]
  rfl

theorem u26 (a : Fin 16384) (k : Fin 5632) :
    val_main_v26 (F := Ideal) x0 x2 x4 x6 x7 x8 (ix2 a k) = ∑ j, rms (yp x0 x2 x4 x6 a) (gainOf x7 2 2) j * upOf x8 2 1 j k := by
  rw [val_main_v26_apply]
  refine Finset.sum_congr rfl fun j _ => congrArg₂ (fun y z : EReal => y * z) ?_ ?_
  · refine Eq.trans (congrArg _ ?_) (n21 x0 x2 x4 x6 x7 a j)
    exact funext fun b => match b with | 0 => rfl | 1 => rfl
  · rw [val_main_v23_apply, val_main_v22_apply]
    refine congrArg x8 (funext fun b => Fin.ext ?_)
    match b with
    | 0 => rfl
    | 1 => rfl
    | 2 => exact mat_row j k
    | 3 => exact mat_col j k

theorem h30 (a : Fin 16384) (k : Fin 2816) :
    val_main_v30 (F := Ideal) x0 x2 x4 x6 x7 x8 (ix2 a k) = hid (rms (yp x0 x2 x4 x6 a) (gainOf x7 2 2)) (upOf x8 2 1) k := by
  have e1 : idx_main_v27 (ix2 a k) = ix2 a (⟨k.val, by omega⟩ : Fin 5632) := funext fun b => match b with | 0 => rfl | 1 => rfl
  have e2 : idx_main_v28 (ix2 a k) = ix2 a (⟨2816 + k.val, by omega⟩ : Fin 5632) := funext fun b => match b with | 0 => rfl | 1 => rfl
  simp only [val_main_v30_apply, val_main_v29_apply, val_main_v28_apply, val_main_v27_apply, val_main_call0_v5_apply, val_main_call0_v4_apply, val_main_call0_v3_apply,
    val_main_call0_v2_apply, val_main_call0_v1_apply, val_main_call0_v0_apply, val_main_call0_cst_apply, val_main_call0_cst_0_apply, e1, e2, u26, Retention.f32_1]
  rfl

theorem s34 (a : Fin 16384) (j : Fin 1024) :
    val_main_v34 (F := Ideal) x0 x2 x4 x6 x7 x8 x9 (ix2 a j) = step (yp x0 x2 x4 x6 a) (gainOf x7 2 2) (upOf x8 2 1) (downOf x9 2 1) j := by
  simp only [val_main_v34_apply, val_main_v33_apply, val_main_v32_apply, val_main_cst_2_apply, val_main_v31_apply, m6]
  refine congrArg (fun z : EReal => yp x0 x2 x4 x6 a j + Ideal.ofBits FTy.f32 0x3F000000#32 * z) (Finset.sum_congr rfl fun k _ => congrArg₂ (fun y z : EReal => y * z) ?_ ?_)
  · refine Eq.trans (congrArg _ ?_) (h30 x0 x2 x4 x6 x7 x8 a k)
    exact funext fun b => match b with | 0 => rfl | 1 => rfl
  · rw [val_main_v25_apply, val_main_v24_apply]
    refine congrArg x9 (funext fun b => Fin.ext ?_)
    match b with
    | 0 => rfl
    | 1 => rfl
    | 2 => exact mat_row k j
    | 3 => exact mat_col k j

/-! ## The sample -/

/-- A row with its gated mixer's projection. -/
def ys (a : Fin 512) : Fin 1024 → EReal := mixed (fun e => x1 (ix2 a e)) (fun k => x3 (ix2 a k) * x5 (ix2 a k)) (outOf x6 1)

theorem m41 (a : Fin 512) (j : Fin 1024) : val_main_v41 (F := Ideal) x1 x3 x5 x6 (ix2 a j) = ys x1 x3 x5 x6 a j := by
  rw [val_main_v41_apply, val_main_v40_apply]
  refine congrArg (fun z : EReal => x1 (ix2 a j) + z) (Finset.sum_congr rfl fun k _ => congrArg₂ (fun y z : EReal => y * z) ?_ ?_)
  · have e : lidx_main_v40 (ix2 a j) k = ix2 a k := funext fun b => match b with | 0 => rfl | 1 => rfl
    rw [val_main_v37_apply, val_main_v35_apply, val_main_v36_apply, e]
    exact mul_comm _ _
  · rw [val_main_v39_apply, val_main_v38_apply]
    refine congrArg x6 (funext fun b => Fin.ext ?_)
    match b with
    | 0 => rfl
    | 1 => exact mat_row k j
    | 2 => exact mat_col k j

theorem n56 (a : Fin 512) (j : Fin 1024) : val_main_v56 (F := Ideal) x1 x3 x5 x6 x7 (ix2 a j) = rms (ys x1 x3 x5 x6 a) (gainOf x7 2 2) j := by
  have e1 : ∀ x, idx_main_v45 (idx_main_v46 (idx_main_v52 (ix2 a j))) x = ix2 a x := fun x => funext fun b => match b with | 0 => rfl | 1 => rfl
  have e2 : idx_main_v42 (idx_main_v43 (idx_main_v54 (idx_main_v55 (ix2 a j)))) = ix3 2 2 j :=
    funext fun b => match b with | 0 => rfl | 1 => rfl | 2 => Fin.ext (Nat.mod_eq_of_lt j.isLt)
  simp only [val_main_v56_apply, val_main_v53_apply, val_main_v52_apply, val_main_v51_apply, val_main_v50_apply, val_main_v48_apply, val_main_v46_apply,
    val_main_v45_apply, val_main_v44_apply, val_main_v47_apply, val_main_v49_apply, val_main_v55_apply, val_main_v54_apply, val_main_v43_apply, val_main_v42_apply,
    val_main_cst_3_apply, val_main_cst_4_apply, val_main_cst_5_apply, Retention.f32_0, EReal.coe_zero, zero_add, e1, e2, m41]
  rfl

theorem u61 (a : Fin 512) (k : Fin 5632) :
    val_main_v61 (F := Ideal) x1 x3 x5 x6 x7 x8 (ix2 a k) = ∑ j, rms (ys x1 x3 x5 x6 a) (gainOf x7 2 2) j * upOf x8 2 1 j k := by
  rw [val_main_v61_apply]
  refine Finset.sum_congr rfl fun j _ => congrArg₂ (fun y z : EReal => y * z) ?_ ?_
  · refine Eq.trans (congrArg _ ?_) (n56 x1 x3 x5 x6 x7 a j)
    exact funext fun b => match b with | 0 => rfl | 1 => rfl
  · rw [val_main_v58_apply, val_main_v57_apply]
    refine congrArg x8 (funext fun b => Fin.ext ?_)
    match b with
    | 0 => rfl
    | 1 => rfl
    | 2 => exact mat_row j k
    | 3 => exact mat_col j k

theorem h65 (a : Fin 512) (k : Fin 2816) :
    val_main_v65 (F := Ideal) x1 x3 x5 x6 x7 x8 (ix2 a k) = hid (rms (ys x1 x3 x5 x6 a) (gainOf x7 2 2)) (upOf x8 2 1) k := by
  have e1 : idx_main_v62 (ix2 a k) = ix2 a (⟨k.val, by omega⟩ : Fin 5632) := funext fun b => match b with | 0 => rfl | 1 => rfl
  have e2 : idx_main_v63 (ix2 a k) = ix2 a (⟨2816 + k.val, by omega⟩ : Fin 5632) := funext fun b => match b with | 0 => rfl | 1 => rfl
  simp only [val_main_v65_apply, val_main_v64_apply, val_main_v63_apply, val_main_v62_apply, val_main_call1_v5_apply, val_main_call1_v4_apply, val_main_call1_v3_apply,
    val_main_call1_v2_apply, val_main_call1_v1_apply, val_main_call1_v0_apply, val_main_call1_cst_apply, val_main_call1_cst_0_apply, e1, e2, u61, Retention.f32_1]
  rfl

theorem s69 (a : Fin 512) (j : Fin 1024) :
    val_main_v69 (F := Ideal) x1 x3 x5 x6 x7 x8 x9 (ix2 a j) = step (ys x1 x3 x5 x6 a) (gainOf x7 2 2) (upOf x8 2 1) (downOf x9 2 1) j := by
  simp only [val_main_v69_apply, val_main_v68_apply, val_main_v67_apply, val_main_cst_6_apply, val_main_v66_apply, m41]
  refine congrArg (fun z : EReal => ys x1 x3 x5 x6 a j + Ideal.ofBits FTy.f32 0x3F000000#32 * z) (Finset.sum_congr rfl fun k _ => congrArg₂ (fun y z : EReal => y * z) ?_ ?_)
  · refine Eq.trans (congrArg _ ?_) (h65 x1 x3 x5 x6 x7 x8 a k)
    exact funext fun b => match b with | 0 => rfl | 1 => rfl
  · rw [val_main_v60_apply, val_main_v59_apply]
    refine congrArg x9 (funext fun b => Fin.ext ?_)
    match b with
    | 0 => rfl
    | 1 => rfl
    | 2 => exact mat_row k j
    | 3 => exact mat_col k j

end Cert.Net.GatedRef

end
-- ==== Proof.MixEqual.lean ====
module

public import proofs.«01_k».proof.Defs
public import proofs.«01_k».proof.Proof.MixArray
public import proofs.«01_k».proof.Proof.MixRef
public import proofs.«01_k».proof.Proof.Gen.MixRefIdeal.Run
public import Idealize.ShloMosaic.Lib.Quiescent
public import Idealize.ShloMosaic.Lib.Claim

@[expose] public section

/-! The end of a retention layer: the kernel's two arrays are the reference's, and the reference runs. -/

set_option maxRecDepth 16384

noncomputable section

namespace Cert.Net.Gated

open Idealize.ShloMosaic Idealize.ShloMosaic.StableHlo Idealize.ShloMosaic.TcCoe Idealize.SL.Sem

/-- The reference runs, leaves its arguments, and declares no semaphore. -/
theorem frame_ref : Cert.quiescent_MixRefIdeal := fun m g _ =>
  (θ_run (Cert.MixRefIdeal.defs (F := Ideal)) _ _).mono
    (fun r h => ⟨fun c => (h c).2.2, Idealize.ShloMosaic.sem_eq_zero_of_no_sems (by decide) r.2⟩)
    (Cert.MixRefIdeal.Value.run (F := Ideal) m g)

theorem preserves : Cert.preserves_Mix_MixIdeal := IdealRules.named_const.statement _ _ _ _ _ rfl

theorem equal : Cert.algebraic_MixIdeal_MixRefIdeal := by
  intro m g m' g' _ hargs
  refine ⟨fun c => endArr m c (aXp m c) (aOp m c) (aGp m c), fun c => endArr m c (aXs m c) (aOs m c) (aGs m c), ?_, ?_⟩
  · refine (θ_run (Cert.MixIdeal.defs (F := Ideal)) _ _).mono (fun r h c => ?_) (Cert.MixIdeal.Value.run_blocks (F := Ideal) m g)
    obtain ⟨h0, h1, hrest⟩ := h c
    exact ⟨h0.trans (arr10 m c), h1.trans (arr11 m c), hrest⟩
  · refine (θ_run (Cert.MixRefIdeal.defs (F := Ideal)) _ _).mono (fun r h c => ?_) (Cert.MixRefIdeal.Value.run (F := Ideal) m' g')
    obtain ⟨a0, a1, a2, a3, a4, a5, a6, a7, a8, a9⟩ := hargs c
    obtain ⟨h0, h1, hrest⟩ := h c
    refine ⟨?_, ?_, hrest⟩
    · refine (h0.trans (Cert.MixRefIdeal.Read.val_main_v34_eq m' c)).trans ?_
      rw [a0, a2, a4, a6, a7, a8, a9]
      funext i
      exact (congrArg _ (eq_ix2 i)).trans (GatedRef.s34 (aXp m c) (aOp m c) (aGp m c) (aOut m c) (aGain m c) (aUp m c) (aDown m c) (i 0) (i 1))
    · refine (h1.trans (Cert.MixRefIdeal.Read.val_main_v69_eq m' c)).trans ?_
      rw [a1, a3, a5, a6, a7, a8, a9]
      funext i
      exact (congrArg _ (eq_ix2 i)).trans (GatedRef.s69 (aXs m c) (aOs m c) (aGs m c) (aOut m c) (aGain m c) (aUp m c) (aDown m c) (i 0) (i 1))

end Cert.Net.Gated

end
-- ==== Proof.MidPoint.lean ====
module

public import proofs.«01_k».proof.Proof.Half
public import proofs.«01_k».proof.Proof.Gen.MidIdeal.Frame

@[expose] public section

/-! What one grid point of the end of an hgrn layer leaves in its blocks: every row with its mixer's projection added, after its
    half step. -/

set_option maxRecDepth 16384

noncomputable section

namespace Cert.Net.Mid

open Idealize.ShloMosaic Idealize.ShloMosaic.TcCoe Idealize.ShloMosaic.Tactic Cert.MidIdeal Cert.MidIdeal.Gen Cert.Net.Half

variable (c : Dev nD) (x0 : Vec Ideal S512x1024 .f32) (x1 : Vec Ideal S16x1024 .f32) (x2 : Vec Ideal S512x1024 .bf16) (x3 : Vec Ideal S16x1024 .bf16)
  (x4 : Vec Ideal S1x1024x1024 .bf16) (x5 : Vec Ideal S1x1x1x1024 .f32) (x6 : Vec Ideal S1x1x1024x5632 .bf16) (x7 : Vec Ideal S1x1x2816x1024 .bf16)

/-- The output projection, by its coordinates. -/
def wOut (k j : Fin 1024) : EReal := x4 (ix3 0 k j)

/-- The rows with their mixers' projections. -/
def yp (a : Fin 512) : Fin 1024 → EReal := mixed (fun i => x0 (ix2 a i)) (fun k => x2 (ix2 a k)) (wOut x4)
def ys (a : Fin 16) : Fin 1024 → EReal := mixed (fun i => x1 (ix2 a i)) (fun k => x3 (ix2 a k)) (wOut x4)

theorem row_prompt (a : Fin 512) (j : Fin 1024) :
    k0_pay4 x2 x0 x4 (ix2 a j) = yp x0 x2 x4 a j := by
  unfold k0_pay4 yp mixed wOut; pointwise
theorem row_sample (a : Fin 16) (j : Fin 1024) :
    k0_pay5 x3 x1 x4 (ix2 a j) = ys x1 x3 x4 a j := by
  unfold k0_pay5 ys mixed wOut; pointwise

theorem norm_prompt (a : Fin 512) (j : Fin 1024) :
    k0_pay6 x2 x0 x4 x5 (ix2 a j) = rms (fun i => k0_pay4 x2 x0 x4 (ix2 a i)) (gain x5) j := by
  unfold k0_pay6; generalize k0_pay4 x2 x0 x4 = y; unfold rms gain; pointwise
theorem norm_sample (y : Vec Ideal S16x1024 .f32) (a : Fin 16) (j : Fin 1024) :
    k0_pay7 y x5 (ix2 a j) = rms (fun i => y (ix2 a i)) (gain x5) j := by
  unfold k0_pay7 rms gain; pointwise

theorem norm_blk (v : View sig .tc .vmem S528x1024 .bf16) :
    v.readCov (Val := Elt Ideal) [⟨Rect.unit ![512, 0] ![16, 1024] inb_S528x1024_S16x1024_512_0, k0_pay7 (k0_pay5 x3 x1 x4) x5⟩,
        ⟨Rect.unit ![0, 0] ![512, 1024] inb_S528x1024_S512x1024_0_0, k0_pay6 x2 x0 x4 x5⟩]
      (Rect.unit ![0, 0] ![528, 1024] inb_S528x1024_S528x1024_0_0).toLoadRect = normBlk (yp x0 x2 x4) (ys x1 x3 x4) (gain x5) := by
  refine norm_read _ _ _ _ _ (fun a j => ?_) (fun a j => ?_) v
  · refine (norm_prompt x0 x2 x4 x5 a j).trans ?_
    simp only [row_prompt]
  · refine (norm_sample x5 _ a j).trans ?_
    simp only [row_sample]

theorem out_prompt (y : Vec Ideal S512x1024 .f32) (h : Vec Ideal S528x2816 .bf16) (a : Fin 512) (j : Fin 1024) :
    k0_pay2 y h x7 (ix2 a j)
      = y (ix2 a j) + Ideal.ofBits FTy.f32 0x3F000000#32 * ∑ k : Fin 2816, h (ix2 (⟨a.val, by omega⟩ : Fin 528) k) * wDown x7 k j := by
  unfold k0_pay2 k0_pay1 wDown; pointwise
theorem out_sample (y : Vec Ideal S16x1024 .f32) (h : Vec Ideal S528x2816 .bf16) (a : Fin 16) (j : Fin 1024) :
    k0_pay3 y h x7 (ix2 a j)
      = y (ix2 a j) + Ideal.ofBits FTy.f32 0x3F000000#32 * ∑ k : Fin 2816, h (ix2 (⟨512 + a.val, by omega⟩ : Fin 528) k) * wDown x7 k j := by
  unfold k0_pay3 k0_pay1 wDown; pointwise

/-! ## The stages as the kernel names them -/

section Stages
variable (xn : Vec Ideal S528x1024 .bf16) (wa wb : Vec Ideal S1x1x1024x256 .bf16)

theorem stage_0 : k0_pay9 (k0_pay8 xn wa wb) = Cert.TailIdeal.Gen.k0_pay7 xn wa wb := rfl
theorem stage_1 : k0_pay10 xn wa wb = Cert.TailIdeal.Gen.k0_pay7 xn wa wb := rfl
theorem stage_2 : k0_pay15 (k0_pay11 xn wa) (k0_pay12 xn wb) (k0_pay13 xn wa) (k0_pay14) = Cert.TailIdeal.Gen.k0_pay7 xn wa wb := rfl
theorem stage_3 : k0_pay16 xn wa wb = Cert.TailIdeal.Gen.k0_pay7 xn wa wb := rfl
theorem stage_4 : k0_pay18 xn (k0_pay17 xn wa) wb = Cert.TailIdeal.Gen.k0_pay7 xn wa wb := rfl
theorem stage_5 : k0_pay19 xn wa wb = Cert.TailIdeal.Gen.k0_pay7 xn wa wb := rfl
theorem stage_6 : k0_pay20 xn wa wb = Cert.TailIdeal.Gen.k0_pay7 xn wa wb := rfl
theorem stage_7 : k0_pay23 (k0_pay21 xn wb) (k0_pay22 xn wa) = Cert.TailIdeal.Gen.k0_pay7 xn wa wb := rfl
theorem stage_8 : k0_pay24 xn wa wb = Cert.TailIdeal.Gen.k0_pay7 xn wa wb := rfl
theorem stage_9 : k0_pay27 (k0_pay25 xn wa) (k0_pay26 xn wb) (Named.named (F := Ideal) Cert.MidIdeal.κ "neg_log2e" (φ := .f32) 0xBFB8AA3B#32) = Cert.TailIdeal.Gen.k0_pay7 xn wa wb := rfl
theorem stage_10 : k0_pay28 xn wa wb = Cert.TailIdeal.Gen.k0_pay7 xn wa wb := rfl

end Stages

/-! ## The output blocks -/

theorem point_prompt (t : Fin cfg0.N) (a : Fin 512) (j : Fin 1024) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t)
      scM0_0 (Memref.isWhole_whole _) scM0_1 (Memref.isWhole_whole _) x0 x1 x2 x3 x4 x5 x6 x7 (ix2 a j)
      = step (yp x0 x2 x4 a) (gain x5) (wUp x6) (wDown x7) j := by
  frame_open
  simp (disch := decide) only [↓ View.readCov_skip, ↓ View.readCov_cons_toLoadRect, ↓ View.readCov_fill, stage_0, stage_1, stage_2, stage_3, stage_4, stage_5, stage_6, stage_7, stage_8, stage_9, stage_10, norm_blk]
  frame_out
  refine (congrArg (fun h => k0_pay2 (k0_pay4 x2 x0 x4) h x7 (ix2 a j)) (hid_read (normBlk (yp x0 x2 x4) (ys x1 x3 x4) (gain x5)) x6 _)).trans ?_
  refine (out_prompt x7 _ _ a j).trans ?_
  rw [row_prompt]
  exact step_prompt (yp x0 x2 x4) (ys x1 x3 x4) (gain x5) x6 x7 a j

theorem point_sample (t : Fin cfg0.N) (a : Fin 16) (j : Fin 1024) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t)
      scM0_0 (Memref.isWhole_whole _) scM0_1 (Memref.isWhole_whole _) x0 x1 x2 x3 x4 x5 x6 x7 (ix2 a j)
      = step (ys x1 x3 x4 a) (gain x5) (wUp x6) (wDown x7) j := by
  frame_open
  simp (disch := decide) only [↓ View.readCov_skip, ↓ View.readCov_cons_toLoadRect, ↓ View.readCov_fill, stage_0, stage_1, stage_2, stage_3, stage_4, stage_5, stage_6, stage_7, stage_8, stage_9, stage_10, norm_blk]
  frame_out
  refine (congrArg (fun h => k0_pay3 (k0_pay5 x3 x1 x4) h x7 (ix2 a j)) (hid_read (normBlk (yp x0 x2 x4) (ys x1 x3 x4) (gain x5)) x6 _)).trans ?_
  refine (out_sample x7 _ _ a j).trans ?_
  rw [row_sample]
  exact step_sample (yp x0 x2 x4) (ys x1 x3 x4) (gain x5) x6 x7 a j

end Cert.Net.Mid

end
-- ==== Proof.MidArray.lean ====
module

public import proofs.«01_k».proof.Proof.MidPoint
public import proofs.«01_k».proof.Proof.Gen.MidIdeal.Value
public import Idealize.ShloMosaic.Lib.Pipeline.ValueKit.Partial
public import Idealize.ShloMosaic.Lib.StableHlo.ReadAt

@[expose] public section

/-! The two arrays of layer 1's end after the run. -/

set_option maxRecDepth 16384

noncomputable section

namespace Cert.Net.Mid

open Idealize.ShloMosaic Idealize.ShloMosaic.TcCoe Idealize.ShloMosaic.Tactic Cert.MidIdeal Cert.MidIdeal.Gen Cert.Net.Half

variable (m : (ℓ : Loc nD τ sig) → Buf (Elt Ideal) ℓ) (c : Dev nD)

/-- The arguments, as launched. -/
abbrev aXp : S16384x1024.Idx → EReal := m ((c : Thread nD τ).loc main_arg0)
abbrev aXs : S512x1024.Idx → EReal := m ((c : Thread nD τ).loc main_arg1)
abbrev aOp : S16384x1024.Idx → EReal := m ((c : Thread nD τ).loc main_arg2)
abbrev aOs : S512x1024.Idx → EReal := m ((c : Thread nD τ).loc main_arg3)
abbrev aOut : S2x1024x1024.Idx → EReal := m ((c : Thread nD τ).loc main_arg4)
abbrev aGain : S4x3x1024.Idx → EReal := m ((c : Thread nD τ).loc main_arg5)
abbrev aUp : S4x2x1024x5632.Idx → EReal := m ((c : Thread nD τ).loc main_arg6)
abbrev aDown : S4x2x2816x1024.Idx → EReal := m ((c : Thread nD τ).loc main_arg7)

theorem idx_0 (t : Fin cfg0.N) : win0_0.index t = ![t.val, 0] := by revert t; decide +kernel
theorem idx_1 (t : Fin cfg0.N) : win0_1.index t = ![t.val, 0] := by revert t; decide +kernel
theorem idx_2 (t : Fin cfg0.N) : win0_2.index t = ![t.val, 0] := by revert t; decide +kernel
theorem idx_3 (t : Fin cfg0.N) : win0_3.index t = ![t.val, 0] := by revert t; decide +kernel
theorem idx_4 (t : Fin cfg0.N) : win0_4.index t = ![0, 0, 0] := by revert t; decide +kernel
theorem idx_5 (t : Fin cfg0.N) : win0_5.index t = ![1, 2, 0, 0] := by revert t; decide +kernel
theorem idx_6 (t : Fin cfg0.N) : win0_6.index t = ![1, 1, 0, 0] := by revert t; decide +kernel
theorem idx_7 (t : Fin cfg0.N) : win0_7.index t = ![1, 1, 0, 0] := by revert t; decide +kernel
theorem idx_8 (t : Fin cfg0.N) : win0_8.index t = ![t.val, 0] := by revert t; decide +kernel
theorem idx_9 (t : Fin cfg0.N) : win0_9.index t = ![t.val, 0] := by revert t; decide +kernel

theorem iblk_0 (t : Fin cfg0.N) (a : Fin 512) (b : Fin 1024) :
    iblk m c 0 t (ix2 a b) = aXp m c (ix2 (⟨t.val * 512 + a.val, by have hN : t.val < 32 := t.isLt; omega⟩ : Fin 16384) b) := by
  have hN : t.val < 32 := t.isLt
  blk_ext [iblk, V_main_arg0, idx_0 t]
theorem iblk_1 (t : Fin cfg0.N) (a : Fin 16) (b : Fin 1024) :
    iblk m c 1 t (ix2 a b) = aXs m c (ix2 (⟨t.val * 16 + a.val, by have hN : t.val < 32 := t.isLt; omega⟩ : Fin 512) b) := by
  have hN : t.val < 32 := t.isLt
  blk_ext [iblk, V_main_arg1, idx_1 t]
theorem iblk_2 (t : Fin cfg0.N) (a : Fin 512) (b : Fin 1024) :
    iblk m c 2 t (ix2 a b) = aOp m c (ix2 (⟨t.val * 512 + a.val, by have hN : t.val < 32 := t.isLt; omega⟩ : Fin 16384) b) := by
  have hN : t.val < 32 := t.isLt
  blk_ext [iblk, V_main_arg2, idx_2 t]
theorem iblk_3 (t : Fin cfg0.N) (a : Fin 16) (b : Fin 1024) :
    iblk m c 3 t (ix2 a b) = aOs m c (ix2 (⟨t.val * 16 + a.val, by have hN : t.val < 32 := t.isLt; omega⟩ : Fin 512) b) := by
  have hN : t.val < 32 := t.isLt
  blk_ext [iblk, V_main_arg3, idx_3 t]
theorem out_blk (t : Fin cfg0.N) : wOut (iblk m c 4 t) = outOf (aOut m c) 0 := by
  have e : ∀ k j, iblk m c 4 t (ix3 0 k j) = V m c main_v2 (ix3 0 k j) := fun k j => by blk_ext [iblk, idx_4 t]
  funext k j
  refine (e k j).trans ?_
  unfold V
  after_reads_at
  rfl
theorem gain_blk (t : Fin cfg0.N) : gain (iblk m c 5 t) = gainOf (aGain m c) 1 2 := by
  have e : ∀ j, iblk m c 5 t (ix4 0 0 0 j) = V m c main_v3 (ix4 1 2 0 j) := fun j => by blk_ext [iblk, idx_5 t]
  funext j
  refine (e j).trans ?_
  unfold V
  after_reads_at
  unfold gainOf
  pointwise
theorem up_blk (t : Fin cfg0.N) : wUp (iblk m c 6 t) = upOf (aUp m c) 1 1 := by
  have e : ∀ j k, iblk m c 6 t (ix4 0 0 j k) = V m c main_v0 (ix4 1 1 j k) := fun j k => by blk_ext [iblk, idx_6 t]
  funext j k
  refine (e j k).trans ?_
  unfold V
  after_reads_at
  rfl
theorem down_blk (t : Fin cfg0.N) : wDown (iblk m c 7 t) = downOf (aDown m c) 1 1 := by
  have e : ∀ j k, iblk m c 7 t (ix4 0 0 j k) = V m c main_v1 (ix4 1 1 j k) := fun j k => by blk_ext [iblk, idx_7 t]
  funext j k
  refine (e j k).trans ?_
  unfold V
  after_reads_at
  rfl

/-- The rows of `X`, with the mixer's outputs `O`, at the end of the layer. -/
def endArr {n : ℕ} (X O : (⟨2, ![n, 1024]⟩ : Shape).Idx → EReal) (i : (⟨2, ![n, 1024]⟩ : Shape).Idx) : EReal :=
  step (mixed (fun e => X (ix2 (i 0) e)) (fun k => O (ix2 (i 0) k)) (outOf (aOut m c) 0))
    (gainOf (aGain m c) 1 2) (upOf (aUp m c) 1 1) (downOf (aDown m c) 1 1) (i 1)

theorem arr8 : (dats m 0 c).arrAt 8 cfg0.N = endArr m c (aXp m c) (aOp m c) := by
  refine (dats m 0 c).arrAt_eq_of_covers 8 _ (by decide +kernel) fun t hf y => ?_
  have hN : t.val < 32 := t.isLt
  obtain ⟨a, j, rfl⟩ : ∃ (a : Fin 512) (j : Fin 1024), y = ix2 a j := ⟨_, _, eq_ix2 y⟩
  have e : ((cfg0.win 8).blk t).view.emb (ix2 a j) = ix2 (⟨t.val * 512 + a.val, by omega⟩ : Fin 16384) j := by
    blk_ext [idx_8 t]
  rw [e]
  blk_simp
  rw [after0_8]
  simp only [outsAt0]
  refine (point_prompt c _ _ _ _ _ _ _ _ t a j).trans ?_
  unfold yp
  rw [out_blk, gain_blk, up_blk, down_blk]
  simp only [iblk_0, iblk_2]
  rfl

theorem arr9 : (dats m 0 c).arrAt 9 cfg0.N = endArr m c (aXs m c) (aOs m c) := by
  refine (dats m 0 c).arrAt_eq_of_covers 9 _ (by decide +kernel) fun t hf y => ?_
  have hN : t.val < 32 := t.isLt
  obtain ⟨a, j, rfl⟩ : ∃ (a : Fin 16) (j : Fin 1024), y = ix2 a j := ⟨_, _, eq_ix2 y⟩
  have e : ((cfg0.win 9).blk t).view.emb (ix2 a j) = ix2 (⟨t.val * 16 + a.val, by omega⟩ : Fin 512) j := by
    blk_ext [idx_9 t]
  rw [e]
  blk_simp
  rw [after0_9]
  simp only [outsAt0]
  refine (point_sample c _ _ _ _ _ _ _ _ t a j).trans ?_
  unfold ys
  rw [out_blk, gain_blk, up_blk, down_blk]
  simp only [iblk_1, iblk_3]
  rfl

end Cert.Net.Mid

end
-- ==== Proof.MidRef.lean ====
module

public import proofs.«01_k».proof.Proof.Net
public import proofs.«01_k».proof.Proof.Gen.MidRefIdeal.Read
public import Idealize.ShloMosaic.Lib.Pointwise

@[expose] public section

/-! The reference of the end of an hgrn layer, read row by row. -/

set_option maxRecDepth 16384

noncomputable section

namespace Cert.Net.MidRef

open Idealize.ShloMosaic Idealize.ShloMosaic.TcCoe Idealize.ShloMosaic.Tactic Cert.MidRefIdeal Cert.MidRefIdeal.Gen Cert.MidRefIdeal.Read

variable (x0 : (⟨2, ![16384, 1024]⟩ : Shape).Idx → EReal) (x1 : (⟨2, ![512, 1024]⟩ : Shape).Idx → EReal)
  (x2 : (⟨2, ![16384, 1024]⟩ : Shape).Idx → EReal) (x3 : (⟨2, ![512, 1024]⟩ : Shape).Idx → EReal) (x4 : (⟨3, ![2, 1024, 1024]⟩ : Shape).Idx → EReal)
  (x5 : (⟨3, ![4, 3, 1024]⟩ : Shape).Idx → EReal) (x6 : (⟨4, ![4, 2, 1024, 5632]⟩ : Shape).Idx → EReal) (x7 : (⟨4, ![4, 2, 2816, 1024]⟩ : Shape).Idx → EReal)

/-! ## The prompt -/

/-- A row with its mixer's projection. -/
def yp (a : Fin 16384) : Fin 1024 → EReal := mixed (fun e => x0 (ix2 a e)) (fun k => x2 (ix2 a k)) (outOf x4 0)

theorem m4 (a : Fin 16384) (j : Fin 1024) : val_main_v4 (F := Ideal) x0 x2 x4 (ix2 a j) = yp x0 x2 x4 a j := by
  rw [val_main_v4_apply, val_main_v3_apply]
  refine congrArg (fun z : EReal => x0 (ix2 a j) + z) (Finset.sum_congr rfl fun k _ => congrArg₂ (fun y z : EReal => y * z) ?_ ?_)
  · rw [val_main_v0_apply]
    exact congrArg x2 (funext fun b => match b with | 0 => rfl | 1 => rfl)
  · rw [val_main_v2_apply, val_main_v1_apply]
    refine congrArg x4 (funext fun b => Fin.ext ?_)
    match b with
    | 0 => rfl
    | 1 => exact mat_row k j
    | 2 => exact mat_col k j

theorem n19 (a : Fin 16384) (j : Fin 1024) : val_main_v19 (F := Ideal) x0 x2 x4 x5 (ix2 a j) = rms (yp x0 x2 x4 a) (gainOf x5 1 2) j := by
  have e1 : ∀ x, idx_main_v8 (idx_main_v9 (idx_main_v15 (ix2 a j))) x = ix2 a x := fun x => funext fun b => match b with | 0 => rfl | 1 => rfl
  have e2 : idx_main_v5 (idx_main_v6 (idx_main_v17 (idx_main_v18 (ix2 a j)))) = ix3 1 2 j :=
    funext fun b => match b with | 0 => rfl | 1 => rfl | 2 => Fin.ext (Nat.mod_eq_of_lt j.isLt)
  simp only [val_main_v19_apply, val_main_v16_apply, val_main_v15_apply, val_main_v14_apply, val_main_v13_apply, val_main_v11_apply, val_main_v9_apply,
    val_main_v8_apply, val_main_v7_apply, val_main_v10_apply, val_main_v12_apply, val_main_v18_apply, val_main_v17_apply, val_main_v6_apply, val_main_v5_apply,
    val_main_cst_apply, val_main_cst_0_apply, val_main_cst_1_apply, Retention.f32_0, EReal.coe_zero, zero_add, e1, e2, m4]
  rfl

theorem u24 (a : Fin 16384) (k : Fin 5632) :
    val_main_v24 (F := Ideal) x0 x2 x4 x5 x6 (ix2 a k) = ∑ j, rms (yp x0 x2 x4 a) (gainOf x5 1 2) j * upOf x6 1 1 j k := by
  rw [val_main_v24_apply]
  refine Finset.sum_congr rfl fun j _ => congrArg₂ (fun y z : EReal => y * z) ?_ ?_
  · refine Eq.trans (congrArg _ ?_) (n19 x0 x2 x4 x5 a j)
    exact funext fun b => match b with | 0 => rfl | 1 => rfl
  · rw [val_main_v21_apply, val_main_v20_apply]
    refine congrArg x6 (funext fun b => Fin.ext ?_)
    match b with
    | 0 => rfl
    | 1 => rfl
    | 2 => exact mat_row j k
    | 3 => exact mat_col j k

theorem h28 (a : Fin 16384) (k : Fin 2816) :
    val_main_v28 (F := Ideal) x0 x2 x4 x5 x6 (ix2 a k) = hid (rms (yp x0 x2 x4 a) (gainOf x5 1 2)) (upOf x6 1 1) k := by
  have e1 : idx_main_v25 (ix2 a k) = ix2 a (⟨k.val, by omega⟩ : Fin 5632) := funext fun b => match b with | 0 => rfl | 1 => rfl
  have e2 : idx_main_v26 (ix2 a k) = ix2 a (⟨2816 + k.val, by omega⟩ : Fin 5632) := funext fun b => match b with | 0 => rfl | 1 => rfl
  simp only [val_main_v28_apply, val_main_v27_apply, val_main_v26_apply, val_main_v25_apply, val_main_call0_v5_apply, val_main_call0_v4_apply, val_main_call0_v3_apply,
    val_main_call0_v2_apply, val_main_call0_v1_apply, val_main_call0_v0_apply, val_main_call0_cst_apply, val_main_call0_cst_0_apply, e1, e2, u24, Retention.f32_1]
  rfl

theorem s32 (a : Fin 16384) (j : Fin 1024) :
    val_main_v32 (F := Ideal) x0 x2 x4 x5 x6 x7 (ix2 a j) = step (yp x0 x2 x4 a) (gainOf x5 1 2) (upOf x6 1 1) (downOf x7 1 1) j := by
  simp only [val_main_v32_apply, val_main_v31_apply, val_main_v30_apply, val_main_cst_2_apply, val_main_v29_apply, m4]
  refine congrArg (fun z : EReal => yp x0 x2 x4 a j + Ideal.ofBits FTy.f32 0x3F000000#32 * z) (Finset.sum_congr rfl fun k _ => congrArg₂ (fun y z : EReal => y * z) ?_ ?_)
  · refine Eq.trans (congrArg _ ?_) (h28 x0 x2 x4 x5 x6 a k)
    exact funext fun b => match b with | 0 => rfl | 1 => rfl
  · rw [val_main_v23_apply, val_main_v22_apply]
    refine congrArg x7 (funext fun b => Fin.ext ?_)
    match b with
    | 0 => rfl
    | 1 => rfl
    | 2 => exact mat_row k j
    | 3 => exact mat_col k j

/-! ## The sample -/

/-- A row with its mixer's projection. -/
def ys (a : Fin 512) : Fin 1024 → EReal := mixed (fun e => x1 (ix2 a e)) (fun k => x3 (ix2 a k)) (outOf x4 0)

theorem m37 (a : Fin 512) (j : Fin 1024) : val_main_v37 (F := Ideal) x1 x3 x4 (ix2 a j) = ys x1 x3 x4 a j := by
  rw [val_main_v37_apply, val_main_v36_apply]
  refine congrArg (fun z : EReal => x1 (ix2 a j) + z) (Finset.sum_congr rfl fun k _ => congrArg₂ (fun y z : EReal => y * z) ?_ ?_)
  · rw [val_main_v33_apply]
    exact congrArg x3 (funext fun b => match b with | 0 => rfl | 1 => rfl)
  · rw [val_main_v35_apply, val_main_v34_apply]
    refine congrArg x4 (funext fun b => Fin.ext ?_)
    match b with
    | 0 => rfl
    | 1 => exact mat_row k j
    | 2 => exact mat_col k j

theorem n52 (a : Fin 512) (j : Fin 1024) : val_main_v52 (F := Ideal) x1 x3 x4 x5 (ix2 a j) = rms (ys x1 x3 x4 a) (gainOf x5 1 2) j := by
  have e1 : ∀ x, idx_main_v41 (idx_main_v42 (idx_main_v48 (ix2 a j))) x = ix2 a x := fun x => funext fun b => match b with | 0 => rfl | 1 => rfl
  have e2 : idx_main_v38 (idx_main_v39 (idx_main_v50 (idx_main_v51 (ix2 a j)))) = ix3 1 2 j :=
    funext fun b => match b with | 0 => rfl | 1 => rfl | 2 => Fin.ext (Nat.mod_eq_of_lt j.isLt)
  simp only [val_main_v52_apply, val_main_v49_apply, val_main_v48_apply, val_main_v47_apply, val_main_v46_apply, val_main_v44_apply, val_main_v42_apply,
    val_main_v41_apply, val_main_v40_apply, val_main_v43_apply, val_main_v45_apply, val_main_v51_apply, val_main_v50_apply, val_main_v39_apply, val_main_v38_apply,
    val_main_cst_3_apply, val_main_cst_4_apply, val_main_cst_5_apply, Retention.f32_0, EReal.coe_zero, zero_add, e1, e2, m37]
  rfl

theorem u57 (a : Fin 512) (k : Fin 5632) :
    val_main_v57 (F := Ideal) x1 x3 x4 x5 x6 (ix2 a k) = ∑ j, rms (ys x1 x3 x4 a) (gainOf x5 1 2) j * upOf x6 1 1 j k := by
  rw [val_main_v57_apply]
  refine Finset.sum_congr rfl fun j _ => congrArg₂ (fun y z : EReal => y * z) ?_ ?_
  · refine Eq.trans (congrArg _ ?_) (n52 x1 x3 x4 x5 a j)
    exact funext fun b => match b with | 0 => rfl | 1 => rfl
  · rw [val_main_v54_apply, val_main_v53_apply]
    refine congrArg x6 (funext fun b => Fin.ext ?_)
    match b with
    | 0 => rfl
    | 1 => rfl
    | 2 => exact mat_row j k
    | 3 => exact mat_col j k

theorem h61 (a : Fin 512) (k : Fin 2816) :
    val_main_v61 (F := Ideal) x1 x3 x4 x5 x6 (ix2 a k) = hid (rms (ys x1 x3 x4 a) (gainOf x5 1 2)) (upOf x6 1 1) k := by
  have e1 : idx_main_v58 (ix2 a k) = ix2 a (⟨k.val, by omega⟩ : Fin 5632) := funext fun b => match b with | 0 => rfl | 1 => rfl
  have e2 : idx_main_v59 (ix2 a k) = ix2 a (⟨2816 + k.val, by omega⟩ : Fin 5632) := funext fun b => match b with | 0 => rfl | 1 => rfl
  simp only [val_main_v61_apply, val_main_v60_apply, val_main_v59_apply, val_main_v58_apply, val_main_call1_v5_apply, val_main_call1_v4_apply, val_main_call1_v3_apply,
    val_main_call1_v2_apply, val_main_call1_v1_apply, val_main_call1_v0_apply, val_main_call1_cst_apply, val_main_call1_cst_0_apply, e1, e2, u57, Retention.f32_1]
  rfl

theorem s65 (a : Fin 512) (j : Fin 1024) :
    val_main_v65 (F := Ideal) x1 x3 x4 x5 x6 x7 (ix2 a j) = step (ys x1 x3 x4 a) (gainOf x5 1 2) (upOf x6 1 1) (downOf x7 1 1) j := by
  simp only [val_main_v65_apply, val_main_v64_apply, val_main_v63_apply, val_main_cst_6_apply, val_main_v62_apply, m37]
  refine congrArg (fun z : EReal => ys x1 x3 x4 a j + Ideal.ofBits FTy.f32 0x3F000000#32 * z) (Finset.sum_congr rfl fun k _ => congrArg₂ (fun y z : EReal => y * z) ?_ ?_)
  · refine Eq.trans (congrArg _ ?_) (h61 x1 x3 x4 x5 x6 a k)
    exact funext fun b => match b with | 0 => rfl | 1 => rfl
  · rw [val_main_v56_apply, val_main_v55_apply]
    refine congrArg x7 (funext fun b => Fin.ext ?_)
    match b with
    | 0 => rfl
    | 1 => rfl
    | 2 => exact mat_row k j
    | 3 => exact mat_col k j

end Cert.Net.MidRef

end
-- ==== Proof.MidEqual.lean ====
module

public import proofs.«01_k».proof.Defs
public import proofs.«01_k».proof.Proof.MidArray
public import proofs.«01_k».proof.Proof.MidRef
public import proofs.«01_k».proof.Proof.Gen.MidRefIdeal.Run
public import Idealize.ShloMosaic.Lib.Quiescent
public import Idealize.ShloMosaic.Lib.Claim

@[expose] public section

/-! The end of layer 1: the kernel's two arrays are the reference's, and the reference runs. -/

set_option maxRecDepth 16384

noncomputable section

namespace Cert.Net.Mid

open Idealize.ShloMosaic Idealize.ShloMosaic.StableHlo Idealize.ShloMosaic.TcCoe Idealize.SL.Sem

/-- The reference runs, leaves its arguments, and declares no semaphore. -/
theorem frame_ref : Cert.quiescent_MidRefIdeal := fun m g _ =>
  (θ_run (Cert.MidRefIdeal.defs (F := Ideal)) _ _).mono
    (fun r h => ⟨fun c => (h c).2.2, Idealize.ShloMosaic.sem_eq_zero_of_no_sems (by decide) r.2⟩)
    (Cert.MidRefIdeal.Value.run (F := Ideal) m g)

theorem preserves : Cert.preserves_Mid_MidIdeal := IdealRules.named_const.statement _ _ _ _ _ rfl

theorem equal : Cert.algebraic_MidIdeal_MidRefIdeal := by
  intro m g m' g' _ hargs
  refine ⟨fun c => endArr m c (aXp m c) (aOp m c), fun c => endArr m c (aXs m c) (aOs m c), ?_, ?_⟩
  · refine (θ_run (Cert.MidIdeal.defs (F := Ideal)) _ _).mono (fun r h c => ?_) (Cert.MidIdeal.Value.run_blocks (F := Ideal) m g)
    obtain ⟨h0, h1, hrest⟩ := h c
    exact ⟨h0.trans (arr8 m c), h1.trans (arr9 m c), hrest⟩
  · refine (θ_run (Cert.MidRefIdeal.defs (F := Ideal)) _ _).mono (fun r h c => ?_) (Cert.MidRefIdeal.Value.run (F := Ideal) m' g')
    obtain ⟨a0, a1, a2, a3, a4, a5, a6, a7⟩ := hargs c
    obtain ⟨h0, h1, hrest⟩ := h c
    refine ⟨?_, ?_, hrest⟩
    · refine (h0.trans (Cert.MidRefIdeal.Read.val_main_v32_eq m' c)).trans ?_
      rw [a0, a2, a4, a5, a6, a7]
      funext i
      exact (congrArg _ (eq_ix2 i)).trans (MidRef.s32 (aXp m c) (aOp m c) (aOut m c) (aGain m c) (aUp m c) (aDown m c) (i 0) (i 1))
    · refine (h1.trans (Cert.MidRefIdeal.Read.val_main_v65_eq m' c)).trans ?_
      rw [a1, a3, a4, a5, a6, a7]
      funext i
      exact (congrArg _ (eq_ix2 i)).trans (MidRef.s65 (aXs m c) (aOs m c) (aOut m c) (aGain m c) (aUp m c) (aDown m c) (i 0) (i 1))

end Cert.Net.Mid

end
-- ==== Proof.lean ====
/- The claim, assembled: the programs' frames, the frames of the references, and the equality of each kernel's results with its
   reference's. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Tail.Frame
public import proofs.«01_k».proof.Proof.Gen.TailIdeal.Frame
public import proofs.«01_k».proof.Proof.Gen.TailIdeal.Value
public import proofs.«01_k».proof.Proof.Gen.TailRefIdeal.Run
public import proofs.«01_k».proof.Proof.Gen.TailRefIdeal.Read
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Mid.Frame
public import proofs.«01_k».proof.Proof.Gen.MidIdeal.Frame
public import proofs.«01_k».proof.Proof.Gen.MidIdeal.Value
public import proofs.«01_k».proof.Proof.Gen.MidRefIdeal.Run
public import proofs.«01_k».proof.Proof.Gen.MidRefIdeal.Read
public import proofs.«01_k».proof.Proof.Equal
public import proofs.«01_k».proof.Proof.FfnEqual
public import proofs.«01_k».proof.Proof.TailEqual
public import proofs.«01_k».proof.Proof.MixEqual
public import proofs.«01_k».proof.Proof.MidEqual
public import Idealize.ShloMosaic.Lib.Quiescent
public import Idealize.ShloMosaic.Lib.Claim

@[expose] public section

set_option maxRecDepth 16384

noncomputable section

namespace Cert.Proof

open Idealize.ShloMosaic Idealize.ShloMosaic.StableHlo Idealize.ShloMosaic.TcCoe Idealize.SL.Sem Cert.Retention

/-- The shapes the precondition's operations ask about. -/
theorem preFacts : Cert.Pre_prompt_finite.Facts where
  bitsLt_bf16_f32 := by decide
  bcast_S_S16384x1024 := by decide
  bcast_S_S16384x2048 := by decide

/-- The reference runs, leaves its arguments, and declares no semaphore. -/
theorem frame_ref : Cert.quiescent_ReferenceIdeal := fun m g _ =>
  (θ_run (Cert.ReferenceIdeal.defs (F := Ideal)) _ _).mono
    (fun r h => ⟨fun c => (h c).2.2.2.2, Idealize.ShloMosaic.sem_eq_zero_of_no_sems (by decide) r.2⟩)
    (Cert.ReferenceIdeal.Value.run (F := Ideal) m g)

/-- The same under the precondition. -/
theorem frame_ref_pre [Cert.Pre_prompt_finite.Facts] : Cert.quiescent_ReferenceIdeal_pre_prompt_finite := fun m g _ =>
  (θ_run (Cert.ReferenceIdeal.defs (F := Ideal)) _ _).mono
    (fun r h => ⟨fun c => (h c).2.2.2.2, Idealize.ShloMosaic.sem_eq_zero_of_no_sems (by decide) r.2⟩)
    (Cert.ReferenceIdeal.Value.run (F := Ideal) m g)

/-- Under the precondition the prompt's queries, keys and values are real numbers. -/
theorem pre_real [Cert.Pre_prompt_finite.Facts]
    (m : (ℓ : Loc Cert.KernelIdeal.nD Cert.KernelIdeal.τ Cert.KernelIdeal.sig) → Buf (Elt Ideal) ℓ)
    (h : Cert.Pre_KernelIdeal_prompt_finite m) (c : Dev Cert.KernelIdeal.nD) :
    AllReal (aQ m c) ∧ AllReal (aK m c) ∧ AllReal (aV m c) :=
  ⟨fun i => real_of_lt _ (congrFun (h c).1 i), fun i => real_of_lt _ (congrFun (h c).2.1 i),
    fun i => real_of_lt _ (congrFun (h c).2.2 i)⟩

/-- From finite prompts the kernel's four results are the reference's. -/
theorem equal [Cert.Pre_prompt_finite.Facts] : Cert.algebraic_KernelIdeal_ReferenceIdeal_pre_prompt_finite := by
  intro m g m' g' hpre hargs
  refine ⟨fun c => outArr m c, fun c => stateArr m c, fun c => sOutArr m c, fun c => sStateArr m c, ?_, ?_⟩
  · refine (θ_run (Cert.KernelIdeal.defs (F := Ideal)) _ _).mono (fun r h c => ?_) (Cert.KernelIdeal.Value.run_blocks (F := Ideal) m g)
    obtain ⟨h0, h1, h2, h3, hrest⟩ := h c
    exact ⟨h0.trans (arr17 m c), h1.trans (arr18 m c), h2.trans (arr19 m c), h3.trans (arr20 m c), hrest⟩
  · refine (θ_run (Cert.ReferenceIdeal.defs (F := Ideal)) _ _).mono (fun r h c => ?_) (Cert.ReferenceIdeal.Value.run (F := Ideal) m' g')
    obtain ⟨hQ, hK, hV⟩ := pre_real m hpre c
    obtain ⟨a0, a1, a2, a3, a4, a5, a6, a7, a8, a9⟩ := hargs c
    obtain ⟨h0, h1, h2, h3, hrest⟩ := h c
    refine ⟨?_, ?_, ?_, ?_, hrest⟩
    · refine (h0.trans (Cert.ReferenceIdeal.Read.val_main_v88_eq (launchContents m' c))).trans ?_
      simp only [launchContents_devRef, a0, a1, a2, a6]
      exact result_out m c hQ hK hV
    · refine (h1.trans (Cert.ReferenceIdeal.Read.val_main_v175_eq (launchContents m' c))).trans ?_
      simp only [launchContents_devRef, a1, a2, a8]
      exact result_state m c hK hV
    · refine (h2.trans (Cert.ReferenceIdeal.Read.val_main_v170_eq (launchContents m' c))).trans ?_
      simp only [launchContents_devRef, a3, a4, a5, a6, a7]
      exact result_sample_out m c
    · refine (h3.trans (Cert.ReferenceIdeal.Read.val_main_v180_eq (launchContents m' c))).trans ?_
      simp only [launchContents_devRef, a4, a5, a7, a9]
      exact result_sample_state m c

theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Tail.Gen.facts, Cert.TailIdeal.Gen.facts, Cert.TailRefIdeal.Gen.facts,
    Cert.Mix.Gen.facts, Cert.MixIdeal.Gen.facts, Cert.MixRefIdeal.Gen.facts,
    Cert.Mid.Gen.facts, Cert.MidIdeal.Gen.facts, Cert.MidRefIdeal.Gen.facts, preFacts,
    fun m g _ => Cert.Kernel.Gen.frame m g, fun m g _ => Cert.KernelIdeal.Gen.frame m g,
    fun m g _ => Cert.KernelIdeal.Gen.frame m g, frame_ref, @frame_ref_pre preFacts,
    fun m g _ => Cert.Ffn.Gen.frame m g, fun m g _ => Cert.FfnIdeal.Gen.frame m g, Net.Plain.frame_ref,
    fun m g _ => Cert.Tail.Gen.frame m g, fun m g _ => Cert.TailIdeal.Gen.frame m g, Net.Tail.frame_ref,
    fun m g _ => Cert.Mix.Gen.frame m g, fun m g _ => Cert.MixIdeal.Gen.frame m g, Net.Gated.frame_ref,
    fun m g _ => Cert.Mid.Gen.frame m g, fun m g _ => Cert.MidIdeal.Gen.frame m g, Net.Mid.frame_ref,
    trivial, @equal preFacts, Net.Plain.preserves, Net.Plain.equal, Net.Tail.preserves, Net.Tail.equal, Net.Gated.preserves, Net.Gated.equal,
    Net.Mid.preserves, Net.Mid.equal⟩

end Cert.Proof

end
